-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v322) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x256x56x56 : Shape := ⟨4, ![1, 256, 56, 56]⟩
abbrev S256x1x3x3 : Shape := ⟨4, ![256, 1, 3, 3]⟩
abbrev S256 : Shape := ⟨1, ![256]⟩
abbrev S128x256 : Shape := ⟨2, ![128, 256]⟩
abbrev S128 : Shape := ⟨1, ![128]⟩
abbrev S9x128 : Shape := ⟨2, ![9, 128]⟩
abbrev S9 : Shape := ⟨1, ![9]⟩
abbrev S128x256x3x3 : Shape := ⟨4, ![128, 256, 3, 3]⟩
abbrev S256x256 : Shape := ⟨2, ![256, 256]⟩
abbrev S512x256 : Shape := ⟨2, ![512, 256]⟩
abbrev S512 : Shape := ⟨1, ![512]⟩
abbrev S256x256x3x3 : Shape := ⟨4, ![256, 256, 3, 3]⟩
abbrev S_ : Shape := ⟨0, ![]⟩

class Facts : Prop where
  bcast_S_S1x256x56x56 : S_.BroadcastsInDim S1x256x56x56 (![] : Fin 0 → Fin S1x256x56x56.rank)
  reducesTo_S1x256x56x56_S_d0_1_2_3 : S1x256x56x56.ReducesTo [0, 1, 2, 3] S_
  h_S_ : 0 < S_.numel
  bcast_S_S256x1x3x3 : S_.BroadcastsInDim S256x1x3x3 (![] : Fin 0 → Fin S256x1x3x3.rank)
  reducesTo_S256x1x3x3_S_d0_1_2_3 : S256x1x3x3.ReducesTo [0, 1, 2, 3] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S9x128 : S_.BroadcastsInDim S9x128 (![] : Fin 0 → Fin S9x128.rank)
  reducesTo_S9x128_S_d0_1 : S9x128.ReducesTo [0, 1] S_
  bcast_S_S9 : S_.BroadcastsInDim S9 (![] : Fin 0 → Fin S9.rank)
  reducesTo_S9_S_d0 : S9.ReducesTo [0] S_
  bcast_S_S128x256x3x3 : S_.BroadcastsInDim S128x256x3x3 (![] : Fin 0 → Fin S128x256x3x3.rank)
  reducesTo_S128x256x3x3_S_d0_1_2_3 : S128x256x3x3.ReducesTo [0, 1, 2, 3] S_
  bcast_S_S256x256 : S_.BroadcastsInDim S256x256 (![] : Fin 0 → Fin S256x256.rank)
  reducesTo_S256x256_S_d0_1 : S256x256.ReducesTo [0, 1] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) (main_v51 : IVec S_ 1) (main_v55 : IVec S_ 1) (main_v59 : IVec S_ 1) (main_v63 : IVec S_ 1) : IVec S_ 1 :=
  let main_v64 : IVec S_ 1 := andi main_v3 main_v7
  let main_v65 : IVec S_ 1 := andi main_v64 main_v11
  let main_v66 : IVec S_ 1 := andi main_v65 main_v15
  let main_v67 : IVec S_ 1 := andi main_v66 main_v19
  let main_v68 : IVec S_ 1 := andi main_v67 main_v23
  let main_v69 : IVec S_ 1 := andi main_v68 main_v27
  let main_v70 : IVec S_ 1 := andi main_v69 main_v31
  let main_v71 : IVec S_ 1 := andi main_v70 main_v35
  let main_v72 : IVec S_ 1 := andi main_v71 main_v39
  let main_v73 : IVec S_ 1 := andi main_v72 main_v43
  let main_v74 : IVec S_ 1 := andi main_v73 main_v47
  let main_v75 : IVec S_ 1 := andi main_v74 main_v51
  let main_v76 : IVec S_ 1 := andi main_v75 main_v55
  let main_v77 : IVec S_ 1 := andi main_v76 main_v59
  let main_v78 : IVec S_ 1 := andi main_v77 main_v63
  main_v78

def fn_part3 {F : FTy → Type} [FloatOps F] (main_arg12 : FVec F S256x256 .f32) (main_arg13 : FVec F S256 .f32) (main_arg14 : FVec F S512x256 .f32) (main_arg15 : FVec F S512 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S256x256 .f32 := Host.absf main_arg12
  let main_cst_22 : FVec F S_ .f32 := constant S_ .f32 0x7F800000#32
  let main_v49 : FVec F S256x256 .f32 := broadcastInDim S256x256 ![] bcast_S_S256x256 main_cst_22
  let main_v50 : IVec S256x256 1 := cmpf .olt main_v48 main_v49
  let main_c_23 : IVec S_ 1 := constantI S_ 1 1#1
  let main_v51 : IVec S_ 1 := (fun x v => Host.reduce IntOp.andi x v reducesTo_S256x256_S_d0_1 h_S_) main_v50 main_c_23
  let main_v52 : FVec F S256 .f32 := Host.absf main_arg13
  let main_cst_24 : FVec F S_ .f32 := constant S_ .f32 0x7F800000#32
  let main_v53 : FVec F S256 .f32 := broadcastInDim S256 ![] bcast_S_S256 main_cst_24
  let main_v54 : IVec S256 1 := cmpf .olt main_v52 main_v53
  let main_c_25 : IVec S_ 1 := constantI S_ 1 1#1
  let main_v55 : IVec S_ 1 := (fun x v => Host.reduce IntOp.andi x v reducesTo_S256_S_d0 h_S_) main_v54 main_c_25
  let main_v56 : FVec F S512x256 .f32 := Host.absf main_arg14
  let main_cst_26 : FVec F S_ .f32 := constant S_ .f32 0x7F800000#32
  let main_v57 : FVec F S512x256 .f32 := broadcastInDim S512x256 ![] bcast_S_S512x256 main_cst_26
  let main_v58 : IVec S512x256 1 := cmpf .olt main_v56 main_v57
  let main_c_27 : IVec S_ 1 := constantI S_ 1 1#1
  let main_v59 : IVec S_ 1 := (fun x v => Host.reduce IntOp.andi x v reducesTo_S512x256_S_d0_1 h_S_) main_v58 main_c_27
  let main_v60 : FVec F S512 .f32 := Host.absf main_arg15
  let main_cst_28 : FVec F S_ .f32 := constant S_ .f32 0x7F800000#32
  let main_v61 : FVec F S512 .f32 := broadcastInDim S512 ![] bcast_S_S512 main_cst_28
  let main_v62 : IVec S512 1 := cmpf .olt main_v60 main_v61
  let main_c_29 : IVec S_ 1 := constantI S_ 1 1#1
  let main_v63 : IVec S_ 1 := (fun x v => Host.reduce IntOp.andi x v reducesTo_S512_S_d0 h_S_) main_v62 main_c_29
  fn_part4 (F := F) main_v3 main_v7 main_v11 main_v15 main_v19 main_v23 main_v27 main_v31 main_v35 main_v39 main_v43 main_v47 main_v51 main_v55 main_v59 main_v63

def fn_part2 {F : FTy → Type} [FloatOps F] (main_arg8 : FVec F S128x256x3x3 .f32) (main_arg9 : FVec F S128 .f32) (main_arg10 : FVec F S9x128 .f32) (main_arg11 : FVec F S9 .f32) (main_arg12 : FVec F S256x256 .f32) (main_arg13 : FVec F S256 .f32) (main_arg14 : FVec F S512x256 .f32) (main_arg15 : FVec F S512 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S128x256x3x3 .f32 := Host.absf main_arg8
  let main_cst_14 : FVec F S_ .f32 := constant S_ .f32 0x7F800000#32
  let main_v33 : FVec F S128x256x3x3 .f32 := broadcastInDim S128x256x3x3 ![] bcast_S_S128x256x3x3 main_cst_14
  let main_v34 : IVec S128x256x3x3 1 := cmpf .olt main_v32 main_v33
  let main_c_15 : IVec S_ 1 := constantI S_ 1 1#1
  let main_v35 : IVec S_ 1 := (fun x v => Host.reduce IntOp.andi x v reducesTo_S128x256x3x3_S_d0_1_2_3 h_S_) main_v34 main_c_15
  let main_v36 : FVec F S128 .f32 := Host.absf main_arg9
  let main_cst_16 : FVec F S_ .f32 := constant S_ .f32 0x7F800000#32
  let main_v37 : FVec F S128 .f32 := broadcastInDim S128 ![] bcast_S_S128 main_cst_16
  let main_v38 : IVec S128 1 := cmpf .olt main_v36 main_v37
  let main_c_17 : IVec S_ 1 := constantI S_ 1 1#1
  let main_v39 : IVec S_ 1 := (fun x v => Host.reduce IntOp.andi x v reducesTo_S128_S_d0 h_S_) main_v38 main_c_17
  let main_v40 : FVec F S9x128 .f32 := Host.absf main_arg10
  let main_cst_18 : FVec F S_ .f32 := constant S_ .f32 0x7F800000#32
  let main_v41 : FVec F S9x128 .f32 := broadcastInDim S9x128 ![] bcast_S_S9x128 main_cst_18
  let main_v42 : IVec S9x128 1 := cmpf .olt main_v40 main_v41
  let main_c_19 : IVec S_ 1 := constantI S_ 1 1#1
  let main_v43 : IVec S_ 1 := (fun x v => Host.reduce IntOp.andi x v reducesTo_S9x128_S_d0_1 h_S_) main_v42 main_c_19
  let main_v44 : FVec F S9 .f32 := Host.absf main_arg11
  let main_cst_20 : FVec F S_ .f32 := constant S_ .f32 0x7F800000#32
  let main_v45 : FVec F S9 .f32 := broadcastInDim S9 ![] bcast_S_S9 main_cst_20
  let main_v46 : IVec S9 1 := cmpf .olt main_v44 main_v45
  let main_c_21 : IVec S_ 1 := constantI S_ 1 1#1
  let main_v47 : IVec S_ 1 := (fun x v => Host.reduce IntOp.andi x v reducesTo_S9_S_d0 h_S_) main_v46 main_c_21
  fn_part3 (F := F) main_arg12 main_arg13 main_arg14 main_arg15 main_v3 main_v7 main_v11 main_v15 main_v19 main_v23 main_v27 main_v31 main_v35 main_v39 main_v43 main_v47

def fn_part1 {F : FTy → Type} [FloatOps F] (main_arg4 : FVec F S128x256 .f32) (main_arg5 : FVec F S128 .f32) (main_arg6 : FVec F S9x128 .f32) (main_arg7 : FVec F S9 .f32) (main_arg8 : FVec F S128x256x3x3 .f32) (main_arg9 : FVec F S128 .f32) (main_arg10 : FVec F S9x128 .f32) (main_arg11 : FVec F S9 .f32) (main_arg12 : FVec F S256x256 .f32) (main_arg13 : FVec F S256 .f32) (main_arg14 : FVec F S512x256 .f32) (main_arg15 : FVec F S512 .f32) (main_v3 : IVec S_ 1) (main_v7 : IVec S_ 1) (main_v11 : IVec S_ 1) (main_v15 : IVec S_ 1) : IVec S_ 1 :=
  let main_v16 : FVec F S128x256 .f32 := Host.absf main_arg4
  let main_cst_6 : FVec F S_ .f32 := constant S_ .f32 0x7F800000#32
  let main_v17 : FVec F S128x256 .f32 := broadcastInDim S128x256 ![] bcast_S_S128x256 main_cst_6
  let main_v18 : IVec S128x256 1 := cmpf .olt main_v16 main_v17
  let main_c_7 : IVec S_ 1 := constantI S_ 1 1#1
  let main_v19 : IVec S_ 1 := (fun x v => Host.reduce IntOp.andi x v reducesTo_S128x256_S_d0_1 h_S_) main_v18 main_c_7
  let main_v20 : FVec F S128 .f32 := Host.absf main_arg5
  let main_cst_8 : FVec F S_ .f32 := constant S_ .f32 0x7F800000#32
  let main_v21 : FVec F S128 .f32 := broadcastInDim S128 ![] bcast_S_S128 main_cst_8
  let main_v22 : IVec S128 1 := cmpf .olt main_v20 main_v21
  let main_c_9 : IVec S_ 1 := constantI S_ 1 1#1
  let main_v23 : IVec S_ 1 := (fun x v => Host.reduce IntOp.andi x v reducesTo_S128_S_d0 h_S_) main_v22 main_c_9
  let main_v24 : FVec F S9x128 .f32 := Host.absf main_arg6
  let main_cst_10 : FVec F S_ .f32 := constant S_ .f32 0x7F800000#32
  let main_v25 : FVec F S9x128 .f32 := broadcastInDim S9x128 ![] bcast_S_S9x128 main_cst_10
  let main_v26 : IVec S9x128 1 := cmpf .olt main_v24 main_v25
  let main_c_11 : IVec S_ 1 := constantI S_ 1 1#1
  let main_v27 : IVec S_ 1 := (fun x v => Host.reduce IntOp.andi x v reducesTo_S9x128_S_d0_1 h_S_) main_v26 main_c_11
  let main_v28 : FVec F S9 .f32 := Host.absf main_arg7
  let main_cst_12 : FVec F S_ .f32 := constant S_ .f32 0x7F800000#32
  let main_v29 : FVec F S9 .f32 := broadcastInDim S9 ![] bcast_S_S9 main_cst_12
  let main_v30 : IVec S9 1 := cmpf .olt main_v28 main_v29
  let main_c_13 : IVec S_ 1 := constantI S_ 1 1#1
  let main_v31 : IVec S_ 1 := (fun x v => Host.reduce IntOp.andi x v reducesTo_S9_S_d0 h_S_) main_v30 main_c_13
  fn_part2 (F := F) main_arg8 main_arg9 main_arg10 main_arg11 main_arg12 main_arg13 main_arg14 main_arg15 main_v3 main_v7 main_v11 main_v15 main_v19 main_v23 main_v27 main_v31

def fn {F : FTy → Type} [FloatOps F] (main_arg0 : FVec F S1x256x56x56 .f32) (main_arg1 : FVec F S1x256x56x56 .f32) (main_arg2 : FVec F S256x1x3x3 .f32) (main_arg3 : FVec F S256 .f32) (main_arg4 : FVec F S128x256 .f32) (main_arg5 : FVec F S128 .f32) (main_arg6 : FVec F S9x128 .f32) (main_arg7 : FVec F S9 .f32) (main_arg8 : FVec F S128x256x3x3 .f32) (main_arg9 : FVec F S128 .f32) (main_arg10 : FVec F S9x128 .f32) (main_arg11 : FVec F S9 .f32) (main_arg12 : FVec F S256x256 .f32) (main_arg13 : FVec F S256 .f32) (main_arg14 : FVec F S512x256 .f32) (main_arg15 : FVec F S512 .f32) (main_arg16 : FVec F S256x256 .f32) (main_arg17 : FVec F S256 .f32) (main_arg18 : FVec F S256x256x3x3 .f32) (main_arg19 : FVec F S256 .f32) : IVec S_ 1 :=
  let main_v0 : FVec F S1x256x56x56 .f32 := Host.absf main_arg0
  let main_cst : FVec F S_ .f32 := constant S_ .f32 0x7F800000#32
  let main_v1 : FVec F S1x256x56x56 .f32 := broadcastInDim S1x256x56x56 ![] bcast_S_S1x256x56x56 main_cst
  let main_v2 : IVec S1x256x56x56 1 := cmpf .olt main_v0 main_v1
  let main_c : IVec S_ 1 := constantI S_ 1 1#1
  let main_v3 : IVec S_ 1 := (fun x v => Host.reduce IntOp.andi x v reducesTo_S1x256x56x56_S_d0_1_2_3 h_S_) main_v2 main_c
  let main_v4 : FVec F S1x256x56x56 .f32 := Host.absf main_arg1
  let main_cst_0 : FVec F S_ .f32 := constant S_ .f32 0x7F800000#32
  let main_v5 : FVec F S1x256x56x56 .f32 := broadcastInDim S1x256x56x56 ![] bcast_S_S1x256x56x56 main_cst_0
  let main_v6 : IVec S1x256x56x56 1 := cmpf .olt main_v4 main_v5
  let main_c_1 : IVec S_ 1 := constantI S_ 1 1#1
  let main_v7 : IVec S_ 1 := (fun x v => Host.reduce IntOp.andi x v reducesTo_S1x256x56x56_S_d0_1_2_3 h_S_) main_v6 main_c_1
  let main_v8 : FVec F S256x1x3x3 .f32 := Host.absf main_arg2
  let main_cst_2 : FVec F S_ .f32 := constant S_ .f32 0x7F800000#32
  let main_v9 : FVec F S256x1x3x3 .f32 := broadcastInDim S256x1x3x3 ![] bcast_S_S256x1x3x3 main_cst_2
  let main_v10 : IVec S256x1x3x3 1 := cmpf .olt main_v8 main_v9
  let main_c_3 : IVec S_ 1 := constantI S_ 1 1#1
  let main_v11 : IVec S_ 1 := (fun x v => Host.reduce IntOp.andi x v reducesTo_S256x1x3x3_S_d0_1_2_3 h_S_) main_v10 main_c_3
  let main_v12 : FVec F S256 .f32 := Host.absf main_arg3
  let main_cst_4 : FVec F S_ .f32 := constant S_ .f32 0x7F800000#32
  let main_v13 : FVec F S256 .f32 := broadcastInDim S256 ![] bcast_S_S256 main_cst_4
  let main_v14 : IVec S256 1 := cmpf .olt main_v12 main_v13
  let main_c_5 : IVec S_ 1 := constantI S_ 1 1#1
  let main_v15 : IVec S_ 1 := (fun x v => Host.reduce IntOp.andi x v reducesTo_S256_S_d0 h_S_) main_v14 main_c_5
  fn_part1 (F := F) main_arg4 main_arg5 main_arg6 main_arg7 main_arg8 main_arg9 main_arg10 main_arg11 main_arg12 main_arg13 main_arg14 main_arg15 main_v3 main_v7 main_v11 main_v15
-- ==== Kernel.lean ====
abbrev S1x256x56x56 : Shape := ⟨4, ![1, 256, 56, 56]⟩
abbrev S256x1x3x3 : Shape := ⟨4, ![256, 1, 3, 3]⟩
abbrev S256 : Shape := ⟨1, ![256]⟩
abbrev S128x256 : Shape := ⟨2, ![128, 256]⟩
abbrev S128 : Shape := ⟨1, ![128]⟩
abbrev S9x128 : Shape := ⟨2, ![9, 128]⟩
abbrev S9 : Shape := ⟨1, ![9]⟩
abbrev S128x256x3x3 : Shape := ⟨4, ![128, 256, 3, 3]⟩
abbrev S256x256 : Shape := ⟨2, ![256, 256]⟩
abbrev S512x256 : Shape := ⟨2, ![512, 256]⟩
abbrev S512 : Shape := ⟨1, ![512]⟩
abbrev S256x256x3x3 : Shape := ⟨4, ![256, 256, 3, 3]⟩
abbrev S256x56x56 : Shape := ⟨3, ![256, 56, 56]⟩
abbrev S56x56x256 : Shape := ⟨3, ![56, 56, 256]⟩
abbrev S_ : Shape := ⟨0, ![]⟩
abbrev S58x58x256 : Shape := ⟨3, ![58, 58, 256]⟩
abbrev S3364x256 : Shape := ⟨2, ![3364, 256]⟩
abbrev S3584x256 : Shape := ⟨2, ![3584, 256]⟩
abbrev S256x9 : Shape := ⟨2, ![256, 9]⟩
abbrev S9x256 : Shape := ⟨2, ![9, 256]⟩
abbrev S1x256 : Shape := ⟨2, ![1, 256]⟩
abbrev S256x128 : Shape := ⟨2, ![256, 128]⟩
abbrev S1x128 : Shape := ⟨2, ![1, 128]⟩
abbrev S128x9 : Shape := ⟨2, ![128, 9]⟩
abbrev S1x9 : Shape := ⟨2, ![1, 9]⟩
abbrev S3x3x256x128 : Shape := ⟨4, ![3, 3, 256, 128]⟩
abbrev S9x256x128 : Shape := ⟨3, ![9, 256, 128]⟩
abbrev S128x128 : Shape := ⟨2, ![128, 128]⟩
abbrev S128x1 : Shape := ⟨2, ![128, 1]⟩
abbrev S1x256x128 : Shape := ⟨3, ![1, 256, 128]⟩
abbrev S3136x256 : Shape := ⟨2, ![3136, 256]⟩
abbrev S3136x8x32 : Shape := ⟨3, ![3136, 8, 32]⟩
abbrev S8x3136x32 : Shape := ⟨3, ![8, 3136, 32]⟩
abbrev S256x3136 : Shape := ⟨2, ![256, 3136]⟩
abbrev S256x3200 : Shape := ⟨2, ![256, 3200]⟩
abbrev S1x3136 : Shape := ⟨2, ![1, 3136]⟩
abbrev S1x3200 : Shape := ⟨2, ![1, 3200]⟩
abbrev S7x3200 : Shape := ⟨2, ![7, 3200]⟩
abbrev S264x3200 : Shape := ⟨2, ![264, 3200]⟩
abbrev S512x1 : Shape := ⟨2, ![512, 1]⟩
abbrev S512x7 : Shape := ⟨2, ![512, 7]⟩
abbrev S512x264 : Shape := ⟨2, ![512, 264]⟩
abbrev S256x264 : Shape := ⟨2, ![256, 264]⟩
abbrev S8x32x264 : Shape := ⟨3, ![8, 32, 264]⟩
abbrev S8x1x264 : Shape := ⟨3, ![8, 1, 264]⟩
abbrev S1 : Shape := ⟨1, ![1]⟩
abbrev S2 : Shape := ⟨1, ![2]⟩
abbrev S8 : Shape := ⟨1, ![8]⟩
abbrev S8x7x264 : Shape := ⟨3, ![8, 7, 264]⟩
abbrev S8x40x264 : Shape := ⟨3, ![8, 40, 264]⟩
abbrev S8x32x3200 : Shape := ⟨3, ![8, 32, 3200]⟩
abbrev S8x40x3200 : Shape := ⟨3, ![8, 40, 3200]⟩
abbrev S1x32x264 : Shape := ⟨3, ![1, 32, 264]⟩
abbrev S1x40x264 : Shape := ⟨3, ![1, 40, 264]⟩
abbrev S1x32x3200 : Shape := ⟨3, ![1, 32, 3200]⟩
abbrev S1x40x3200 : Shape := ⟨3, ![1, 40, 3200]⟩
abbrev S32x264 : Shape := ⟨2, ![32, 264]⟩
abbrev S32x3200 : Shape := ⟨2, ![32, 3200]⟩
abbrev S40x264 : Shape := ⟨2, ![40, 264]⟩
abbrev S40x3200 : Shape := ⟨2, ![40, 3200]⟩
abbrev S8x392x32 : Shape := ⟨3, ![8, 392, 32]⟩
abbrev S392x256 : Shape := ⟨2, ![392, 256]⟩
abbrev S1x392x32 : Shape := ⟨3, ![1, 392, 32]⟩
abbrev S392x32 : Shape := ⟨2, ![392, 32]⟩
abbrev S392x40 : Shape := ⟨2, ![392, 40]⟩
abbrev S1x32x640 : Shape := ⟨3, ![1, 32, 640]⟩
abbrev S32x640 : Shape := ⟨2, ![32, 640]⟩
abbrev S392x640 : Shape := ⟨2, ![392, 640]⟩
abbrev S1x40x640 : Shape := ⟨3, ![1, 40, 640]⟩
abbrev S40x640 : Shape := ⟨2, ![40, 640]⟩
abbrev S392x1 : Shape := ⟨2, ![392, 1]⟩
abbrev S3x3x256x256 : Shape := ⟨4, ![3, 3, 256, 256]⟩
abbrev S9x256x256 : Shape := ⟨3, ![9, 256, 256]⟩
abbrev S1x256x256 : Shape := ⟨3, ![1, 256, 256]⟩

abbrev nBuf : Space → Nat
  | .hbm => 123
  | .vmem => 41
  | .smem => 0
  | _ => 0

abbrev bufTy : (tb : Table) → Fin (tcTables nBuf tb) → BufTy
  | .hbm, ⟨0, _⟩ => ⟨S1x256x56x56, .f32⟩
  | .hbm, ⟨1, _⟩ => ⟨S1x256x56x56, .f32⟩
  | .hbm, ⟨2, _⟩ => ⟨S256x1x3x3, .f32⟩
  | .hbm, ⟨3, _⟩ => ⟨S256, .f32⟩
  | .hbm, ⟨4, _⟩ => ⟨S128x256, .f32⟩
  | .hbm, ⟨5, _⟩ => ⟨S128, .f32⟩
  | .hbm, ⟨6, _⟩ => ⟨S9x128, .f32⟩
  | .hbm, ⟨7, _⟩ => ⟨S9, .f32⟩
  | .hbm, ⟨8, _⟩ => ⟨S128x256x3x3, .f32⟩
  | .hbm, ⟨9, _⟩ => ⟨S128, .f32⟩
  | .hbm, ⟨10, _⟩ => ⟨S9x128, .f32⟩
  | .hbm, ⟨11, _⟩ => ⟨S9, .f32⟩
  | .hbm, ⟨12, _⟩ => ⟨S256x256, .f32⟩
  | .hbm, ⟨13, _⟩ => ⟨S256, .f32⟩
  | .hbm, ⟨14, _⟩ => ⟨S512x256, .f32⟩
  | .hbm, ⟨15, _⟩ => ⟨S512, .f32⟩
  | .hbm, ⟨16, _⟩ => ⟨S256x256, .f32⟩
  | .hbm, ⟨17, _⟩ => ⟨S256, .f32⟩
  | .hbm, ⟨18, _⟩ => ⟨S256x256x3x3, .f32⟩
  | .hbm, ⟨19, _⟩ => ⟨S256, .f32⟩
  | .hbm, ⟨20, _⟩ => ⟨S256x56x56, .f32⟩
  | .hbm, ⟨21, _⟩ => ⟨S56x56x256, .f32⟩
  | .hbm, ⟨22, _⟩ => ⟨S_, .i32⟩
  | .hbm, ⟨23, _⟩ => ⟨S_, .f32⟩
  | .hbm, ⟨24, _⟩ => ⟨S58x58x256, .f32⟩
  | .hbm, ⟨25, _⟩ => ⟨S3364x256, .f32⟩
  | .hbm, ⟨26, _⟩ => ⟨S_, .i32⟩
  | .hbm, ⟨27, _⟩ => ⟨S_, .f32⟩
  | .hbm, ⟨28, _⟩ => ⟨S3584x256, .f32⟩
  | .hbm, ⟨29, _⟩ => ⟨S256x56x56, .f32⟩
  | .hbm, ⟨30, _⟩ => ⟨S56x56x256, .f32⟩
  | .hbm, ⟨31, _⟩ => ⟨S_, .i32⟩
  | .hbm, ⟨32, _⟩ => ⟨S_, .f32⟩
  | .hbm, ⟨33, _⟩ => ⟨S58x58x256, .f32⟩
  | .hbm, ⟨34, _⟩ => ⟨S3364x256, .f32⟩
  | .hbm, ⟨35, _⟩ => ⟨S_, .i32⟩
  | .hbm, ⟨36, _⟩ => ⟨S_, .f32⟩
  | .hbm, ⟨37, _⟩ => ⟨S3584x256, .f32⟩
  | .hbm, ⟨38, _⟩ => ⟨S256x9, .f32⟩
  | .hbm, ⟨39, _⟩ => ⟨S9x256, .f32⟩
  | .hbm, ⟨40, _⟩ => ⟨S1x256, .f32⟩
  | .hbm, ⟨41, _⟩ => ⟨S256x128, .f32⟩
  | .hbm, ⟨42, _⟩ => ⟨S1x128, .f32⟩
  | .hbm, ⟨43, _⟩ => ⟨S128x9, .f32⟩
  | .hbm, ⟨44, _⟩ => ⟨S1x9, .f32⟩
  | .hbm, ⟨45, _⟩ => ⟨S3x3x256x128, .f32⟩
  | .hbm, ⟨46, _⟩ => ⟨S9x256x128, .f32⟩
  | .hbm, ⟨47, _⟩ => ⟨S1x128, .f32⟩
  | .hbm, ⟨48, _⟩ => ⟨S128x9, .f32⟩
  | .hbm, ⟨49, _⟩ => ⟨S1x9, .f32⟩
  | .hbm, ⟨50, _⟩ => ⟨S256x256, .f32⟩
  | .hbm, ⟨51, _⟩ => ⟨S_, .f32⟩
  | .hbm, ⟨52, _⟩ => ⟨S256x256, .f32⟩
  | .hbm, ⟨53, _⟩ => ⟨S256x256, .f32⟩
  | .hbm, ⟨54, _⟩ => ⟨S_, .f32⟩
  | .hbm, ⟨55, _⟩ => ⟨S256, .f32⟩
  | .hbm, ⟨56, _⟩ => ⟨S256, .f32⟩
  | .hbm, ⟨57, _⟩ => ⟨S1x256, .f32⟩
  | .hbm, ⟨58, _⟩ => ⟨S3584x256, .f32⟩
  | .hbm, ⟨59, _⟩ => ⟨S3584x256, .f32⟩
  | .hbm, ⟨60, _⟩ => ⟨S3364x256, .f32⟩
  | .hbm, ⟨61, _⟩ => ⟨S58x58x256, .f32⟩
  | .hbm, ⟨62, _⟩ => ⟨S56x56x256, .f32⟩
  | .hbm, ⟨63, _⟩ => ⟨S3136x256, .f32⟩
  | .hbm, ⟨64, _⟩ => ⟨S3136x8x32, .f32⟩
  | .hbm, ⟨65, _⟩ => ⟨S8x3136x32, .f32⟩
  | .hbm, ⟨66, _⟩ => ⟨S256x3136, .f32⟩
  | .hbm, ⟨67, _⟩ => ⟨S_, .i32⟩
  | .hbm, ⟨68, _⟩ => ⟨S_, .f32⟩
  | .hbm, ⟨69, _⟩ => ⟨S256x3200, .f32⟩
  | .hbm, ⟨70, _⟩ => ⟨S_, .f32⟩
  | .hbm, ⟨71, _⟩ => ⟨S1x3136, .f32⟩
  | .hbm, ⟨72, _⟩ => ⟨S_, .i32⟩
  | .hbm, ⟨73, _⟩ => ⟨S_, .f32⟩
  | .hbm, ⟨74, _⟩ => ⟨S1x3200, .f32⟩
  | .hbm, ⟨75, _⟩ => ⟨S_, .f32⟩
  | .hbm, ⟨76, _⟩ => ⟨S7x3200, .f32⟩
  | .hbm, ⟨77, _⟩ => ⟨S264x3200, .f32⟩
  | .hbm, ⟨78, _⟩ => ⟨S512x1, .f32⟩
  | .hbm, ⟨79, _⟩ => ⟨S_, .f32⟩
  | .hbm, ⟨80, _⟩ => ⟨S512x7, .f32⟩
  | .hbm, ⟨81, _⟩ => ⟨S512x264, .f32⟩
  | .hbm, ⟨82, _⟩ => ⟨S256x264, .f32⟩
  | .hbm, ⟨83, _⟩ => ⟨S8x32x264, .f32⟩
  | .hbm, ⟨84, _⟩ => ⟨S_, .f32⟩
  | .hbm, ⟨85, _⟩ => ⟨S8x1x264, .f32⟩
  | .hbm, ⟨86, _⟩ => ⟨S_, .i32⟩
  | .hbm, ⟨87, _⟩ => ⟨S1, .i32⟩
  | .hbm, ⟨88, _⟩ => ⟨S_, .i32⟩
  | .hbm, ⟨89, _⟩ => ⟨S1, .i32⟩
  | .hbm, ⟨90, _⟩ => ⟨S2, .i32⟩
  | .hbm, ⟨91, _⟩ => ⟨S_, .f32⟩
  | .hbm, ⟨92, _⟩ => ⟨S8, .f32⟩
  | .hbm, ⟨93, _⟩ => ⟨S8x1x264, .f32⟩
  | .hbm, ⟨94, _⟩ => ⟨S256x264, .f32⟩
  | .hbm, ⟨95, _⟩ => ⟨S8x32x264, .f32⟩
  | .hbm, ⟨96, _⟩ => ⟨S_, .f32⟩
  | .hbm, ⟨97, _⟩ => ⟨S8x7x264, .f32⟩
  | .hbm, ⟨98, _⟩ => ⟨S8x40x264, .f32⟩
  | .hbm, ⟨99, _⟩ => ⟨S8x32x3200, .f32⟩
  | .hbm, ⟨100, _⟩ => ⟨S8x40x3200, .f32⟩
  | .hbm, ⟨101, _⟩ => ⟨S256x256, .f32⟩
  | .hbm, ⟨102, _⟩ => ⟨S1x256, .f32⟩
  | .hbm, ⟨103, _⟩ => ⟨S3136x256, .f32⟩
  | .hbm, ⟨104, _⟩ => ⟨S56x56x256, .f32⟩
  | .hbm, ⟨105, _⟩ => ⟨S_, .i32⟩
  | .hbm, ⟨106, _⟩ => ⟨S_, .f32⟩
  | .hbm, ⟨107, _⟩ => ⟨S58x58x256, .f32⟩
  | .hbm, ⟨108, _⟩ => ⟨S3364x256, .f32⟩
  | .hbm, ⟨109, _⟩ => ⟨S_, .i32⟩
  | .hbm, ⟨110, _⟩ => ⟨S_, .f32⟩
  | .hbm, ⟨111, _⟩ => ⟨S3584x256, .f32⟩
  | .hbm, ⟨112, _⟩ => ⟨S3x3x256x256, .f32⟩
  | .hbm, ⟨113, _⟩ => ⟨S9x256x256, .f32⟩
  | .hbm, ⟨114, _⟩ => ⟨S1x256, .f32⟩
  | .hbm, ⟨115, _⟩ => ⟨S3584x256, .f32⟩
  | .hbm, ⟨116, _⟩ => ⟨S3364x256, .f32⟩
  | .hbm, ⟨117, _⟩ => ⟨S58x58x256, .f32⟩
  | .hbm, ⟨118, _⟩ => ⟨S56x56x256, .f32⟩
  | .hbm, ⟨119, _⟩ => ⟨S3136x256, .f32⟩
  | .hbm, ⟨120, _⟩ => ⟨S56x56x256, .f32⟩
  | .hbm, ⟨121, _⟩ => ⟨S256x56x56, .f32⟩
  | .hbm, ⟨122, _⟩ => ⟨S1x256x56x56, .f32⟩
  | .local _ .vmem, ⟨0, _⟩ => ⟨S3584x256, .f32⟩
  | .local _ .vmem, ⟨1, _⟩ => ⟨S3584x256, .f32⟩
  | .local _ .vmem, ⟨2, _⟩ => ⟨S9x256, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S128x9, .f32⟩
  | .local _ .vmem, ⟨7, _⟩ => ⟨S1x9, .f32⟩
  | .local _ .vmem, ⟨8, _⟩ => ⟨S9x256x128, .f32⟩
  | .local _ .vmem, ⟨9, _⟩ => ⟨S1x128, .f32⟩
  | .local _ .vmem, ⟨10, _⟩ => ⟨S128x9, .f32⟩
  | .local _ .vmem, ⟨11, _⟩ => ⟨S1x9, .f32⟩
  | .local _ .vmem, ⟨12, _⟩ => ⟨S256x256, .f32⟩
  | .local _ .vmem, ⟨13, _⟩ => ⟨S1x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S264x3200, .f32⟩
  | .local _ .vmem, ⟨19, _⟩ => ⟨S1x32x264, .f32⟩
  | .local _ .vmem, ⟨20, _⟩ => ⟨S1x32x264, .f32⟩
  | .local _ .vmem, ⟨21, _⟩ => ⟨S1x40x264, .f32⟩
  | .local _ .vmem, ⟨22, _⟩ => ⟨S1x40x264, .f32⟩
  | .local _ .vmem, ⟨23, _⟩ => ⟨S1x32x3200, .f32⟩
  | .local _ .vmem, ⟨24, _⟩ => ⟨S1x32x3200, .f32⟩
  | .local _ .vmem, ⟨25, _⟩ => ⟨S1x40x3200, .f32⟩
  | .local _ .vmem, ⟨26, _⟩ => ⟨S1x40x3200, .f32⟩
  | .local _ .vmem, ⟨27, _⟩ => ⟨S8x392x32, .f32⟩
  | .local _ .vmem, ⟨28, _⟩ => ⟨S8x392x32, .f32⟩
  | .local _ .vmem, ⟨29, _⟩ => ⟨S8x32x3200, .f32⟩
  | .local _ .vmem, ⟨30, _⟩ => ⟨S8x40x3200, .f32⟩
  | .local _ .vmem, ⟨31, _⟩ => ⟨S256x256, .f32⟩
  | .local _ .vmem, ⟨32, _⟩ => ⟨S1x256, .f32⟩
  | .local _ .vmem, ⟨33, _⟩ => ⟨S392x256, .f32⟩
  | .local _ .vmem, ⟨34, _⟩ => ⟨S392x256, .f32⟩
  | .local _ .vmem, ⟨35, _⟩ => ⟨S3584x256, .f32⟩
  | .local _ .vmem, ⟨36, _⟩ => ⟨S3584x256, .f32⟩
  | .local _ .vmem, ⟨37, _⟩ => ⟨S9x256x256, .f32⟩
  | .local _ .vmem, ⟨38, _⟩ => ⟨S1x256, .f32⟩
  | .local _ .vmem, ⟨39, _⟩ => ⟨S256x256, .f32⟩
  | .local _ .vmem, ⟨40, _⟩ => ⟨S256x256, .f32⟩
  | _, _ => ⟨S1x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_c : Ref sig .tc := ⟨.hbm, 22, rfl⟩
abbrev main_call0_v0 : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_call1_v0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_c_1 : Ref sig .tc := ⟨.hbm, 31, rfl⟩
abbrev main_call2_v0 : Ref sig .tc := ⟨.hbm, 32, rfl⟩
abbrev main_v7 : Ref sig .tc := ⟨.hbm, 33, rfl⟩
abbrev main_v8 : Ref sig .tc := ⟨.hbm, 34, rfl⟩
abbrev main_c_2 : Ref sig .tc := ⟨.hbm, 35, rfl⟩
abbrev main_call3_v0 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst : Ref sig .tc := ⟨.hbm, 51, rfl⟩
abbrev main_v23 : Ref sig .tc := ⟨.hbm, 52, rfl⟩
abbrev main_v24 : Ref sig .tc := ⟨.hbm, 53, rfl⟩
abbrev main_cst_3 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28_0 : Ref sig .tc := ⟨.hbm, 58, rfl⟩
abbrev main_v28_1 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_4 : Ref sig .tc := ⟨.hbm, 67, rfl⟩
abbrev main_call4_v0 : Ref sig .tc := ⟨.hbm, 68, rfl⟩
abbrev main_v36 : Ref sig .tc := ⟨.hbm, 69, rfl⟩
abbrev main_cst_5 : Ref sig .tc := ⟨.hbm, 70, rfl⟩
abbrev main_v37 : Ref sig .tc := ⟨.hbm, 71, rfl⟩
abbrev main_c_6 : Ref sig .tc := ⟨.hbm, 72, rfl⟩
abbrev main_call5_v0 : Ref sig .tc := ⟨.hbm, 73, rfl⟩
abbrev main_v38 : Ref sig .tc := ⟨.hbm, 74, rfl⟩
abbrev main_cst_7 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_8 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_9 : Ref sig .tc := ⟨.hbm, 84, rfl⟩
abbrev main_v46 : Ref sig .tc := ⟨.hbm, 85, rfl⟩
abbrev main_c_10 : Ref sig .tc := ⟨.hbm, 86, rfl⟩
abbrev main_v47 : Ref sig .tc := ⟨.hbm, 87, rfl⟩
abbrev main_c_11 : Ref sig .tc := ⟨.hbm, 88, rfl⟩
abbrev main_v48 : Ref sig .tc := ⟨.hbm, 89, rfl⟩
abbrev main_v49 : Ref sig .tc := ⟨.hbm, 90, rfl⟩
abbrev main_cst_12 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_cst_13 : Ref sig .tc := ⟨.hbm, 96, rfl⟩
abbrev main_v54 : Ref sig .tc := ⟨.hbm, 97, rfl⟩
abbrev main_v55 : Ref sig .tc := ⟨.hbm, 98, rfl⟩
abbrev main_v56_0 : Ref sig .tc := ⟨.hbm, 99, rfl⟩
abbrev main_v56_1 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_c_14 : Ref sig .tc := ⟨.hbm, 105, rfl⟩
abbrev main_call6_v0 : Ref sig .tc := ⟨.hbm, 106, rfl⟩
abbrev main_v61 : Ref sig .tc := ⟨.hbm, 107, rfl⟩
abbrev main_v62 : Ref sig .tc := ⟨.hbm, 108, rfl⟩
abbrev main_c_15 : Ref sig .tc := ⟨.hbm, 109, rfl⟩
abbrev main_call7_v0 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg14_1 : Ref sig .tc := ⟨.vmem, 15, rfl⟩
abbrev cc0_stg15_0 : Ref sig .tc := ⟨.vmem, 16, rfl⟩
abbrev cc0_stg15_1 : Ref sig .tc := ⟨.vmem, 17, rfl⟩
abbrev cc1_stg0_0 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc3_stg0_0 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg4_1 : Ref sig .tc := ⟨.vmem, 40, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem14_1 : DmaSem sig := 15
abbrev cc0_sem15_0 : DmaSem sig := 16
abbrev cc0_sem15_1 : DmaSem sig := 17
abbrev cc1_sem0_0 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc1_sem4_1 : DmaSem sig := 26
abbrev cc2_sem0_0 : DmaSem sig := 27
abbrev cc2_sem0_1 : DmaSem sig := 28
abbrev cc2_sem1_0 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem5_1 : DmaSem sig := 34
abbrev cc3_sem0_0 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem4_1 : DmaSem sig := 40

abbrev nD : Nat := 1
abbrev τ : Topo := Topo.v7x

variable {F : FTy → Type} [FloatOps F]

abbrev grid0 : Pipeline.Grid := ⟨1, ![14], ![false]⟩

def k0_mult1 (i : grid0.Coords) : BitVec 32 :=
  let c3328_i32 : BitVec 32 := 3328#32
  let c0_i32_0 : BitVec 32 := 0#32
  let arg0 : BitVec 32 := BitVec.ofNat 32 (i 0).val
  let c256_i32 : BitVec 32 := 256#32
  let v0 : BitVec 32 := Scalar.muli arg0 c256_i32
  let c0_i32 : BitVec 32 := 0#32
  let v1 : BitVec 32 := Scalar.addi v0 c0_i32
  let c64_i32 : BitVec 32 := 64#32
  let v2 : BitVec 32 := Scalar.subi v1 c64_i32
  let v3 : BitVec 32 := Scalar.maxsi c0_i32_0 v2
  let v4 : BitVec 32 := Scalar.minsi c3328_i32 v3
  v4
def k0_off1 (i : grid0.Coords) (c0_i32 : BitVec 32) : Fin 2 → Nat :=
  let c3328_i32 : BitVec 32 := 3328#32
  let c0_i32_0 : BitVec 32 := 0#32
  let arg0 : BitVec 32 := BitVec.ofNat 32 (i 0).val
  let c256_i32 : BitVec 32 := 256#32
  let v0 : BitVec 32 := Scalar.muli arg0 c256_i32
  let v1 : BitVec 32 := Scalar.addi v0 c0_i32
  let c64_i32 : BitVec 32 := 64#32
  let v2 : BitVec 32 := Scalar.subi v1 c64_i32
  let v3 : BitVec 32 := Scalar.maxsi c0_i32_0 v2
  let v4 : BitVec 32 := Scalar.minsi c3328_i32 v3
  let v5 : BitVec 32 := v4
  let v6 : Index := Scalar.indexCast v5
  let c0 : Index := 0#32
  ![v6.toNat, 0]
def k0_mult2 (i : grid0.Coords) : BitVec 32 :=
  let c3328_i32_98 : BitVec 32 := 3328#32
  let c0_i32_97 : BitVec 32 := 0#32
  let arg0 : BitVec 32 := BitVec.ofNat 32 (i 0).val
  let c256_i32 : BitVec 32 := 256#32
  let v0 : BitVec 32 := Scalar.muli arg0 c256_i32
  let c128_i32 : BitVec 32 := 128#32
  let v299 : BitVec 32 := Scalar.addi v0 c128_i32
  let c64_i32_96 : BitVec 32 := 64#32
  let v300 : BitVec 32 := Scalar.subi v299 c64_i32_96
  let v301 : BitVec 32 := Scalar.maxsi c0_i32_97 v300
  let v302 : BitVec 32 := Scalar.minsi c3328_i32_98 v301
  v302
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3584x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3584x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x9 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x9 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S9x256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x9 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x9 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S264x3200 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x32x264 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x40x264 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x32x3200 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x40x3200 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x392x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x32x3200 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S8x40x3200 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S392x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![14], ![false]⟩

def k3_mult1 (i : grid3.Coords) : BitVec 32 :=
  let c3328_i32 : BitVec 32 := 3328#32
  let c0_i32_0 : BitVec 32 := 0#32
  let arg0 : BitVec 32 := BitVec.ofNat 32 (i 0).val
  let c256_i32 : BitVec 32 := 256#32
  let v0 : BitVec 32 := Scalar.muli arg0 c256_i32
  let c0_i32 : BitVec 32 := 0#32
  let v1 : BitVec 32 := Scalar.addi v0 c0_i32
  let c64_i32 : BitVec 32 := 64#32
  let v2 : BitVec 32 := Scalar.subi v1 c64_i32
  let v3 : BitVec 32 := Scalar.maxsi c0_i32_0 v2
  let v4 : BitVec 32 := Scalar.minsi c3328_i32 v3
  v4
def k3_off1 (i : grid3.Coords) (c0_i32 : BitVec 32) : Fin 2 → Nat :=
  let c3328_i32 : BitVec 32 := 3328#32
  let c0_i32_0 : BitVec 32 := 0#32
  let arg0 : BitVec 32 := BitVec.ofNat 32 (i 0).val
  let c256_i32 : BitVec 32 := 256#32
  let v0 : BitVec 32 := Scalar.muli arg0 c256_i32
  let v1 : BitVec 32 := Scalar.addi v0 c0_i32
  let c64_i32 : BitVec 32 := 64#32
  let v2 : BitVec 32 := Scalar.subi v1 c64_i32
  let v3 : BitVec 32 := Scalar.maxsi c0_i32_0 v2
  let v4 : BitVec 32 := Scalar.minsi c3328_i32 v3
  let v5 : BitVec 32 := v4
  let v6 : Index := Scalar.indexCast v5
  let c0 : Index := 0#32
  ![v6.toNat, 0]
def k3_mult2 (i : grid3.Coords) : BitVec 32 :=
  let c3328_i32_36 : BitVec 32 := 3328#32
  let c0_i32_35 : BitVec 32 := 0#32
  let arg0 : BitVec 32 := BitVec.ofNat 32 (i 0).val
  let c256_i32 : BitVec 32 := 256#32
  let v0 : BitVec 32 := Scalar.muli arg0 c256_i32
  let c128_i32 : BitVec 32 := 128#32
  let v64 : BitVec 32 := Scalar.addi v0 c128_i32
  let c64_i32_34 : BitVec 32 := 64#32
  let v65 : BitVec 32 := Scalar.subi v64 c64_i32_34
  let v66 : BitVec 32 := Scalar.maxsi c0_i32_35 v65
  let v67 : BitVec 32 := Scalar.minsi c3328_i32_36 v66
  v67
def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S3584x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S3584x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S9x256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S256x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]
-- ==== ReferenceIdeal.lean ====
abbrev S1x256x56x56 : Shape := ⟨4, ![1, 256, 56, 56]⟩
abbrev S256x1x3x3 : Shape := ⟨4, ![256, 1, 3, 3]⟩
abbrev S256 : Shape := ⟨1, ![256]⟩
abbrev S128x256 : Shape := ⟨2, ![128, 256]⟩
abbrev S128 : Shape := ⟨1, ![128]⟩
abbrev S9x128 : Shape := ⟨2, ![9, 128]⟩
abbrev S9 : Shape := ⟨1, ![9]⟩
abbrev S128x256x3x3 : Shape := ⟨4, ![128, 256, 3, 3]⟩
abbrev S256x256 : Shape := ⟨2, ![256, 256]⟩
abbrev S512x256 : Shape := ⟨2, ![512, 256]⟩
abbrev S512 : Shape := ⟨1, ![512]⟩
abbrev S256x256x3x3 : Shape := ⟨4, ![256, 256, 3, 3]⟩
abbrev S_ : Shape := ⟨0, ![]⟩
abbrev S1x256x58x58 : Shape := ⟨4, ![1, 256, 58, 58]⟩
abbrev S256x1x1x1 : Shape := ⟨4, ![256, 1, 1, 1]⟩
abbrev S1x256x1x1 : Shape := ⟨4, ![1, 256, 1, 1]⟩
abbrev S1x56x56x128 : Shape := ⟨4, ![1, 56, 56, 128]⟩
abbrev S1x128x56x56 : Shape := ⟨4, ![1, 128, 56, 56]⟩
abbrev S1x128x1x1 : Shape := ⟨4, ![1, 128, 1, 1]⟩
abbrev S1x56x56x9 : Shape := ⟨4, ![1, 56, 56, 9]⟩
abbrev S1x9x56x56 : Shape := ⟨4, ![1, 9, 56, 56]⟩
abbrev S1x9x1x1 : Shape := ⟨4, ![1, 9, 1, 1]⟩
abbrev S1x56x56 : Shape := ⟨3, ![1, 56, 56]⟩
abbrev S1x1x56x56 : Shape := ⟨4, ![1, 1, 56, 56]⟩
abbrev S1x256x1x56x56 : Shape := ⟨5, ![1, 256, 1, 56, 56]⟩
abbrev S1x256x9x56x56 : Shape := ⟨5, ![1, 256, 9, 56, 56]⟩
abbrev S1x1x9x56x56 : Shape := ⟨5, ![1, 1, 9, 56, 56]⟩
abbrev S1x56x56x256 : Shape := ⟨4, ![1, 56, 56, 256]⟩
abbrev S1x8x32x3136 : Shape := ⟨4, ![1, 8, 32, 3136]⟩
abbrev S1x56x56x512 : Shape := ⟨4, ![1, 56, 56, 512]⟩
abbrev S1x512x56x56 : Shape := ⟨4, ![1, 512, 56, 56]⟩
abbrev S1x512x1x1 : Shape := ⟨4, ![1, 512, 1, 1]⟩
abbrev S1x8x3136x3136 : Shape := ⟨4, ![1, 8, 3136, 3136]⟩
abbrev S1x8x3136 : Shape := ⟨3, ![1, 8, 3136]⟩
abbrev S1x8x3136x1 : Shape := ⟨4, ![1, 8, 3136, 1]⟩
abbrev S128x256x1x1 : Shape := ⟨4, ![128, 256, 1, 1]⟩
abbrev S256x256x1x1 : Shape := ⟨4, ![256, 256, 1, 1]⟩

abbrev nBuf : Space → Nat
  | .hbm => 375
  | .vmem => 0
  | .smem => 0
  | _ => 0

abbrev hbmTy0_0 (i : Nat) : BufTy := match i % 128 with
  | 0 => ⟨S1x256x56x56, .f32⟩
  | 1 => ⟨S1x256x56x56, .f32⟩
  | 2 => ⟨S256x1x3x3, .f32⟩
  | 3 => ⟨S256, .f32⟩
  | 4 => ⟨S128x256, .f32⟩
  | 5 => ⟨S128, .f32⟩
  | 6 => ⟨S9x128, .f32⟩
  | 7 => ⟨S9, .f32⟩
  | 8 => ⟨S128x256x3x3, .f32⟩
  | 9 => ⟨S128, .f32⟩
  | 10 => ⟨S9x128, .f32⟩
  | 11 => ⟨S9, .f32⟩
  | 12 => ⟨S256x256, .f32⟩
  | 13 => ⟨S256, .f32⟩
  | 14 => ⟨S512x256, .f32⟩
  | 15 => ⟨S512, .f32⟩
  | 16 => ⟨S256x256, .f32⟩
  | 17 => ⟨S256, .f32⟩
  | 18 => ⟨S256x256x3x3, .f32⟩
  | 19 => ⟨S256, .f32⟩
  | 20 => ⟨S_, .i32⟩
  | 21 => ⟨S_, .f32⟩
  | 22 => ⟨S1x256x58x58, .f32⟩
  | 23 => ⟨S1x256x56x56, .f32⟩
  | 24 => ⟨S1x256x56x56, .f32⟩
  | 25 => ⟨S1x256x56x56, .f32⟩
  | 26 => ⟨S1x256x56x56, .f32⟩
  | 27 => ⟨S1x256x56x56, .f32⟩
  | 28 => ⟨S1x256x56x56, .f32⟩
  | 29 => ⟨S1x256x56x56, .f32⟩
  | 30 => ⟨S1x256x56x56, .f32⟩
  | 31 => ⟨S1x256x56x56, .f32⟩
  | 32 => ⟨S256x1x1x1, .f32⟩
  | 33 => ⟨S256, .f32⟩
  | 34 => ⟨S1x256x1x1, .f32⟩
  | 35 => ⟨S1x256x56x56, .f32⟩
  | 36 => ⟨S1x256x56x56, .f32⟩
  | 37 => ⟨S256x1x1x1, .f32⟩
  | 38 => ⟨S256, .f32⟩
  | 39 => ⟨S1x256x1x1, .f32⟩
  | 40 => ⟨S1x256x56x56, .f32⟩
  | 41 => ⟨S1x256x56x56, .f32⟩
  | 42 => ⟨S1x256x56x56, .f32⟩
  | 43 => ⟨S256x1x1x1, .f32⟩
  | 44 => ⟨S256, .f32⟩
  | 45 => ⟨S1x256x1x1, .f32⟩
  | 46 => ⟨S1x256x56x56, .f32⟩
  | 47 => ⟨S1x256x56x56, .f32⟩
  | 48 => ⟨S1x256x56x56, .f32⟩
  | 49 => ⟨S256x1x1x1, .f32⟩
  | 50 => ⟨S256, .f32⟩
  | 51 => ⟨S1x256x1x1, .f32⟩
  | 52 => ⟨S1x256x56x56, .f32⟩
  | 53 => ⟨S1x256x56x56, .f32⟩
  | 54 => ⟨S1x256x56x56, .f32⟩
  | 55 => ⟨S256x1x1x1, .f32⟩
  | 56 => ⟨S256, .f32⟩
  | 57 => ⟨S1x256x1x1, .f32⟩
  | 58 => ⟨S1x256x56x56, .f32⟩
  | 59 => ⟨S1x256x56x56, .f32⟩
  | 60 => ⟨S1x256x56x56, .f32⟩
  | 61 => ⟨S256x1x1x1, .f32⟩
  | 62 => ⟨S256, .f32⟩
  | 63 => ⟨S1x256x1x1, .f32⟩
  | 64 => ⟨S1x256x56x56, .f32⟩
  | 65 => ⟨S1x256x56x56, .f32⟩
  | 66 => ⟨S1x256x56x56, .f32⟩
  | 67 => ⟨S256x1x1x1, .f32⟩
  | 68 => ⟨S256, .f32⟩
  | 69 => ⟨S1x256x1x1, .f32⟩
  | 70 => ⟨S1x256x56x56, .f32⟩
  | 71 => ⟨S1x256x56x56, .f32⟩
  | 72 => ⟨S1x256x56x56, .f32⟩
  | 73 => ⟨S256x1x1x1, .f32⟩
  | 74 => ⟨S256, .f32⟩
  | 75 => ⟨S1x256x1x1, .f32⟩
  | 76 => ⟨S1x256x56x56, .f32⟩
  | 77 => ⟨S1x256x56x56, .f32⟩
  | 78 => ⟨S1x256x56x56, .f32⟩
  | 79 => ⟨S256x1x1x1, .f32⟩
  | 80 => ⟨S256, .f32⟩
  | 81 => ⟨S1x256x1x1, .f32⟩
  | 82 => ⟨S1x256x56x56, .f32⟩
  | 83 => ⟨S1x256x56x56, .f32⟩
  | 84 => ⟨S1x256x56x56, .f32⟩
  | 85 => ⟨S1x256x1x1, .f32⟩
  | 86 => ⟨S1x256x56x56, .f32⟩
  | 87 => ⟨S1x256x56x56, .f32⟩
  | 88 => ⟨S1x56x56x128, .f32⟩
  | 89 => ⟨S1x128x56x56, .f32⟩
  | 90 => ⟨S1x128x1x1, .f32⟩
  | 91 => ⟨S1x128x56x56, .f32⟩
  | 92 => ⟨S1x128x56x56, .f32⟩
  | 93 => ⟨S_, .f32⟩
  | 94 => ⟨S1x128x56x56, .f32⟩
  | 95 => ⟨S1x128x56x56, .i1⟩
  | 96 => ⟨S_, .f32⟩
  | 97 => ⟨S1x128x56x56, .f32⟩
  | 98 => ⟨S1x128x56x56, .f32⟩
  | 99 => ⟨S1x128x56x56, .f32⟩
  | 100 => ⟨S1x56x56x9, .f32⟩
  | 101 => ⟨S1x9x56x56, .f32⟩
  | 102 => ⟨S1x9x1x1, .f32⟩
  | 103 => ⟨S1x9x56x56, .f32⟩
  | 104 => ⟨S1x9x56x56, .f32⟩
  | 105 => ⟨S_, .f32⟩
  | 106 => ⟨S1x56x56, .f32⟩
  | 107 => ⟨S_, .f32⟩
  | 108 => ⟨S1x56x56, .f32⟩
  | 109 => ⟨S1x56x56, .f32⟩
  | 110 => ⟨S1x1x56x56, .f32⟩
  | 111 => ⟨S1x9x56x56, .f32⟩
  | 112 => ⟨S1x9x56x56, .f32⟩
  | 113 => ⟨S1x9x56x56, .f32⟩
  | 114 => ⟨S_, .f32⟩
  | 115 => ⟨S1x56x56, .f32⟩
  | 116 => ⟨S1x1x56x56, .f32⟩
  | 117 => ⟨S1x9x56x56, .f32⟩
  | 118 => ⟨S1x9x56x56, .f32⟩
  | 119 => ⟨S_, .i32⟩
  | 120 => ⟨S_, .f32⟩
  | 121 => ⟨S1x256x58x58, .f32⟩
  | 122 => ⟨S1x256x56x56, .f32⟩
  | 123 => ⟨S1x256x56x56, .f32⟩
  | 124 => ⟨S1x256x56x56, .f32⟩
  | 125 => ⟨S1x256x56x56, .f32⟩
  | 126 => ⟨S1x256x56x56, .f32⟩
  | 127 => ⟨S1x256x56x56, .f32⟩
  | _ => ⟨S1x256x56x56, .f32⟩

abbrev hbmTy0_1 (i : Nat) : BufTy := match i % 128 with
  | 0 => ⟨S1x256x56x56, .f32⟩
  | 1 => ⟨S1x256x56x56, .f32⟩
  | 2 => ⟨S1x256x56x56, .f32⟩
  | 3 => ⟨S1x256x1x56x56, .f32⟩
  | 4 => ⟨S1x256x1x56x56, .f32⟩
  | 5 => ⟨S1x256x1x56x56, .f32⟩
  | 6 => ⟨S1x256x1x56x56, .f32⟩
  | 7 => ⟨S1x256x1x56x56, .f32⟩
  | 8 => ⟨S1x256x1x56x56, .f32⟩
  | 9 => ⟨S1x256x1x56x56, .f32⟩
  | 10 => ⟨S1x256x1x56x56, .f32⟩
  | 11 => ⟨S1x256x1x56x56, .f32⟩
  | 12 => ⟨S1x256x9x56x56, .f32⟩
  | 13 => ⟨S1x1x9x56x56, .f32⟩
  | 14 => ⟨S1x256x9x56x56, .f32⟩
  | 15 => ⟨S1x256x9x56x56, .f32⟩
  | 16 => ⟨S_, .f32⟩
  | 17 => ⟨S1x256x56x56, .f32⟩
  | 18 => ⟨S1x56x56x256, .f32⟩
  | 19 => ⟨S1x256x56x56, .f32⟩
  | 20 => ⟨S1x256x1x1, .f32⟩
  | 21 => ⟨S1x256x56x56, .f32⟩
  | 22 => ⟨S1x256x56x56, .f32⟩
  | 23 => ⟨S1x8x32x3136, .f32⟩
  | 24 => ⟨S1x56x56x512, .f32⟩
  | 25 => ⟨S1x512x56x56, .f32⟩
  | 26 => ⟨S1x512x1x1, .f32⟩
  | 27 => ⟨S1x512x56x56, .f32⟩
  | 28 => ⟨S1x512x56x56, .f32⟩
  | 29 => ⟨S1x256x56x56, .f32⟩
  | 30 => ⟨S1x256x56x56, .f32⟩
  | 31 => ⟨S1x8x32x3136, .f32⟩
  | 32 => ⟨S1x8x32x3136, .f32⟩
  | 33 => ⟨S1x8x3136x3136, .f32⟩
  | 34 => ⟨S_, .f32⟩
  | 35 => ⟨S1x8x3136x3136, .f32⟩
  | 36 => ⟨S1x8x3136x3136, .f32⟩
  | 37 => ⟨S_, .f32⟩
  | 38 => ⟨S1x8x3136, .f32⟩
  | 39 => ⟨S_, .f32⟩
  | 40 => ⟨S1x8x3136, .f32⟩
  | 41 => ⟨S1x8x3136, .f32⟩
  | 42 => ⟨S1x8x3136x1, .f32⟩
  | 43 => ⟨S1x8x3136x3136, .f32⟩
  | 44 => ⟨S1x8x3136x3136, .f32⟩
  | 45 => ⟨S1x8x3136x3136, .f32⟩
  | 46 => ⟨S_, .f32⟩
  | 47 => ⟨S1x8x3136, .f32⟩
  | 48 => ⟨S1x8x3136x1, .f32⟩
  | 49 => ⟨S1x8x3136x3136, .f32⟩
  | 50 => ⟨S1x8x3136x3136, .f32⟩
  | 51 => ⟨S1x8x32x3136, .f32⟩
  | 52 => ⟨S1x256x56x56, .f32⟩
  | 53 => ⟨S1x56x56x256, .f32⟩
  | 54 => ⟨S1x256x56x56, .f32⟩
  | 55 => ⟨S1x256x1x1, .f32⟩
  | 56 => ⟨S1x256x56x56, .f32⟩
  | 57 => ⟨S1x256x56x56, .f32⟩
  | 58 => ⟨S_, .i32⟩
  | 59 => ⟨S_, .f32⟩
  | 60 => ⟨S1x256x58x58, .f32⟩
  | 61 => ⟨S1x256x56x56, .f32⟩
  | 62 => ⟨S1x256x56x56, .f32⟩
  | 63 => ⟨S1x256x56x56, .f32⟩
  | 64 => ⟨S1x256x56x56, .f32⟩
  | 65 => ⟨S1x256x56x56, .f32⟩
  | 66 => ⟨S1x256x56x56, .f32⟩
  | 67 => ⟨S1x256x56x56, .f32⟩
  | 68 => ⟨S1x256x56x56, .f32⟩
  | 69 => ⟨S1x256x56x56, .f32⟩
  | 70 => ⟨S128x256x1x1, .f32⟩
  | 71 => ⟨S128x256, .f32⟩
  | 72 => ⟨S1x56x56x128, .f32⟩
  | 73 => ⟨S1x128x56x56, .f32⟩
  | 74 => ⟨S128x256x1x1, .f32⟩
  | 75 => ⟨S128x256, .f32⟩
  | 76 => ⟨S1x56x56x128, .f32⟩
  | 77 => ⟨S1x128x56x56, .f32⟩
  | 78 => ⟨S1x128x56x56, .f32⟩
  | 79 => ⟨S128x256x1x1, .f32⟩
  | 80 => ⟨S128x256, .f32⟩
  | 81 => ⟨S1x56x56x128, .f32⟩
  | 82 => ⟨S1x128x56x56, .f32⟩
  | 83 => ⟨S1x128x56x56, .f32⟩
  | 84 => ⟨S128x256x1x1, .f32⟩
  | 85 => ⟨S128x256, .f32⟩
  | 86 => ⟨S1x56x56x128, .f32⟩
  | 87 => ⟨S1x128x56x56, .f32⟩
  | 88 => ⟨S1x128x56x56, .f32⟩
  | 89 => ⟨S128x256x1x1, .f32⟩
  | 90 => ⟨S128x256, .f32⟩
  | 91 => ⟨S1x56x56x128, .f32⟩
  | 92 => ⟨S1x128x56x56, .f32⟩
  | 93 => ⟨S1x128x56x56, .f32⟩
  | 94 => ⟨S128x256x1x1, .f32⟩
  | 95 => ⟨S128x256, .f32⟩
  | 96 => ⟨S1x56x56x128, .f32⟩
  | 97 => ⟨S1x128x56x56, .f32⟩
  | 98 => ⟨S1x128x56x56, .f32⟩
  | 99 => ⟨S128x256x1x1, .f32⟩
  | 100 => ⟨S128x256, .f32⟩
  | 101 => ⟨S1x56x56x128, .f32⟩
  | 102 => ⟨S1x128x56x56, .f32⟩
  | 103 => ⟨S1x128x56x56, .f32⟩
  | 104 => ⟨S128x256x1x1, .f32⟩
  | 105 => ⟨S128x256, .f32⟩
  | 106 => ⟨S1x56x56x128, .f32⟩
  | 107 => ⟨S1x128x56x56, .f32⟩
  | 108 => ⟨S1x128x56x56, .f32⟩
  | 109 => ⟨S128x256x1x1, .f32⟩
  | 110 => ⟨S128x256, .f32⟩
  | 111 => ⟨S1x56x56x128, .f32⟩
  | 112 => ⟨S1x128x56x56, .f32⟩
  | 113 => ⟨S1x128x56x56, .f32⟩
  | 114 => ⟨S1x128x1x1, .f32⟩
  | 115 => ⟨S1x128x56x56, .f32⟩
  | 116 => ⟨S1x128x56x56, .f32⟩
  | 117 => ⟨S_, .f32⟩
  | 118 => ⟨S1x128x56x56, .f32⟩
  | 119 => ⟨S1x128x56x56, .i1⟩
  | 120 => ⟨S_, .f32⟩
  | 121 => ⟨S1x128x56x56, .f32⟩
  | 122 => ⟨S1x128x56x56, .f32⟩
  | 123 => ⟨S1x128x56x56, .f32⟩
  | 124 => ⟨S1x56x56x9, .f32⟩
  | 125 => ⟨S1x9x56x56, .f32⟩
  | 126 => ⟨S1x9x1x1, .f32⟩
  | 127 => ⟨S1x9x56x56, .f32⟩
  | _ => ⟨S1x256x56x56, .f32⟩

abbrev hbmTy0_2 (i : Nat) : BufTy := match i % 128 with
  | 0 => ⟨S1x9x56x56, .f32⟩
  | 1 => ⟨S_, .f32⟩
  | 2 => ⟨S1x56x56, .f32⟩
  | 3 => ⟨S_, .f32⟩
  | 4 => ⟨S1x56x56, .f32⟩
  | 5 => ⟨S1x56x56, .f32⟩
  | 6 => ⟨S1x1x56x56, .f32⟩
  | 7 => ⟨S1x9x56x56, .f32⟩
  | 8 => ⟨S1x9x56x56, .f32⟩
  | 9 => ⟨S1x9x56x56, .f32⟩
  | 10 => ⟨S_, .f32⟩
  | 11 => ⟨S1x56x56, .f32⟩
  | 12 => ⟨S1x1x56x56, .f32⟩
  | 13 => ⟨S1x9x56x56, .f32⟩
  | 14 => ⟨S1x9x56x56, .f32⟩
  | 15 => ⟨S9, .i32⟩
  | 16 => ⟨S_, .i32⟩
  | 17 => ⟨S9, .i32⟩
  | 18 => ⟨S9, .i1⟩
  | 19 => ⟨S_, .f32⟩
  | 20 => ⟨S_, .f32⟩
  | 21 => ⟨S9, .f32⟩
  | 22 => ⟨S9, .f32⟩
  | 23 => ⟨S9, .f32⟩
  | 24 => ⟨S1x9x1x1, .f32⟩
  | 25 => ⟨S1x9x1x1, .f32⟩
  | 26 => ⟨S1x9x56x56, .f32⟩
  | 27 => ⟨S1x9x56x56, .f32⟩
  | 28 => ⟨S_, .i32⟩
  | 29 => ⟨S_, .f32⟩
  | 30 => ⟨S1x256x58x58, .f32⟩
  | 31 => ⟨S1x256x56x56, .f32⟩
  | 32 => ⟨S1x256x56x56, .f32⟩
  | 33 => ⟨S1x256x56x56, .f32⟩
  | 34 => ⟨S1x256x56x56, .f32⟩
  | 35 => ⟨S1x256x56x56, .f32⟩
  | 36 => ⟨S1x256x56x56, .f32⟩
  | 37 => ⟨S1x256x56x56, .f32⟩
  | 38 => ⟨S1x256x56x56, .f32⟩
  | 39 => ⟨S1x256x56x56, .f32⟩
  | 40 => ⟨S1x256x1x56x56, .f32⟩
  | 41 => ⟨S1x256x1x56x56, .f32⟩
  | 42 => ⟨S1x256x1x56x56, .f32⟩
  | 43 => ⟨S1x256x1x56x56, .f32⟩
  | 44 => ⟨S1x256x1x56x56, .f32⟩
  | 45 => ⟨S1x256x1x56x56, .f32⟩
  | 46 => ⟨S1x256x1x56x56, .f32⟩
  | 47 => ⟨S1x256x1x56x56, .f32⟩
  | 48 => ⟨S1x256x1x56x56, .f32⟩
  | 49 => ⟨S1x256x9x56x56, .f32⟩
  | 50 => ⟨S1x1x9x56x56, .f32⟩
  | 51 => ⟨S1x256x9x56x56, .f32⟩
  | 52 => ⟨S1x256x9x56x56, .f32⟩
  | 53 => ⟨S_, .f32⟩
  | 54 => ⟨S1x256x56x56, .f32⟩
  | 55 => ⟨S1x256x56x56, .f32⟩
  | 56 => ⟨S_, .f32⟩
  | 57 => ⟨S1x256x56x56, .f32⟩
  | 58 => ⟨S1x256x56x56, .f32⟩
  | 59 => ⟨S1x256x56x56, .f32⟩
  | 60 => ⟨S_, .i32⟩
  | 61 => ⟨S_, .f32⟩
  | 62 => ⟨S1x256x58x58, .f32⟩
  | 63 => ⟨S1x256x56x56, .f32⟩
  | 64 => ⟨S1x256x56x56, .f32⟩
  | 65 => ⟨S1x256x56x56, .f32⟩
  | 66 => ⟨S1x256x56x56, .f32⟩
  | 67 => ⟨S1x256x56x56, .f32⟩
  | 68 => ⟨S1x256x56x56, .f32⟩
  | 69 => ⟨S1x256x56x56, .f32⟩
  | 70 => ⟨S1x256x56x56, .f32⟩
  | 71 => ⟨S1x256x56x56, .f32⟩
  | 72 => ⟨S256x256x1x1, .f32⟩
  | 73 => ⟨S256x256, .f32⟩
  | 74 => ⟨S1x56x56x256, .f32⟩
  | 75 => ⟨S1x256x56x56, .f32⟩
  | 76 => ⟨S256x256x1x1, .f32⟩
  | 77 => ⟨S256x256, .f32⟩
  | 78 => ⟨S1x56x56x256, .f32⟩
  | 79 => ⟨S1x256x56x56, .f32⟩
  | 80 => ⟨S1x256x56x56, .f32⟩
  | 81 => ⟨S256x256x1x1, .f32⟩
  | 82 => ⟨S256x256, .f32⟩
  | 83 => ⟨S1x56x56x256, .f32⟩
  | 84 => ⟨S1x256x56x56, .f32⟩
  | 85 => ⟨S1x256x56x56, .f32⟩
  | 86 => ⟨S256x256x1x1, .f32⟩
  | 87 => ⟨S256x256, .f32⟩
  | 88 => ⟨S1x56x56x256, .f32⟩
  | 89 => ⟨S1x256x56x56, .f32⟩
  | 90 => ⟨S1x256x56x56, .f32⟩
  | 91 => ⟨S256x256x1x1, .f32⟩
  | 92 => ⟨S256x256, .f32⟩
  | 93 => ⟨S1x56x56x256, .f32⟩
  | 94 => ⟨S1x256x56x56, .f32⟩
  | 95 => ⟨S1x256x56x56, .f32⟩
  | 96 => ⟨S256x256x1x1, .f32⟩
  | 97 => ⟨S256x256, .f32⟩
  | 98 => ⟨S1x56x56x256, .f32⟩
  | 99 => ⟨S1x256x56x56, .f32⟩
  | 100 => ⟨S1x256x56x56, .f32⟩
  | 101 => ⟨S256x256x1x1, .f32⟩
  | 102 => ⟨S256x256, .f32⟩
  | 103 => ⟨S1x56x56x256, .f32⟩
  | 104 => ⟨S1x256x56x56, .f32⟩
  | 105 => ⟨S1x256x56x56, .f32⟩
  | 106 => ⟨S256x256x1x1, .f32⟩
  | 107 => ⟨S256x256, .f32⟩
  | 108 => ⟨S1x56x56x256, .f32⟩
  | 109 => ⟨S1x256x56x56, .f32⟩
  | 110 => ⟨S1x256x56x56, .f32⟩
  | 111 => ⟨S256x256x1x1, .f32⟩
  | 112 => ⟨S256x256, .f32⟩
  | 113 => ⟨S1x56x56x256, .f32⟩
  | 114 => ⟨S1x256x56x56, .f32⟩
  | 115 => ⟨S1x256x56x56, .f32⟩
  | 116 => ⟨S1x256x1x1, .f32⟩
  | 117 => ⟨S1x256x56x56, .f32⟩
  | 118 => ⟨S1x256x56x56, .f32⟩
  | _ => ⟨S1x256x56x56, .f32⟩

abbrev hbmTy (i : Nat) : BufTy := match i / 128 with
  | 0 => hbmTy0_0 i
  | 1 => hbmTy0_1 i
  | 2 => hbmTy0_2 i
  | _ => ⟨S1x256x56x56, .f32⟩

abbrev bufTy : (tb : Table) → Fin (tcTables nBuf tb) → BufTy
  | .hbm, ⟨i, _⟩ => hbmTy i
  | _, _ => ⟨S1x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_call0_v0 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst : Ref sig .tc := ⟨.hbm, 93, rfl⟩
abbrev main_v71 : Ref sig .tc := ⟨.hbm, 94, rfl⟩
abbrev main_v72 : Ref sig .tc := ⟨.hbm, 95, rfl⟩
abbrev main_cst_0 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_1 : Ref sig .tc := ⟨.hbm, 105, rfl⟩
abbrev main_v81 : Ref sig .tc := ⟨.hbm, 106, rfl⟩
abbrev main_cst_2 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_3 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_c_4 : Ref sig .tc := ⟨.hbm, 119, rfl⟩
abbrev main_call2_v0 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_cst_5 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_cst_6 : Ref sig .tc := ⟨.hbm, 162, rfl⟩
abbrev main_v132 : Ref sig .tc := ⟨.hbm, 163, rfl⟩
abbrev main_v133 : Ref sig .tc := ⟨.hbm, 164, rfl⟩
abbrev main_cst_7 : Ref sig .tc := ⟨.hbm, 165, rfl⟩
abbrev main_v134 : Ref sig .tc := ⟨.hbm, 166, rfl⟩
abbrev main_cst_8 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_cst_9 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_c_10 : Ref sig .tc := ⟨.hbm, 186, rfl⟩
abbrev main_call3_v0 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_cst_11 : Ref sig .tc := ⟨.hbm, 245, rfl⟩
abbrev main_v209 : Ref sig .tc := ⟨.hbm, 246, rfl⟩
abbrev main_v210 : Ref sig .tc := ⟨.hbm, 247, rfl⟩
abbrev main_cst_12 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_cst_13 : Ref sig .tc := ⟨.hbm, 257, rfl⟩
abbrev main_v219 : Ref sig .tc := ⟨.hbm, 258, rfl⟩
abbrev main_cst_14 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_cst_15 : Ref sig .tc := ⟨.hbm, 266, rfl⟩
abbrev main_v226 : Ref sig .tc := ⟨.hbm, 267, rfl⟩
abbrev main_v227 : Ref sig .tc := ⟨.hbm, 268, rfl⟩
abbrev main_v228 : Ref sig .tc := ⟨.hbm, 269, rfl⟩
abbrev main_v229 : Ref sig .tc := ⟨.hbm, 270, rfl⟩
abbrev main_v230 : Ref sig .tc := ⟨.hbm, 271, rfl⟩
abbrev main_c_16 : Ref sig .tc := ⟨.hbm, 272, rfl⟩
abbrev main_v231 : Ref sig .tc := ⟨.hbm, 273, rfl⟩
abbrev main_v232 : Ref sig .tc := ⟨.hbm, 274, rfl⟩
abbrev main_cst_17 : Ref sig .tc := ⟨.hbm, 275, rfl⟩
abbrev main_cst_18 : Ref sig .tc := ⟨.hbm, 276, rfl⟩
abbrev main_call5_v0 : Ref sig .tc := ⟨.hbm, 277, rfl⟩
abbrev main_call5_v1 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_c_19 : Ref sig .tc := ⟨.hbm, 284, rfl⟩
abbrev main_call6_v0 : Ref sig .tc := ⟨.hbm, 285, rfl⟩
abbrev main_v238 : Ref sig .tc := ⟨.hbm, 286, rfl⟩
abbrev main_v239 : Ref sig .tc := ⟨.hbm, 287, rfl⟩
abbrev main_v240 : Ref sig .tc := ⟨.hbm, 288, rfl⟩
abbrev main_v241 : Ref sig .tc := ⟨.hbm, 289, rfl⟩
abbrev main_v242 : Ref sig .tc := ⟨.hbm, 290, rfl⟩
abbrev main_v243 : Ref sig .tc := ⟨.hbm, 291, rfl⟩
abbrev main_v244 : Ref sig .tc := ⟨.hbm, 292, rfl⟩
abbrev main_v245 : Ref sig .tc := ⟨.hbm, 293, rfl⟩
abbrev main_v246 : Ref sig .tc := ⟨.hbm, 294, rfl⟩
abbrev main_v247 : Ref sig .tc := ⟨.hbm, 295, rfl⟩
abbrev main_v248 : Ref sig .tc := ⟨.hbm, 296, rfl⟩
abbrev main_v249 : Ref sig .tc := ⟨.hbm, 297, rfl⟩
abbrev main_v250 : Ref sig .tc := ⟨.hbm, 298, rfl⟩
abbrev main_v251 : Ref sig .tc := ⟨.hbm, 299, rfl⟩
abbrev main_v252 : Ref sig .tc := ⟨.hbm, 300, rfl⟩
abbrev main_v253 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_v257 : Ref sig .tc := ⟨.hbm, 305, rfl⟩
abbrev main_v258 : Ref sig .tc := ⟨.hbm, 306, rfl⟩
abbrev main_v259 : Ref sig .tc := ⟨.hbm, 307, rfl⟩
abbrev main_v260 : Ref sig .tc := ⟨.hbm, 308, rfl⟩
abbrev main_cst_20 : Ref sig .tc := ⟨.hbm, 309, rfl⟩
abbrev main_v261 : Ref sig .tc := ⟨.hbm, 310, rfl⟩
abbrev main_v262 : Ref sig .tc := ⟨.hbm, 311, rfl⟩
abbrev main_cst_21 : Ref sig .tc := ⟨.hbm, 312, rfl⟩
abbrev main_v263 : Ref sig .tc := ⟨.hbm, 313, rfl⟩
abbrev main_v264 : Ref sig .tc := ⟨.hbm, 314, rfl⟩
abbrev main_v265 : Ref sig .tc := ⟨.hbm, 315, rfl⟩
abbrev main_c_22 : Ref sig .tc := ⟨.hbm, 316, rfl⟩
abbrev main_call7_v0 : Ref sig .tc := ⟨.hbm, 317, rfl⟩
abbrev main_v266 : Ref sig .tc := ⟨.hbm, 318, rfl⟩
abbrev main_v267 : Ref sig .tc := ⟨.hbm, 319, rfl⟩
abbrev main_v268 : Ref sig .tc := ⟨.hbm, 320, rfl⟩
abbrev main_v269 : Ref sig .tc := ⟨.hbm, 321, rfl⟩
abbrev main_v270 : Ref sig .tc := ⟨.hbm, 322, rfl⟩
abbrev main_v271 : Ref sig .tc := ⟨.hbm, 323, rfl⟩
abbrev main_v272 : Ref sig .tc := ⟨.hbm, 324, rfl⟩
abbrev main_v273 : Ref sig .tc := ⟨.hbm, 325, rfl⟩
abbrev main_v274 : Ref sig .tc := ⟨.hbm, 326, rfl⟩
abbrev main_v275 : Ref sig .tc := ⟨.hbm, 327, rfl⟩
abbrev main_v276 : Ref sig .tc := ⟨.hbm, 328, rfl⟩
abbrev main_v277 : Ref sig .tc := ⟨.hbm, 329, rfl⟩
abbrev main_v278 : Ref sig .tc := ⟨.hbm, 330, rfl⟩
abbrev main_v279 : Ref sig .tc := ⟨.hbm, 331, rfl⟩
abbrev main_v280 : Ref sig .tc := ⟨.hbm, 332, rfl⟩
abbrev main_v281 : Ref sig .tc := ⟨.hbm, 333, rfl⟩
abbrev main_v282 : Ref sig .tc := ⟨.hbm, 334, rfl⟩
abbrev main_v283 : Ref sig .tc := ⟨.hbm, 335, rfl⟩
abbrev main_v284 : Ref sig .tc := ⟨.hbm, 336, rfl⟩
abbrev main_v285 : Ref sig .tc := ⟨.hbm, 337, rfl⟩
abbrev main_v286 : Ref sig .tc := ⟨.hbm, 338, rfl⟩
abbrev main_v287 : Ref sig .tc := ⟨.hbm, 339, rfl⟩
abbrev main_v288 : Ref sig .tc := ⟨.hbm, 340, rfl⟩
abbrev main_v289 : Ref sig .tc := ⟨.hbm, 341, rfl⟩
abbrev main_v290 : Ref sig .tc := ⟨.hbm, 342, rfl⟩
abbrev main_v291 : Ref sig .tc := ⟨.hbm, 343, rfl⟩
abbrev main_v292 : Ref sig .tc := ⟨.hbm, 344, rfl⟩
abbrev main_v293 : Ref sig .tc := ⟨.hbm, 345, rfl⟩
abbrev main_v294 : Ref sig .tc := ⟨.hbm, 346, rfl⟩
abbrev main_v295 : Ref sig .tc := ⟨.hbm, 347, rfl⟩
abbrev main_v296 : Ref sig .tc := ⟨.hbm, 348, rfl⟩
abbrev main_v297 : Ref sig .tc := ⟨.hbm, 349, rfl⟩
abbrev main_v298 : Ref sig .tc := ⟨.hbm, 350, rfl⟩
abbrev main_v299 : Ref sig .tc := ⟨.hbm, 351, rfl⟩
abbrev main_v300 : Ref sig .tc := ⟨.hbm, 352, rfl⟩
abbrev main_v301 : Ref sig .tc := ⟨.hbm, 353, rfl⟩
abbrev main_v302 : Ref sig .tc := ⟨.hbm, 354, rfl⟩
abbrev main_v303 : Ref sig .tc := ⟨.hbm, 355, rfl⟩
abbrev main_v304 : Ref sig .tc := ⟨.hbm, 356, rfl⟩
abbrev main_v305 : Ref sig .tc := ⟨.hbm, 357, rfl⟩
abbrev main_v306 : Ref sig .tc := ⟨.hbm, 358, rfl⟩
abbrev main_v307 : Ref sig .tc := ⟨.hbm, 359, rfl⟩
abbrev main_v308 : Ref sig .tc := ⟨.hbm, 360, rfl⟩
abbrev main_v309 : Ref sig .tc := ⟨.hbm, 361, rfl⟩
abbrev main_v310 : Ref sig .tc := ⟨.hbm, 362, rfl⟩
abbrev main_v311 : Ref sig .tc := ⟨.hbm, 363, rfl⟩
abbrev main_v312 : Ref sig .tc := ⟨.hbm, 364, rfl⟩
abbrev main_v313 : Ref sig .tc := ⟨.hbm, 365, rfl⟩
abbrev main_v314 : Ref sig .tc := ⟨.hbm, 366, rfl⟩
abbrev main_v315 : Ref sig .tc := ⟨.hbm, 367, rfl⟩
abbrev main_v316 : Ref sig .tc := ⟨.hbm, 368, rfl⟩
abbrev main_v317 : Ref sig .tc := ⟨.hbm, 369, rfl⟩
abbrev main_v318 : Ref sig .tc := ⟨.hbm, 370, rfl⟩
abbrev main_v319 : Ref sig .tc := ⟨.hbm, 371, rfl⟩
abbrev main_v320 : Ref sig .tc := ⟨.hbm, 372, rfl⟩
abbrev main_v321 : Ref sig .tc := ⟨.hbm, 373, rfl⟩
abbrev main_v322 : Ref sig .tc := ⟨.hbm, 374, rfl⟩

abbrev nD : Nat := 1
abbrev τ : Topo := Topo.v7x

variable {F : FTy → Type} [FloatOps F]
-- ==== Proof.PayC.lean ====
/-
  The fusion convolution's body on one block of 128 rows, read at an index: the bias plus, over the nine taps, the product
  of the shifted rows of the summed features with the tap's weights.
-/
module

public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.KernelIdeal.Val
open Cert.KernelIdeal Cert.KernelIdeal.Gen

/-- Where tap `t`'s rows begin inside the 256 loaded rows. -/
def tapRow (t : Fin 9) : ℕ := 5 + t.val / 3 * 58 + t.val % 3

theorem tapRow_le (t : Fin 9) : tapRow t ≤ 123 := by unfold tapRow; omega

/-- The convolution at row `r` of a block whose 256 surrounding rows are `f`. -/
def convC (f : Fin 256 → Fin 256 → EReal) (w : FVec Ideal S9x256x256 .f32) (b : EReal) (r : Fin 128) (c : Fin 256) : EReal :=
  b + ∑ t : Fin 9, ∑ k : Fin 256, f ⟨tapRow t + r, by have := tapRow_le t; omega⟩ k * w (ix3 t k c)

theorem sum9 (f : Fin 9 → EReal) : ∑ t : Fin 9, f t = f 0 + f 1 + f 2 + f 3 + f 4 + f 5 + f 6 + f 7 + f 8 := by
  rw [Fin.sum_univ_castSucc, Fin.sum_univ_eight]; rfl

/-- The first half of the block's rows. -/
theorem payC_lo (a b : FVec Ideal S256x256 .f32) (fb : FVec Ideal S1x256 .f32) (w : FVec Ideal S9x256x256 .f32)
    (w0 w1 w2 w3 w4 w5 w6 w7 w8 : FVec Ideal S1x256x256 .f32)
    (h0 : ∀ k c, w0 (ix3 0 k c) = w (ix3 0 k c)) (h1 : ∀ k c, w1 (ix3 0 k c) = w (ix3 1 k c))
    (h2 : ∀ k c, w2 (ix3 0 k c) = w (ix3 2 k c)) (h3 : ∀ k c, w3 (ix3 0 k c) = w (ix3 3 k c))
    (h4 : ∀ k c, w4 (ix3 0 k c) = w (ix3 4 k c)) (h5 : ∀ k c, w5 (ix3 0 k c) = w (ix3 5 k c))
    (h6 : ∀ k c, w6 (ix3 0 k c) = w (ix3 6 k c)) (h7 : ∀ k c, w7 (ix3 0 k c) = w (ix3 7 k c))
    (h8 : ∀ k c, w8 (ix3 0 k c) = w (ix3 8 k c)) (r : Fin 128) (c : Fin 256) :
    k3_pay5 (F := Ideal) (k3_pay2 a b) (k3_pay3 a b fb w0 w1 w2) (k3_pay4 a b) w3 w4 w5 w6 w7 w8 (ix2 r c)
      = convC (fun r k => a (ix2 r k) + b (ix2 r k)) w (fb (ix2 0 c)) r c := by
  pointwise [k3_pay5, k3_pay2, k3_pay3, k3_pay4]
  simp only [h0, h1, h2, h3, h4, h5, h6, h7, h8]
  unfold convC
  rw [sum9]
  simp only [add_assoc]
  rfl

/-- The second half of the block's rows. -/
theorem payC_hi (a b : FVec Ideal S256x256 .f32) (fb : FVec Ideal S1x256 .f32) (w : FVec Ideal S9x256x256 .f32)
    (w0 w1 w2 w3 w4 w5 w6 w7 w8 : FVec Ideal S1x256x256 .f32)
    (h0 : ∀ k c, w0 (ix3 0 k c) = w (ix3 0 k c)) (h1 : ∀ k c, w1 (ix3 0 k c) = w (ix3 1 k c))
    (h2 : ∀ k c, w2 (ix3 0 k c) = w (ix3 2 k c)) (h3 : ∀ k c, w3 (ix3 0 k c) = w (ix3 3 k c))
    (h4 : ∀ k c, w4 (ix3 0 k c) = w (ix3 4 k c)) (h5 : ∀ k c, w5 (ix3 0 k c) = w (ix3 5 k c))
    (h6 : ∀ k c, w6 (ix3 0 k c) = w (ix3 6 k c)) (h7 : ∀ k c, w7 (ix3 0 k c) = w (ix3 7 k c))
    (h8 : ∀ k c, w8 (ix3 0 k c) = w (ix3 8 k c)) (r : Fin 128) (c : Fin 256) :
    k3_pay1 (F := Ideal) (k3_pay6 a b) (k3_pay7 a b fb w0 w1 w2 w3) (k3_pay8 a b) w4 w5 w6 w7 w8 (ix2 r c)
      = convC (fun r k => a (ix2 r k) + b (ix2 r k)) w (fb (ix2 0 c)) r c := by
  pointwise [k3_pay1, k3_pay6, k3_pay7, k3_pay8]
  simp only [h0, h1, h2, h3, h4, h5, h6, h7, h8]
  unfold convC
  rw [sum9]
  simp only [add_assoc]
  rfl

end Cert.KernelIdeal.Val

end

end
-- ==== Proof.PayA.lean ====
/-
  The vector operations of the first call's body, grouped as the two filters use them, each read at an index of a block of
  128 rows: the depthwise filter, the pointwise layers with their leaky rectifier, the softmax over the nine taps, the
  weighted sum of the taps.
-/
module

public import proofs.«01_k».proof.Proof.PayC

@[expose] public section

set_option maxRecDepth 16384

noncomputable section

open Idealize.ShloMosaic Idealize.ShloMosaic.TcCoe Idealize.SL.Sem

namespace Cert.KernelIdeal.Val
open Cert.KernelIdeal Cert.KernelIdeal.Gen

/-- Nine values as a function of the tap. -/
def fam9 {α : Type} (x0 x1 x2 x3 x4 x5 x6 x7 x8 : α) : Fin 9 → α
  | 0 => x0 | 1 => x1 | 2 => x2 | 3 => x3 | 4 => x4 | 5 => x5 | 6 => x6 | 7 => x7 | 8 => x8

abbrev bc1 (v : FVec Ideal S1x256 .f32) : FVec Ideal S128x256 .f32 :=
  broadcastTo S128x256 (shapeCast S1x256 v shapeCasts_S1x256_S1x256) broadcasts_S1x256_S128x256

/-- The depthwise filter: the bias row plus each tap's rows times the tap's weight row. -/
def dwV (d : Fin 9 → FVec Ideal S128x256 .f32) (w : Fin 9 → FVec Ideal S1x256 .f32) (b : FVec Ideal S1x256 .f32) : FVec Ideal S128x256 .f32 :=
  addf (addf (addf (addf (addf (addf (addf (addf (addf (bc1 b) (mulf (d 0) (bc1 (w 0)))) (mulf (d 1) (bc1 (w 1))))
    (mulf (d 2) (bc1 (w 2)))) (mulf (d 3) (bc1 (w 3)))) (mulf (d 4) (bc1 (w 4)))) (mulf (d 5) (bc1 (w 5))))
    (mulf (d 6) (bc1 (w 6)))) (mulf (d 7) (bc1 (w 7)))) (mulf (d 8) (bc1 (w 8)))

/-- The leaky rectifier. -/
def lrV (z : FVec Ideal S128x128 .f32) : FVec Ideal S128x128 .f32 :=
  select (cmpf .oge z (broadcast S128x128 (Scalar.ofBits .f32 0x00000000#32))) z
    (mulf (broadcast S128x128 (Scalar.ofBits .f32 0x3E4CCCCD#32)) z)

/-- A pointwise layer from 256 to 128 channels, with its bias. -/
def p1V (x : FVec Ideal S128x256 .f32) (p : FVec Ideal S256x128 .f32) (pb : FVec Ideal S1x128 .f32) : FVec Ideal S128x128 .f32 :=
  addf (matmul dot_S128x256_S256x128_S128x128_1_0_0_1_n_n none x (shapeCast S256x128 p shapeCasts_S256x128_S256x128) (constant S128x128 .f32 0x00000000#32))
    (broadcastTo S128x128 (shapeCast S1x128 pb shapeCasts_S1x128_S1x128) broadcasts_S1x128_S128x128)

/-- One tap of the 3 by 3 convolution from 256 to 128 channels. -/
abbrev mm1 (x : FVec Ideal S128x256 .f32) (w : FVec Ideal S1x256x128 .f32) : FVec Ideal S128x128 .f32 :=
  matmul dot_S128x256_S256x128_S128x128_1_0_0_1_n_n none x (shapeCast S256x128 w shapeCasts_S1x256x128_S256x128) (constant S128x128 .f32 0x00000000#32)

/-- The 3 by 3 convolution from 256 to 128 channels, with its bias. -/
def c1V (e : Fin 9 → FVec Ideal S128x256 .f32) (w : Fin 9 → FVec Ideal S1x256x128 .f32) (b : FVec Ideal S1x128 .f32) : FVec Ideal S128x128 .f32 :=
  addf (addf (addf (addf (addf (addf (addf (addf (addf (mm1 (e 0) (w 0)) (mm1 (e 1) (w 1))) (mm1 (e 2) (w 2))) (mm1 (e 3) (w 3)))
    (mm1 (e 4) (w 4))) (mm1 (e 5) (w 5))) (mm1 (e 6) (w 6))) (mm1 (e 7) (w 7))) (mm1 (e 8) (w 8)))
    (broadcastTo S128x128 (shapeCast S1x128 b shapeCasts_S1x128_S1x128) broadcasts_S1x128_S128x128)

/-- The layer giving the nine tap logits. -/
def lgV (h : FVec Ideal S128x128 .f32) (p : FVec Ideal S128x9 .f32) (pb : FVec Ideal S1x9 .f32) : FVec Ideal S128x9 .f32 :=
  addf (matmul dot_S128x128_S128x9_S128x9_1_0_0_1_n_n none h (shapeCast S128x9 p shapeCasts_S128x9_S128x9) (constant S128x9 .f32 0x00000000#32))
    (broadcastTo S128x9 (shapeCast S1x9 pb shapeCasts_S1x9_S1x9) broadcasts_S1x9_S128x9)

/-- The softmax over the nine taps. -/
def smV (l : FVec Ideal S128x9 .f32) : FVec Ideal S128x9 .f32 :=
  let e := exp (subf l (broadcastTo S128x9 (shapeCast S128x1
    (multiReduction .maximumf [1] S128 l 0xFF800000#32 reduces_S128x9_S128 (.inl rfl) rfl) shapeCasts_S128_S128x1) broadcasts_S128x1_S128x9))
  divf e (broadcastTo S128x9 (shapeCast S128x1
    (multiReduction .add [1] S128 e 0x00000000#32 reduces_S128x9_S128 (.inl rfl) rfl) shapeCasts_S128_S128x1) broadcasts_S128x1_S128x9)

abbrev bcc (v : FVec Ideal S128x1 .f32) : FVec Ideal S128x256 .f32 := broadcastTo S128x256 v broadcasts_S128x1_S128x256

/-- The taps summed with the weights of the row. -/
def wsV (d : Fin 9 → FVec Ideal S128x256 .f32) (k : FVec Ideal S128x9 .f32) : FVec Ideal S128x256 .f32 :=
  addf (addf (addf (addf (addf (addf (addf (addf
    (mulf (d 0) (bcc (extractStridedSlice S128x1 ![0, 0] k slices_S128x9_o0_0_S128x1)))
    (mulf (d 1) (bcc (extractStridedSlice S128x1 ![0, 1] k slices_S128x9_o0_1_S128x1))))
    (mulf (d 2) (bcc (extractStridedSlice S128x1 ![0, 2] k slices_S128x9_o0_2_S128x1))))
    (mulf (d 3) (bcc (extractStridedSlice S128x1 ![0, 3] k slices_S128x9_o0_3_S128x1))))
    (mulf (d 4) (bcc (extractStridedSlice S128x1 ![0, 4] k slices_S128x9_o0_4_S128x1))))
    (mulf (d 5) (bcc (extractStridedSlice S128x1 ![0, 5] k slices_S128x9_o0_5_S128x1))))
    (mulf (d 6) (bcc (extractStridedSlice S128x1 ![0, 6] k slices_S128x9_o0_6_S128x1))))
    (mulf (d 7) (bcc (extractStridedSlice S128x1 ![0, 7] k slices_S128x9_o0_7_S128x1))))
    (mulf (d 8) (bcc (extractStridedSlice S128x1 ![0, 8] k slices_S128x9_o0_8_S128x1)))

/-- The query layer. -/
def qV (x : FVec Ideal S128x256 .f32) (w : FVec Ideal S256x256 .f32) (b : FVec Ideal S1x256 .f32) : FVec Ideal S128x256 .f32 :=
  addf (matmul dot_S128x256_S256x256_S128x256_1_0_0_1_n_n none x (shapeCast S256x256 w shapeCasts_S256x256_S256x256) (constant S128x256 .f32 0x00000000#32)) (bc1 b)

/-- Twice the centre tap less the weighted sum. -/
def fhV (e4 acc : FVec Ideal S128x256 .f32) : FVec Ideal S128x256 .f32 :=
  subf (mulf (broadcast S128x256 (Scalar.ofBits .f32 0x40000000#32)) e4) acc

theorem dwV_at (d : Fin 9 → FVec Ideal S128x256 .f32) (w : Fin 9 → FVec Ideal S1x256 .f32) (b : FVec Ideal S1x256 .f32)
    (r : Fin 128) (c : Fin 256) : dwV d w b (ix2 r c) = b (ix2 0 c) + ∑ t, d t (ix2 r c) * w t (ix2 0 c) := by
  pointwise [dwV]
  rw [sum9]; simp only [add_assoc]

/-- The leaky rectifier of one number. -/
def lrelu (x : EReal) : EReal := if 0 ≤ x then x else Ideal.ofBits .f32 0x3E4CCCCD#32 * x

theorem lrV_at (z : FVec Ideal S128x128 .f32) (r o : Fin 128) : lrV z (ix2 r o) = lrelu (z (ix2 r o)) := by
  pointwise [lrV, lrelu]

theorem p1V_at (x : FVec Ideal S128x256 .f32) (p : FVec Ideal S256x128 .f32) (pb : FVec Ideal S1x128 .f32) (r o : Fin 128) :
    p1V x p pb (ix2 r o) = (∑ c : Fin 256, x (ix2 r c) * p (ix2 c o)) + pb (ix2 0 o) := by
  pointwise [p1V]

theorem c1V_at (e : Fin 9 → FVec Ideal S128x256 .f32) (w : Fin 9 → FVec Ideal S1x256x128 .f32) (b : FVec Ideal S1x128 .f32) (r o : Fin 128) :
    c1V e w b (ix2 r o) = (∑ t, ∑ c : Fin 256, e t (ix2 r c) * w t (ix3 0 c o)) + b (ix2 0 o) := by
  pointwise [c1V]
  rw [sum9]

theorem lgV_at (h : FVec Ideal S128x128 .f32) (p : FVec Ideal S128x9 .f32) (pb : FVec Ideal S1x9 .f32) (r : Fin 128) (t : Fin 9) :
    lgV h p pb (ix2 r t) = (∑ o : Fin 128, h (ix2 r o) * p (ix2 o t)) + pb (ix2 0 t) := by
  pointwise [lgV]

/-- The softmax of nine numbers, the largest subtracted first. -/
def sm9 (l : Fin 9 → EReal) (t : Fin 9) : EReal :=
  Ideal.div (Ideal.exp (l t - Finset.univ.fold max (Ideal.ofBits .f32 0xFF800000#32) l))
    (∑ s, Ideal.exp (l s - Finset.univ.fold max (Ideal.ofBits .f32 0xFF800000#32) l))

theorem smV_at (l : FVec Ideal S128x9 .f32) (r : Fin 128) (t : Fin 9) : smV l (ix2 r t) = sm9 (fun s => l (ix2 r s)) t := by
  pointwise [smV, sm9]

theorem wsV_at (d : Fin 9 → FVec Ideal S128x256 .f32) (k : FVec Ideal S128x9 .f32) (r : Fin 128) (c : Fin 256) :
    wsV d k (ix2 r c) = ∑ t, d t (ix2 r c) * k (ix2 r t) := by
  pointwise [wsV]
  rw [sum9]; try rfl

theorem qV_at (x : FVec Ideal S128x256 .f32) (w : FVec Ideal S256x256 .f32) (b : FVec Ideal S1x256 .f32) (r : Fin 128) (c : Fin 256) :
    qV x w b (ix2 r c) = (∑ k : Fin 256, x (ix2 r k) * w (ix2 k c)) + b (ix2 0 c) := by
  pointwise [qV]

theorem fhV_at (e4 acc : FVec Ideal S128x256 .f32) (r : Fin 128) (c : Fin 256) :
    fhV e4 acc (ix2 r c) = Ideal.ofBits .f32 0x40000000#32 * e4 (ix2 r c) - acc (ix2 r c) := by
  pointwise [fhV]

end Cert.KernelIdeal.Val

end

end
-- ==== Proof.PayA2.lean ====
/-
  The first call's stored blocks: the queries and the high-frequency features of 128 rows, read at an index as the two
  filters' scalar formulas over the rows of the 256 loaded ones.
-/
module

public import proofs.«01_k».proof.Proof.PayA

@[expose] public section

set_option maxRecDepth 16384

noncomputable section

open Idealize.ShloMosaic Idealize.ShloMosaic.TcCoe Idealize.SL.Sem

namespace Cert.KernelIdeal.Val
open Cert.KernelIdeal Cert.KernelIdeal.Gen

/-- The nine tap logits of the low-pass filter from the nine neighbours' channels. -/
def lgD (x : Fin 9 → Fin 256 → EReal) (w : Fin 9 → Fin 256 → EReal) (b : Fin 256 → EReal) (p1 : Fin 256 → Fin 128 → EReal) (p1b : Fin 128 → EReal)
    (p2 : Fin 128 → Fin 9 → EReal) (p2b : Fin 9 → EReal) (t : Fin 9) : EReal :=
  (∑ o : Fin 128, lrelu ((∑ c : Fin 256, (b c + ∑ s, x s c * w s c) * p1 c o) + p1b o) * p2 o t) + p2b t
/-- The nine tap logits of the high-pass filter from the nine neighbours' channels. -/
def lgE (x : Fin 9 → Fin 256 → EReal) (c1 : Fin 9 → Fin 256 → Fin 128 → EReal) (c1b : Fin 128 → EReal)
    (c2 : Fin 128 → Fin 9 → EReal) (c2b : Fin 9 → EReal) (t : Fin 9) : EReal :=
  (∑ o : Fin 128, lrelu ((∑ s, ∑ c : Fin 256, x s c * c1 s c o) + c1b o) * c2 o t) + c2b t
/-- The neighbours weighted by the softmax of the logits. -/
def wsum (x : Fin 9 → Fin 256 → EReal) (l : Fin 9 → EReal) (c : Fin 256) : EReal := ∑ t, x t c * sm9 l t

/-- The nine tap slices of the loaded rows. -/
def taps (D : FVec Ideal S256x256 .f32) : Fin 9 → FVec Ideal S128x256 .f32 :=
  fam9 (k0_pay3 D) (k0_pay4 D) (k0_pay5 D) (k0_pay6 D) (k0_pay7 D) (k0_pay8 D) (k0_pay9 D) (k0_pay10 D) (k0_pay11 D)

theorem taps_at (D : FVec Ideal S256x256 .f32) (t : Fin 9) (r : Fin 128) (c : Fin 256) :
    taps D t (ix2 r c) = D (ix2 ⟨tapRow t + r, by have := tapRow_le t; omega⟩ c) := by
  fin_cases t <;> (show _ = D (ix2 ⟨_ + r.val, _⟩ c))
  · show k0_pay3 (F := Ideal) D (ix2 r c) = _
    pointwise [k0_pay3, k0_pay1]
    rfl
  · show k0_pay4 (F := Ideal) D (ix2 r c) = _
    pointwise [k0_pay4, k0_pay1]
    rfl
  · show k0_pay5 (F := Ideal) D (ix2 r c) = _
    pointwise [k0_pay5, k0_pay1]
    rfl
  · show k0_pay6 (F := Ideal) D (ix2 r c) = _
    pointwise [k0_pay6, k0_pay1]
    rfl
  · show k0_pay7 (F := Ideal) D (ix2 r c) = _
    pointwise [k0_pay7, k0_pay1]
    rfl
  · show k0_pay8 (F := Ideal) D (ix2 r c) = _
    pointwise [k0_pay8, k0_pay1]
    rfl
  · show k0_pay9 (F := Ideal) D (ix2 r c) = _
    pointwise [k0_pay9, k0_pay1]
    rfl
  · show k0_pay10 (F := Ideal) D (ix2 r c) = _
    pointwise [k0_pay10, k0_pay1]
    rfl
  · show k0_pay11 (F := Ideal) D (ix2 r c) = _
    pointwise [k0_pay11, k0_pay1]
    rfl

/-- The block of queries. -/
def qBlk (D : FVec Ideal S256x256 .f32) (b : FVec Ideal S1x256 .f32) (W : Fin 9 → FVec Ideal S1x256 .f32) (p1 : FVec Ideal S256x128 .f32)
    (p1b : FVec Ideal S1x128 .f32) (p2 : FVec Ideal S128x9 .f32) (p2b : FVec Ideal S1x9 .f32) (qw : FVec Ideal S256x256 .f32)
    (qb : FVec Ideal S1x256 .f32) : FVec Ideal S128x256 .f32 :=
  qV (wsV (taps D) (smV (lgV (lrV (p1V (dwV (taps D) W b) p1 p1b)) p2 p2b))) qw qb
/-- The block of high-frequency features, before the border is cleared. -/
def fhBlk (E : FVec Ideal S256x256 .f32) (C : Fin 9 → FVec Ideal S1x256x128 .f32) (c1b : FVec Ideal S1x128 .f32) (c2 : FVec Ideal S128x9 .f32)
    (c2b : FVec Ideal S1x9 .f32) : FVec Ideal S128x256 .f32 :=
  fhV (taps E 4) (wsV (taps E) (smV (lgV (lrV (c1V (taps E) C c1b)) c2 c2b)))

section
variable (D : FVec Ideal S256x256 .f32) (b : FVec Ideal S1x256 .f32) (W0 W1 W2 W3 W4 W5 W6 W7 W8 : FVec Ideal S1x256 .f32) (p1 : FVec Ideal S256x128 .f32)
  (p1b : FVec Ideal S1x128 .f32) (p2 : FVec Ideal S128x9 .f32) (p2b : FVec Ideal S1x9 .f32) (qw : FVec Ideal S256x256 .f32) (qb : FVec Ideal S1x256 .f32)
/-- The first half's queries. -/
theorem q_lo : k0_pay27 (k0_pay11 D)
      (k0_pay25 (k0_pay3 D) (k0_pay4 D) (k0_pay5 D) (k0_pay6 D) (k0_pay7 D) (k0_pay8 D) (k0_pay9 D) (k0_pay10 D)
        (k0_pay22 (k0_pay5 D) (k0_pay6 D) (k0_pay7 D) (k0_pay8 D) (k0_pay9 D) (k0_pay10 D) (k0_pay11 D)
          (k0_pay21 D b W0 W1) W2 W3 W4 W5 W6 W7 W8 p1 p1b) k0_pay23 p2 p2b)
      (k0_pay26
        (k0_pay22 (k0_pay5 D) (k0_pay6 D) (k0_pay7 D) (k0_pay8 D) (k0_pay9 D) (k0_pay10 D) (k0_pay11 D)
          (k0_pay21 D b W0 W1) W2 W3 W4 W5 W6 W7 W8 p1 p1b) k0_pay23 p2 p2b) qw qb
    = qBlk D b (fam9 W0 W1 W2 W3 W4 W5 W6 W7 W8) p1 p1b p2 p2b qw qb := rfl
/-- The second half's queries. -/
theorem q_hi : k0_pay58
      (k0_pay57 (k0_pay37 D) (k0_pay38 D) (k0_pay39 D) (k0_pay40 D) (k0_pay41 D) (k0_pay42 D) (k0_pay43 D) (k0_pay44 D) (k0_pay45 D)
        (k0_pay56 (k0_pay40 D) (k0_pay41 D) (k0_pay42 D) (k0_pay43 D) (k0_pay44 D) (k0_pay45 D)
          (k0_pay55 D b W0 W1 W2) W3 W4 W5 W6 W7 W8 p1 p1b) p2 p2b) qw qb
    = qBlk D b (fam9 W0 W1 W2 W3 W4 W5 W6 W7 W8) p1 p1b p2 p2b qw qb := rfl
end
section
variable (E : FVec Ideal S256x256 .f32) (C0 C1 C2 C3 C4 C5 C6 C7 C8 : FVec Ideal S1x256x128 .f32) (c1b : FVec Ideal S1x128 .f32) (c2 : FVec Ideal S128x9 .f32)
  (c2b : FVec Ideal S1x9 .f32)
/-- The first half's features. -/
theorem fh_lo : k0_pay30 (k0_pay12 E) (k0_pay13 E) (k0_pay14 E) (k0_pay15 E) (k0_pay16 E) (k0_pay17 E) (k0_pay18 E) (k0_pay19 E) (k0_pay20 E)
        (k0_pay29 (k0_pay17 E) (k0_pay18 E) (k0_pay19 E) (k0_pay20 E)
          (k0_pay28 (k0_pay12 E) (k0_pay13 E) (k0_pay14 E) (k0_pay15 E) (k0_pay16 E) C0 C1 C2 C3 C4) C5 C6 C7 C8 c1b c2 c2b)
    = fhBlk E (fam9 C0 C1 C2 C3 C4 C5 C6 C7 C8) c1b c2 c2b := rfl
/-- The second half's features. -/
theorem fh_hi : k0_pay61 (k0_pay46 E) (k0_pay47 E) (k0_pay48 E) (k0_pay49 E) (k0_pay50 E) (k0_pay51 E) (k0_pay52 E) (k0_pay53 E) (k0_pay54 E)
        (k0_pay60 (k0_pay52 E) (k0_pay53 E) (k0_pay54 E)
          (k0_pay59 (k0_pay46 E) (k0_pay47 E) (k0_pay48 E) (k0_pay49 E) (k0_pay50 E) (k0_pay51 E) C0 C1 C2 C3 C4 C5) C6 C7 C8 c1b c2 c2b)
    = fhBlk E (fam9 C0 C1 C2 C3 C4 C5 C6 C7 C8) c1b c2 c2b := rfl
end

/-- A fact of each of the nine is one of every tap. -/
theorem fam9_all {α : Type} {P : Fin 9 → α → Prop} {x0 x1 x2 x3 x4 x5 x6 x7 x8 : α} (h0 : P 0 x0) (h1 : P 1 x1) (h2 : P 2 x2) (h3 : P 3 x3)
    (h4 : P 4 x4) (h5 : P 5 x5) (h6 : P 6 x6) (h7 : P 7 x7) (h8 : P 8 x8) : ∀ t, P t (fam9 x0 x1 x2 x3 x4 x5 x6 x7 x8 t)
  | 0 => h0 | 1 => h1 | 2 => h2 | 3 => h3 | 4 => h4 | 5 => h5 | 6 => h6 | 7 => h7 | 8 => h8

theorem qBlk_at (D : FVec Ideal S256x256 .f32) (b : FVec Ideal S1x256 .f32) (W : Fin 9 → FVec Ideal S1x256 .f32) (p1 : FVec Ideal S256x128 .f32)
    (p1b : FVec Ideal S1x128 .f32) (p2 : FVec Ideal S128x9 .f32) (p2b : FVec Ideal S1x9 .f32) (qw : FVec Ideal S256x256 .f32)
    (qb : FVec Ideal S1x256 .f32) (x w : Fin 9 → Fin 256 → EReal) (r : Fin 128) (hx : ∀ t c, taps D t (ix2 r c) = x t c)
    (hw : ∀ t c, W t (ix2 0 c) = w t c) (c : Fin 256) :
    qBlk D b W p1 p1b p2 p2b qw qb (ix2 r c) = (∑ k : Fin 256, wsum x (lgD x w (fun c => b (ix2 0 c))
      (fun c o => p1 (ix2 c o)) (fun o => p1b (ix2 0 o)) (fun o t => p2 (ix2 o t)) (fun t => p2b (ix2 0 t))) k * qw (ix2 k c)) + qb (ix2 0 c) := by
  unfold qBlk
  simp only [qV_at, wsV_at, smV_at, lgV_at, lrV_at, p1V_at, dwV_at, hx, hw]
  rfl

theorem fhBlk_at (E : FVec Ideal S256x256 .f32) (C : Fin 9 → FVec Ideal S1x256x128 .f32) (c1b : FVec Ideal S1x128 .f32) (c2 : FVec Ideal S128x9 .f32)
    (c2b : FVec Ideal S1x9 .f32) (x : Fin 9 → Fin 256 → EReal) (w : Fin 9 → Fin 256 → Fin 128 → EReal) (r : Fin 128)
    (hx : ∀ t c, taps E t (ix2 r c) = x t c) (hw : ∀ t k o, C t (ix3 0 k o) = w t k o) (c : Fin 256) :
    fhBlk E C c1b c2 c2b (ix2 r c) = Ideal.ofBits .f32 0x40000000#32 * x 4 c - wsum x (lgE x w (fun o => c1b (ix2 0 o))
      (fun o t => c2 (ix2 o t)) (fun t => c2b (ix2 0 t))) c := by
  unfold fhBlk
  simp only [fhV_at, wsV_at, smV_at, lgV_at, lrV_at, c1V_at, hx, hw]
  rfl

end Cert.KernelIdeal.Val

end

end
-- ==== Proof.Model.lean ====
/-
  The layer over plain functions of channel, row and column: what each stage of the kernel computes, and what each stage of the
  reference computes. The two differ in the queries (the kernel scales their weights), in the attention (the kernel divides a sum of
  unnormalised terms by the sum of the weights) and in the high pass part (the kernel subtracts a weighted sum from twice the image).
-/
module

public import proofs.«01_k».proof.Proof.PayA2

@[expose] public section

noncomputable section

open Idealize.ShloMosaic Idealize.ShloMosaic.TcCoe Idealize.SL.Sem

namespace Cert.KernelIdeal.Val

/-- The arguments, each over its own coordinates; a 3x3 tap is one coordinate. -/
structure Params where
  dec : Fin 256 → Fin 56 → Fin 56 → EReal
  enc : Fin 256 → Fin 56 → Fin 56 → EReal
  dww : Fin 256 → Fin 9 → EReal
  dwb : Fin 256 → EReal
  p1w : Fin 128 → Fin 256 → EReal
  p1b : Fin 128 → EReal
  p2w : Fin 9 → Fin 128 → EReal
  p2b : Fin 9 → EReal
  c1w : Fin 128 → Fin 256 → Fin 9 → EReal
  c1b : Fin 128 → EReal
  c2w : Fin 9 → Fin 128 → EReal
  c2b : Fin 9 → EReal
  qw : Fin 256 → Fin 256 → EReal
  qb : Fin 256 → EReal
  kvw : Fin 512 → Fin 256 → EReal
  kvb : Fin 512 → EReal
  ow : Fin 256 → Fin 256 → EReal
  ob : Fin 256 → EReal
  fw : Fin 256 → Fin 256 → Fin 9 → EReal
  fb : Fin 256 → EReal

/-- The scale of the queries, 0.1767767. -/
abbrev qscale : EReal := Ideal.ofBits .f32 0x3E3504F3#32

/-- Pixel `(i, j)` of the image with one ring of zeros around it. -/
def padF (x : Fin 256 → Fin 56 → Fin 56 → EReal) (c : Fin 256) (i j : ℕ) : EReal :=
  if h : (1 ≤ i ∧ i ≤ 56) ∧ (1 ≤ j ∧ j ≤ 56) then x c ⟨i - 1, by omega⟩ ⟨j - 1, by omega⟩ else 0

/-- The nine neighbours of pixel `(a, b)`. -/
def tap (x : Fin 256 → Fin 56 → Fin 56 → EReal) (a b : Fin 56) (t : Fin 9) (c : Fin 256) : EReal :=
  padF x c (a.val + t.val / 3) (b.val + t.val % 3)

/-- Channel `d` of head `h`. -/
abbrev hd (h : Fin 8) (d : Fin 32) : Fin 256 := ⟨h.val * 32 + d.val, by omega⟩

variable (P : Params)

/-- The low pass filter's logits. -/
def logD (a b : Fin 56) : Fin 9 → EReal :=
  lgD (tap P.dec a b) (fun t c => P.dww c t) P.dwb (fun c o => P.p1w o c) P.p1b (fun o t => P.p2w t o) P.p2b
/-- The high pass filter's logits. -/
def logE (a b : Fin 56) : Fin 9 → EReal :=
  lgE (tap P.enc a b) (fun t c o => P.c1w o c t) P.c1b (fun o t => P.c2w t o) P.c2b
/-- The smoothed decoder features. -/
def smooth (a b : Fin 56) (c : Fin 256) : EReal := wsum (tap P.dec a b) (logD P a b) c
/-- The row and column of a flat pixel. -/
abbrev rowOf (n : Fin 3136) : Fin 56 := ⟨n.val / 56, by omega⟩
abbrev colOf (n : Fin 3136) : Fin 56 := ⟨n.val % 56, by omega⟩
/-- The keys (first 256 rows) and values (last 256 rows). -/
def kvF (r : Fin 512) (m : Fin 3136) : EReal := (∑ c : Fin 256, P.kvw r c * P.enc c (rowOf m) (colOf m)) + P.kvb r
abbrev keyF (h : Fin 8) (d : Fin 32) (m : Fin 3136) : EReal := kvF P ⟨(hd h d).val, by omega⟩ m
abbrev valF (h : Fin 8) (d : Fin 32) (m : Fin 3136) : EReal := kvF P ⟨256 + (hd h d).val, by omega⟩ m
/-- The output projection of the heads' results. -/
def align (A : Fin 3136 → Fin 8 → Fin 32 → EReal) (n : Fin 3136) (o : Fin 256) : EReal :=
  (∑ h : Fin 8, ∑ d : Fin 32, A n h d * P.ow o (hd h d)) + P.ob o
/-- The flat position of a pixel. -/
abbrev pix (a b : Fin 56) : Fin 3136 := ⟨a.val * 56 + b.val, by omega⟩
/-- The last convolution of an image. -/
def fuse (X : Fin 256 → Fin 56 → Fin 56 → EReal) (o : Fin 256) (a b : Fin 56) : EReal :=
  P.fb o + ∑ t : Fin 9, ∑ k : Fin 256, tap X a b t k * P.fw o k t

/-! ### The kernel's stages -/

def qK (n : Fin 3136) (j : Fin 256) : EReal :=
  (∑ k : Fin 256, smooth P (rowOf n) (colOf n) k * (qscale * P.qw j k)) + qscale * P.qb j
def scoreK (n : Fin 3136) (h : Fin 8) (m : Fin 3136) : EReal := ∑ e : Fin 32, qK P n (hd h e) * keyF P h e m
def attK (n : Fin 3136) (h : Fin 8) (d : Fin 32) : EReal :=
  Ideal.div (∑ m : Fin 3136, Ideal.exp (scoreK P n h m) * valF P h d m) (∑ m : Fin 3136, Ideal.exp (scoreK P n h m))
def highK (c : Fin 256) (a b : Fin 56) : EReal :=
  Ideal.ofBits .f32 0x40000000#32 * P.enc c a b - wsum (tap P.enc a b) (logE P a b) c
def outK (o : Fin 256) (a b : Fin 56) : EReal := fuse P (fun c i j => align P (attK P) (pix i j) c + highK P c i j) o a b

/-! ### The reference's stages -/

def qR (n : Fin 3136) (j : Fin 256) : EReal :=
  (∑ k : Fin 256, smooth P (rowOf n) (colOf n) k * P.qw j k) + P.qb j
def scoreR (n : Fin 3136) (h : Fin 8) (m : Fin 3136) : EReal := (∑ e : Fin 32, qR P n (hd h e) * keyF P h e m) * qscale
def topR (n : Fin 3136) (h : Fin 8) : EReal := (Finset.univ : Finset (Fin 3136)).fold max (Ideal.ofBits .f32 0xFF800000#32) (scoreR P n h)
def attR (n : Fin 3136) (h : Fin 8) (d : Fin 32) : EReal :=
  ∑ m : Fin 3136, Ideal.div (Ideal.exp (scoreR P n h m - topR P n h)) (∑ m' : Fin 3136, Ideal.exp (scoreR P n h m' - topR P n h)) * valF P h d m
def highR (c : Fin 256) (a b : Fin 56) : EReal :=
  P.enc c a b + ∑ t : Fin 9, tap P.enc a b t c * ((if t = 4 then 1 else 0) - sm9 (logE P a b) t)
def outR (o : Fin 256) (a b : Fin 56) : EReal := fuse P (fun c i j => align P (attR P) (pix i j) c + highR P c i j) o a b

end Cert.KernelIdeal.Val

end

end
-- ==== Proof.Alg.lean ====
/-
  Real numbers among the extended reals: sums, quotients, the softmax.
-/
module

public import proofs.«01_k».proof.Proof.Model

@[expose] public section

set_option maxRecDepth 16384

noncomputable section

open Idealize.ShloMosaic Idealize.ShloMosaic.TcCoe Idealize.SL.Sem
open Idealize.ShloMosaic.Pipeline (Dat)

namespace Cert.KernelIdeal.Val
open Cert.KernelIdeal Cert.KernelIdeal.Gen

/-- A real number among the extended reals. -/
def IsR (x : EReal) : Prop := ∃ r : ℝ, x = (r : EReal)

theorem IsR.coe (r : ℝ) : IsR (r : EReal) := ⟨r, rfl⟩
theorem IsR.zero : IsR 0 := ⟨0, rfl⟩
theorem IsR.one : IsR 1 := ⟨1, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩

/-- A sum of reals among the extended reals is the real sum. -/
theorem coe_sum {ι : Type} [Fintype ι] (f : ι → ℝ) : (∑ i, ((f i : ℝ) : EReal)) = ((∑ i, f i : ℝ) : EReal) := by
  classical
  refine Finset.induction_on (Finset.univ : Finset ι) rfl fun a s ha ih => ?_
  rw [Finset.sum_insert ha, Finset.sum_insert ha, ih, EReal.coe_add]

theorem IsR.sum {ι : Type} [Fintype ι] {f : ι → EReal} (h : ∀ i, IsR (f i)) : IsR (∑ i, f i) := by
  choose g hg using h
  exact ⟨∑ i, g i, by rw [← coe_sum]; exact Finset.sum_congr rfl fun i _ => hg i⟩

theorem IsR.ite {p : Prop} [Decidable p] {x y : EReal} (hx : IsR x) (hy : IsR y) : IsR (if p then x else y) := by
  split <;> assumption

/-- The quotient of two reals by a nonzero one. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem exp_coe (a : ℝ) : Ideal.exp (a : EReal) = (Real.exp a : EReal) := rfl

theorem negInf : Ideal.ofBits .f32 0xFF800000#32 = ⊥ := by
  simp [Ideal.ofBits, Ideal.ieee]

/-- The largest of finitely many reals is a real. -/
theorem IsR.top {n : ℕ} (hn : 0 < n) {f : Fin n → EReal} (h : ∀ i, IsR (f i)) :
    IsR ((Finset.univ : Finset (Fin n)).fold max (Ideal.ofBits .f32 0xFF800000#32) f) := by
  have key : ∀ s : Finset (Fin n), s.fold max ⊥ f = ⊥ ∧ s = ∅ ∨ IsR (s.fold max ⊥ f) := by
    intro s
    induction s using Finset.induction_on with
    | empty => exact Or.inl ⟨rfl, rfl⟩
    | insert a s ha ih =>
      right
      rw [Finset.fold_insert ha]
      rcases ih with ⟨e, -⟩ | ih
      · rw [e, max_eq_left bot_le]; exact h a
      · rcases max_choice (f a) (s.fold max ⊥ f) with e | e <;> rw [e]
        · exact h a
        · exact ih
  rw [negInf]
  rcases key Finset.univ with ⟨-, e⟩ | e
  · exact absurd (Finset.mem_univ (⟨0, hn⟩ : Fin n)) (by rw [e]; exact Finset.notMem_empty _)
  · exact e

theorem sum_exp_pos {n : ℕ} (hn : 0 < n) (s : Fin n → ℝ) : (0 : ℝ) < ∑ i, Real.exp (s i) :=
  Finset.sum_pos (fun i _ => Real.exp_pos _) ⟨⟨0, hn⟩, Finset.mem_univ _⟩

/-- The sum of unnormalised terms over the sum of weights is the sum of normalised terms, a constant subtracted first. -/
theorem soft_quot {n : ℕ} (hn : 0 < n) {s v : Fin n → EReal} (hs : ∀ i, IsR (s i)) (hv : ∀ i, IsR (v i)) {M : EReal} (hM : IsR M) :
    Ideal.div (∑ i, Ideal.exp (s i) * v i) (∑ i, Ideal.exp (s i))
      = ∑ i, Ideal.div (Ideal.exp (s i - M)) (∑ j, Ideal.exp (s j - M)) * v i := by
  choose s' hs using hs
  choose v' hv using hv
  obtain ⟨M, rfl⟩ := hM
  have h1 := sum_exp_pos hn s'
  have h2 := sum_exp_pos hn (fun i => s' i - M)
  simp only [hs, hv, ← EReal.coe_sub, exp_coe, ← EReal.coe_mul, coe_sum]
  rw [div_coe _ _ h1.ne']
  simp only [div_coe _ _ h2.ne', ← EReal.coe_mul, coe_sum]
  refine congrArg _ ?_
  have e : ∀ i, Real.exp (s' i - M) = Real.exp (s' i) * Real.exp (-M) := fun i => by rw [sub_eq_add_neg, Real.exp_add]
  simp only [e, ← Finset.sum_mul] at h2 ⊢
  rw [Finset.sum_div]
  refine Finset.sum_congr rfl fun i _ => ?_
  have h3 := (Real.exp_pos (-M)).ne'
  field_simp

/-- A softmax weight of reals is real. -/
theorem IsR.soft {n : ℕ} (hn : 0 < n) {s : Fin n → EReal} (hs : ∀ i, IsR (s i)) {M : EReal} (hM : IsR M) (i : Fin n) :
    IsR (Ideal.div (Ideal.exp (s i - M)) (∑ j, Ideal.exp (s j - M))) := by
  choose s' hs using hs
  obtain ⟨M, rfl⟩ := hM
  have h2 := sum_exp_pos hn (fun i => s' i - M)
  simp only [hs, ← EReal.coe_sub, exp_coe, coe_sum]
  rw [div_coe _ _ h2.ne']
  exact ⟨_, rfl⟩

theorem IsR.sm9 {l : Fin 9 → EReal} (hl : ∀ i, IsR (l i)) (t : Fin 9) : IsR (sm9 l t) :=
  IsR.soft (by decide) hl (IsR.top (by decide) hl) t

theorem ofBits_real (b : BitVec 32) (h : (b.extractLsb' 23 8).toNat ≠ 255) : IsR (Ideal.ofBits .f32 b) := by
  show IsR (Ideal.ieee 8 23 b)
  unfold Ideal.ieee
  dsimp only
  rw [if_neg (by simpa using h)]
  split <;> exact ⟨_, rfl⟩

theorem qscale_real : IsR qscale := ofBits_real _ (by decide)
theorem two_eq : Ideal.ofBits .f32 0x40000000#32 = ((2 : ℝ) : EReal) := by
  simp [Ideal.ofBits, Ideal.ieee]
  rw [← EReal.coe_mul]
  norm_num

theorem IsR.lrelu {x : EReal} (hx : IsR x) : IsR (lrelu x) :=
  IsR.ite hx ((ofBits_real _ (by decide)).mul hx)

end Cert.KernelIdeal.Val

end

end
-- ==== Proof.Pre.lean ====
/-
  The precondition: the numbers of the first sixteen arguments are finite. Of extended reals it says that each is a real number.
-/
module

public import proofs.«01_k».proof.Pre_finite
public import proofs.«01_k».proof.Proof.Alg
public import Idealize.ShloMosaic.Lib.ReduceAll

@[expose] public section

set_option maxRecDepth 16384

noncomputable section

namespace Cert.Pre_finite

open Idealize.ShloMosaic Cert.KernelIdeal.Val

instance facts : Facts where
  bcast_S_S1x256x56x56 := by decide
  reducesTo_S1x256x56x56_S_d0_1_2_3 := by decide
  h_S_ := by decide
  bcast_S_S256x1x3x3 := by decide
  reducesTo_S256x1x3x3_S_d0_1_2_3 := by decide
  bcast_S_S256 := by decide
  reducesTo_S256_S_d0 := by decide
  bcast_S_S128x256 := by decide
  reducesTo_S128x256_S_d0_1 := by decide
  bcast_S_S128 := by decide
  reducesTo_S128_S_d0 := by decide
  bcast_S_S9x128 := by decide
  reducesTo_S9x128_S_d0_1 := by decide
  bcast_S_S9 := by decide
  reducesTo_S9_S_d0 := by decide
  bcast_S_S128x256x3x3 := by decide
  reducesTo_S128x256x3x3_S_d0_1_2_3 := by decide
  bcast_S_S256x256 := by decide
  reducesTo_S256x256_S_d0_1 := by decide
  bcast_S_S512x256 := by decide
  reducesTo_S512x256_S_d0_1 := by decide
  bcast_S_S512 := by decide
  reducesTo_S512_S_d0 := by decide

/-- A number whose absolute value is below infinity is real. -/
theorem real_of_lt {x : EReal} (h : FloatOps.cmpf (F := Ideal) (φ := .f32) .olt (FloatOps.absf (F := Ideal) (φ := .f32) x) (Ideal.ofBits .f32 0x7F800000#32) = 1#1) : IsR x := by
  have e : Ideal.ofBits .f32 0x7F800000#32 = ⊤ := by simp [Ideal.ofBits, Ideal.ieee]
  rw [e] at h
  induction x using EReal.rec with
  | bot => exact absurd h (by simp [FloatOps.cmpf, FloatOps.absf, Ideal.cmp])
  | top => exact absurd h (by simp [FloatOps.cmpf, FloatOps.absf, Ideal.cmp])
  | coe r => exact ⟨r, rfl⟩

/-- An array all of whose numbers pass the comparison is real. -/
theorem real_of_all {s : Shape} {axes : List (Fin s.rank)} (x : s.Idx → EReal) (hb) (hr : s.ReducesTo axes S_)
    (h : Host.reduce IntOp.andi (cmpf (F := Ideal) (φ := .f32) .olt (Host.absf (F := Ideal) (φ := .f32) x) (broadcastInDim s ![] hb (constant (F := Ideal) S_ .f32 0x7F800000#32)))
      (constantI S_ 1 1#1) hr Facts.h_S_ (Shape.Idx.first Facts.h_S_) = 1#1) (i : s.Idx) : IsR (x i) := by
  haveI : Subsingleton S_.Idx := ⟨fun a b => funext fun k => k.elim0⟩
  exact real_of_lt (Host.reduce_andi_all _ _ _ _ _ h i)

/-- The precondition makes the first sixteen arguments real. -/
theorem real_args (x0 : S1x256x56x56.Idx → EReal) (x1 : S1x256x56x56.Idx → EReal) (x2 : S256x1x3x3.Idx → EReal) (x3 : S256.Idx → EReal) (x4 : S128x256.Idx → EReal) (x5 : S128.Idx → EReal) (x6 : S9x128.Idx → EReal) (x7 : S9.Idx → EReal) (x8 : S128x256x3x3.Idx → EReal) (x9 : S128.Idx → EReal) (x10 : S9x128.Idx → EReal) (x11 : S9.Idx → EReal) (x12 : S256x256.Idx → EReal) (x13 : S256.Idx → EReal) (x14 : S512x256.Idx → EReal) (x15 : S512.Idx → EReal) (x16 : S256x256.Idx → EReal) (x17 : S256.Idx → EReal) (x18 : S256x256x3x3.Idx → EReal) (x19 : S256.Idx → EReal)
    (h : fn (F := Ideal) x0 x1 x2 x3 x4 x5 x6 x7 x8 x9 x10 x11 x12 x13 x14 x15 x16 x17 x18 x19 = fun _ => 1#1) :
    (∀ i, IsR (x0 i)) ∧ (∀ i, IsR (x1 i)) ∧ (∀ i, IsR (x2 i)) ∧ (∀ i, IsR (x3 i)) ∧ (∀ i, IsR (x4 i)) ∧ (∀ i, IsR (x5 i)) ∧ (∀ i, IsR (x6 i)) ∧ (∀ i, IsR (x7 i)) ∧ (∀ i, IsR (x8 i)) ∧ (∀ i, IsR (x9 i)) ∧ (∀ i, IsR (x10 i)) ∧ (∀ i, IsR (x11 i)) ∧ (∀ i, IsR (x12 i)) ∧ (∀ i, IsR (x13 i)) ∧ (∀ i, IsR (x14 i)) ∧ (∀ i, IsR (x15 i)) := by
  have e := congrFun h (Shape.Idx.first Facts.h_S_)
  unfold fn fn_part1 fn_part2 fn_part3 fn_part4 at e
  dsimp only [andi] at e
  simp only [IntOp.andi_eq_one] at e
  obtain ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ := e
  exact ⟨real_of_all x0 _ _ h0, real_of_all x1 _ _ h1, real_of_all x2 _ _ h2, real_of_all x3 _ _ h3, real_of_all x4 _ _ h4, real_of_all x5 _ _ h5, real_of_all x6 _ _ h6, real_of_all x7 _ _ h7, real_of_all x8 _ _ h8, real_of_all x9 _ _ h9, real_of_all x10 _ _ h10, real_of_all x11 _ _ h11, real_of_all x12 _ _ h12, real_of_all x13 _ _ h13, real_of_all x14 _ _ h14, real_of_all x15 _ _ h15⟩

end Cert.Pre_finite

end

end
-- ==== Proof.HostA.lean ====
/-
  The host operations before the first call, read at an index: the padded images and the filters' weights.
-/
module

public import proofs.«01_k».proof.Proof.Model
public import Idealize.ShloMosaic.Lib.StableHlo.ReadAt
public import Idealize.ShloMosaic.Lib.Claim
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val
open Cert.KernelIdeal Cert.KernelIdeal.Gen

/-- Pixel `(i, j)` of an image argument with one ring of zeros around it. -/
abbrev padE (x : S1x256x56x56.Idx → EReal) (c : Fin 256) (i j : ℕ) : EReal := padF (fun c a b => x (ix4 0 c a b)) c i j

/-- The integer 0 as a number. -/
theorem sitofp_zero : (FloatOps.sitofp (F := Ideal) .f32 (0#32) : EReal) = 0 := by
  show (((0#32 : BitVec 32).toInt : ℝ) : EReal) = 0
  norm_num

variable (W : Valuation τ sig (Elt Ideal))

theorem main_v1_at (a b : Fin 56) (c : Fin 256) : (StableHlo.after (hostOps0 (F := Ideal)) W (Proc.devRef .tc main_v1) : S56x56x256.Idx → EReal) (ix3 a b c)
    = (W (Proc.devRef .tc main_arg0) : S1x256x56x56.Idx → EReal) (ix4 0 c a b) := by
  after_reads_at
theorem main_c_at : (StableHlo.after (hostOps0 (F := Ideal)) W (Proc.devRef .tc main_c) : S_.Idx → BitVec 32) = constantI S_ 32 0#32 := by
  after_reads_simp
theorem main_v2_at (a b : Fin 58) (c : Fin 256) (x : S1x256x56x56.Idx → EReal)
    (hc : (W (Proc.devRef .tc main_c) : S_.Idx → BitVec 32) = constantI S_ 32 0#32)
    (hx : ∀ a b c, (W (Proc.devRef .tc main_v1) : S56x56x256.Idx → EReal) (ix3 a b c) = x (ix4 0 c a b)) :
    (StableHlo.after (hostOps0_1 (F := Ideal)) W (Proc.devRef .tc main_v2) : S58x58x256.Idx → EReal) (ix3 a b c) = padE x c a b := by
  after_reads_at
  unfold padE padF
  by_cases h : (1 ≤ a.val ∧ a.val ≤ 56) ∧ (1 ≤ b.val ∧ b.val ≤ 56)
  · rw [dif_pos h, dif_pos (by omega)]
    exact hx _ _ _
  · rw [dif_neg h, dif_neg (by omega), hc]
    exact sitofp_zero
theorem main_v3_at (a b : Fin 58) (c : Fin 256) : (StableHlo.after (hostOps0_2 (F := Ideal)) W (Proc.devRef .tc main_v3) : S3364x256.Idx → EReal) (ix2 ⟨a * 58 + b, by omega⟩ c)
    = (W (Proc.devRef .tc main_v2) : S58x58x256.Idx → EReal) (ix3 a b c) := by
  after_reads_at
theorem main_c_0_at : (StableHlo.after (hostOps0_2 (F := Ideal)) W (Proc.devRef .tc main_c_0) : S_.Idx → BitVec 32) = constantI S_ 32 0#32 := by
  after_reads_simp
theorem main_v4_at (R : Fin 3364) (c : Fin 256) :
    (StableHlo.after (hostOps0_3 (F := Ideal)) W (Proc.devRef .tc main_v4) : S3584x256.Idx → EReal) (ix2 ⟨110 + R, by omega⟩ c)
      = (W (Proc.devRef .tc main_v3) : S3364x256.Idx → EReal) (ix2 R c) := by
  after_reads_at

theorem main_v6_at (a b : Fin 56) (c : Fin 256) : (StableHlo.after (hostOps0_4 (F := Ideal)) W (Proc.devRef .tc main_v6) : S56x56x256.Idx → EReal) (ix3 a b c)
    = (W (Proc.devRef .tc main_arg1) : S1x256x56x56.Idx → EReal) (ix4 0 c a b) := by
  after_reads_at
theorem main_c_1_at : (StableHlo.after (hostOps0_4 (F := Ideal)) W (Proc.devRef .tc main_c_1) : S_.Idx → BitVec 32) = constantI S_ 32 0#32 := by
  after_reads_simp
theorem main_v7_at (a b : Fin 58) (c : Fin 256) (x : S1x256x56x56.Idx → EReal)
    (hc : (W (Proc.devRef .tc main_c_1) : S_.Idx → BitVec 32) = constantI S_ 32 0#32)
    (hx : ∀ a b c, (W (Proc.devRef .tc main_v6) : S56x56x256.Idx → EReal) (ix3 a b c) = x (ix4 0 c a b)) :
    (StableHlo.after (hostOps0_5 (F := Ideal)) W (Proc.devRef .tc main_v7) : S58x58x256.Idx → EReal) (ix3 a b c) = padE x c a b := by
  after_reads_at
  unfold padE padF
  by_cases h : (1 ≤ a.val ∧ a.val ≤ 56) ∧ (1 ≤ b.val ∧ b.val ≤ 56)
  · rw [dif_pos h, dif_pos (by omega)]
    exact hx _ _ _
  · rw [dif_neg h, dif_neg (by omega), hc]
    exact sitofp_zero
theorem main_v8_at (a b : Fin 58) (c : Fin 256) : (StableHlo.after (hostOps0_6 (F := Ideal)) W (Proc.devRef .tc main_v8) : S3364x256.Idx → EReal) (ix2 ⟨a * 58 + b, by omega⟩ c)
    = (W (Proc.devRef .tc main_v7) : S58x58x256.Idx → EReal) (ix3 a b c) := by
  after_reads_at
theorem main_c_2_at : (StableHlo.after (hostOps0_6 (F := Ideal)) W (Proc.devRef .tc main_c_2) : S_.Idx → BitVec 32) = constantI S_ 32 0#32 := by
  after_reads_simp
theorem main_v9_at (R : Fin 3364) (c : Fin 256) :
    (StableHlo.after (hostOps0_7 (F := Ideal)) W (Proc.devRef .tc main_v9) : S3584x256.Idx → EReal) (ix2 ⟨110 + R, by omega⟩ c)
      = (W (Proc.devRef .tc main_v8) : S3364x256.Idx → EReal) (ix2 R c) := by
  after_reads_at

theorem main_v11_at (t : Fin 9) (c : Fin 256) : (StableHlo.after (hostOps0_8 (F := Ideal)) W (Proc.devRef .tc main_v11) : S9x256.Idx → EReal) (ix2 t c)
    = (W (Proc.devRef .tc main_arg2) : S256x1x3x3.Idx → EReal) (ix4 c 0 ⟨t.val / 3, by omega⟩ ⟨t.val % 3, by omega⟩) := by
  after_reads_at
theorem main_v18_at (t : Fin 9) (c : Fin 256) (o : Fin 128) : (StableHlo.after (hostOps0_8 (F := Ideal)) W (Proc.devRef .tc main_v18) : S9x256x128.Idx → EReal) (ix3 t c o)
    = (W (Proc.devRef .tc main_arg8) : S128x256x3x3.Idx → EReal) (ix4 o c ⟨t.val / 3, by omega⟩ ⟨t.val % 3, by omega⟩) := by
  after_reads_at
theorem main_v24_at (k o : Fin 256) : (StableHlo.after (hostOps0_8 (F := Ideal)) W (Proc.devRef .tc main_v24) : S256x256.Idx → EReal) (ix2 k o)
    = qscale * (W (Proc.devRef .tc main_arg12) : S256x256.Idx → EReal) (ix2 o k) := by
  after_reads_at
  exact mul_comm _ _
theorem main_v27_at (o : Fin 256) : (StableHlo.after (hostOps0_8 (F := Ideal)) W (Proc.devRef .tc main_v27) : S1x256.Idx → EReal) (ix2 0 o)
    = qscale * (W (Proc.devRef .tc main_arg13) : S256.Idx → EReal) (ix1 o) := by
  after_reads_at
  exact mul_comm _ _
theorem main_v12_at (o : Fin 256) : (StableHlo.after (hostOps0_8 (F := Ideal)) W (Proc.devRef .tc main_v12) : S1x256.Idx → EReal) (ix2 0 o)
    = (W (Proc.devRef .tc main_arg3) : S256.Idx → EReal) (ix1 o) := by
  after_reads_at
theorem main_v14_at (o : Fin 128) : (StableHlo.after (hostOps0_8 (F := Ideal)) W (Proc.devRef .tc main_v14) : S1x128.Idx → EReal) (ix2 0 o)
    = (W (Proc.devRef .tc main_arg5) : S128.Idx → EReal) (ix1 o) := by
  after_reads_at
theorem main_v16_at (o : Fin 9) : (StableHlo.after (hostOps0_8 (F := Ideal)) W (Proc.devRef .tc main_v16) : S1x9.Idx → EReal) (ix2 0 o)
    = (W (Proc.devRef .tc main_arg7) : S9.Idx → EReal) (ix1 o) := by
  after_reads_at
theorem main_v19_at (o : Fin 128) : (StableHlo.after (hostOps0_8 (F := Ideal)) W (Proc.devRef .tc main_v19) : S1x128.Idx → EReal) (ix2 0 o)
    = (W (Proc.devRef .tc main_arg9) : S128.Idx → EReal) (ix1 o) := by
  after_reads_at
theorem main_v21_at (o : Fin 9) : (StableHlo.after (hostOps0_8 (F := Ideal)) W (Proc.devRef .tc main_v21) : S1x9.Idx → EReal) (ix2 0 o)
    = (W (Proc.devRef .tc main_arg11) : S9.Idx → EReal) (ix1 o) := by
  after_reads_at
theorem main_v13_at (i : Fin 256) (o : Fin 128) : (StableHlo.after (hostOps0_8 (F := Ideal)) W (Proc.devRef .tc main_v13) : S256x128.Idx → EReal) (ix2 i o)
    = (W (Proc.devRef .tc main_arg4) : S128x256.Idx → EReal) (ix2 o i) := by
  after_reads_at
theorem main_v15_at (i : Fin 128) (o : Fin 9) : (StableHlo.after (hostOps0_8 (F := Ideal)) W (Proc.devRef .tc main_v15) : S128x9.Idx → EReal) (ix2 i o)
    = (W (Proc.devRef .tc main_arg6) : S9x128.Idx → EReal) (ix2 o i) := by
  after_reads_at
theorem main_v20_at (i : Fin 128) (o : Fin 9) : (StableHlo.after (hostOps0_8 (F := Ideal)) W (Proc.devRef .tc main_v20) : S128x9.Idx → EReal) (ix2 i o)
    = (W (Proc.devRef .tc main_arg10) : S9x128.Idx → EReal) (ix2 o i) := by
  after_reads_at

end Cert.KernelIdeal.Val

end

end
-- ==== Proof.PayM.lean ====
/-
  The border test of the first call: the block's row number, and the rows whose features are cleared.
-/
module

public import proofs.«01_k».proof.Proof.PayA

@[expose] public section

set_option maxRecDepth 16384

noncomputable section

open Idealize.ShloMosaic Idealize.ShloMosaic.TcCoe Idealize.SL.Sem

namespace Cert.KernelIdeal.Val
open Cert.KernelIdeal Cert.KernelIdeal.Gen

/-- Whether a row of the padded image lies outside its interior, from the row number less the leading padding. -/
def ringW (r : BitVec 32) : BitVec 1 :=
  let q := Scalar.divsi r 58#32
  let sg := Scalar.subi (Scalar.extui (Scalar.cmpi .sgt r 0#32)) (Scalar.extui (Scalar.cmpi .slt r 0#32))
  let s58 : BitVec 32 := Scalar.subi (Scalar.extui (Scalar.cmpi .sgt 58#32 0#32)) (Scalar.extui (Scalar.cmpi .slt 58#32 0#32))
  let hp := Scalar.select (Scalar.andi (Scalar.cmpi .ne sg s58) (Scalar.cmpi .ne (Scalar.remsi r 58#32) 0#32)) (Scalar.subi q 1#32) q
  let wp := Scalar.subi r (Scalar.muli hp 58#32)
  Scalar.ori (Scalar.ori (Scalar.ori (Scalar.ori (Scalar.ori (Scalar.cmpi .slt r 0#32) (Scalar.cmpi .sge r 3364#32)) (Scalar.cmpi .eq hp 0#32))
    (Scalar.cmpi .eq hp 57#32)) (Scalar.cmpi .eq wp 0#32)) (Scalar.cmpi .eq wp 57#32)

/-- Whether a row number of the padded image lies outside its interior. -/
def ring (R : ℕ) : Bool := R < 110 || 3474 ≤ R || (R - 110) / 58 == 0 || (R - 110) / 58 == 57 || (R - 110) % 58 == 0 || (R - 110) % 58 == 57

/-- The first half's row number as the body computes it. -/
def wLo (v0 : BitVec 32) (r : ℕ) : BitVec 32 := Scalar.addi (Scalar.subi (Scalar.addi v0 0#32) 110#32) (BitVec.ofNat 32 r)
def wHi (v0 : BitVec 32) (r : ℕ) : BitVec 32 := Scalar.addi (Scalar.subi (Scalar.addi v0 128#32) 110#32) (BitVec.ofNat 32 r)

theorem ring_lo : ∀ (t : Fin 14) (r : Fin 128), ringW (wLo (Scalar.muli (BitVec.ofNat 32 t.val) 256#32) r.val) = if ring (t.val * 256 + 0 + r.val) then 1#1 else 0#1 := by
  decide +kernel
theorem ring_hi : ∀ (t : Fin 14) (r : Fin 128), ringW (wHi (Scalar.muli (BitVec.ofNat 32 t.val) 256#32) r.val) = if ring (t.val * 256 + 128 + r.val) then 1#1 else 0#1 := by
  decide +kernel

theorem mask_lo (fh : FVec Ideal S128x256 .f32) (v0 : BitVec 32) (r : Fin 128) (c : Fin 256) :
    k0_pay34 fh (k0_pay31 v0) 58#32 (k0_pay32 v0) (k0_pay33 v0) 0#32 (ix2 r c) = Scalar.select (ringW (wLo v0 r.val)) 0 (fh (ix2 r c)) := by
  pointwise [k0_pay34, k0_pay31, k0_pay32, k0_pay33]
  rfl
theorem mask_hi (fh : FVec Ideal S128x256 .f32) (v0 : BitVec 32) (r : Fin 128) (c : Fin 256) :
    k0_pay65 fh (k0_pay62 v0) 58#32 (k0_pay63 v0) (k0_pay64 v0) 1#1 (ix2 r c) = Scalar.select (ringW (wHi v0 r.val)) 0 (fh (ix2 r c)) := by
  pointwise [k0_pay65, k0_pay62, k0_pay63, k0_pay64]
  rfl

end Cert.KernelIdeal.Val

end

end
-- ==== Proof.RegC.lean ====
/-
  The fusion call: its result array.
-/
module

public import proofs.«01_k».proof.Proof.PayC
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val
open Cert.KernelIdeal Cert.KernelIdeal.Gen

variable (V : (c : Dev nD) → (b : Ref sig .tc) → Buf (Elt Ideal) ((c : Thread nD τ).loc b))

theorem idx3 : ∀ t : Fin cfg3.N, win3_0.index t = ![0, 0] ∧ win3_1.index t = ![0, 0] ∧ win3_2.index t = ![0, 0, 0]
    ∧ win3_3.index t = ![0, 0] ∧ win3_4.index t = ![t.val, 0] :=
  (by decide +kernel : ∀ t : Fin grid3.N, _)

/-- The first loaded row for output row `R`: 64 rows before its group of 128, kept inside the array. -/
def baseRow (R : ℕ) : ℕ := min (R / 128 * 128 - 64) 3328
theorem baseRow_le (R : ℕ) : baseRow R ≤ 3328 := min_le_right _ _

/-- The fusion call's result from its four arrays. -/
def convN (fa fh : S3584x256.Idx → EReal) (w : S9x256x256.Idx → EReal) (b : S1x256.Idx → EReal) : S3584x256.Idx → EReal := fun y =>
  b (ix2 0 (y 1)) + ∑ t : Fin 9, ∑ k : Fin 256,
    (fa (ix2 ⟨baseRow (y 0).val + (tapRow t + (y 0).val % 128), by have := tapRow_le t; have := baseRow_le (y 0).val; omega⟩ k)
      + fh (ix2 ⟨baseRow (y 0).val + (tapRow t + (y 0).val % 128), by have := tapRow_le t; have := baseRow_le (y 0).val; omega⟩ k)) * w (ix3 t k (y 1))

/-- A loaded block of 256 rows at an index. -/
theorem ldRows (x : FVec Ideal S3584x256 .f32) (off : Fin 2 → ℕ) (hin) (b : ℕ) (h0 : off 0 = b) (h1 : off 1 = 0) (r k : Fin 256) (p : Fin 3584)
    (hp : p.val = b + r.val) :
    View.ld (Val := Elt Ideal) (e' := .f32) x (Rect.unit (s := S3584x256) off S256x256.size hin) (ix2 r k) = x (ix2 p k) := by
  obtain rfl : off = ![b, 0] := by funext a; fin_cases a <;> assumption
  obtain ⟨p, hpp⟩ := p
  obtain rfl : p = b + r.val := hp
  pointwise
/-- One tap's weights at an index. -/
theorem ldW3 (x : FVec Ideal S9x256x256 .f32) (a : ℕ) (hin) (t : Fin 9) (ha : a = t.val) (k c : Fin 256) :
    View.ld (Val := Elt Ideal) (e' := .f32) x (Rect.unit (s := S9x256x256) ![a, 0, 0] S1x256x256.size hin) (ix3 0 k c) = x (ix3 t k c) := by
  subst ha; pointwise

theorem off3_lo : ∀ t : Fin cfg3.N, k3_off1 (grid3.coords t) 0#32 0 = min (t.val * 256 + 0 - 64) 3328 ∧ k3_off1 (grid3.coords t) 0#32 1 = 0 :=
  (by decide +kernel : ∀ t : Fin grid3.N, _)
theorem off3_hi : ∀ t : Fin cfg3.N, k3_off1 (grid3.coords t) 128#32 0 = min (t.val * 256 + 128 - 64) 3328 ∧ k3_off1 (grid3.coords t) 128#32 1 = 0 :=
  (by decide +kernel : ∀ t : Fin grid3.N, _)

theorem blk3_0 (c : Dev nD) (t : Fin cfg3.N) : iblk3 V c 0 t = V c main_v63 := by
  blk_ext! [iblk3, idx3 t]
theorem blk3_1 (c : Dev nD) (t : Fin cfg3.N) : iblk3 V c 1 t = V c main_v28_1 := by
  blk_ext! [iblk3, idx3 t]
theorem blk3_2 (c : Dev nD) (t : Fin cfg3.N) : iblk3 V c 2 t = V c main_v65 := by
  blk_ext! [iblk3, idx3 t]
theorem blk3_3 (c : Dev nD) (t : Fin cfg3.N) : iblk3 V c 3 t = V c main_v66 := by
  blk_ext! [iblk3, idx3 t]

set_option maxHeartbeats 4000000 in
/-- The fused features after the call. -/
theorem reg3 (c : Dev nD) : (dat3 V c).arrAt 4 cfg3.N
    = convN (V c main_v63) (V c main_v28_1) (V c main_v65) (V c main_v66) := by
  refine (dat3 V c).arrAt_eq_of_covers 4 _ (by decide +kernel) fun t _ y => ?_
  blk_simp
  rw [after3_4]; unfold outsAt3; frame_out
  have hN : t.val < 14 := t.isLt
  have hlo := off3_lo t
  have hhi := off3_hi t
  idx_vars y
  canon_tiles x e
  · idx_vars x
    refine (payC_hi _ _ _ (iblk3 V c 2 t) _ _ _ _ _ _ _ _ _
      (fun k c => ldW3 _ 0 _ 0 rfl k c)
      (fun k c => ldW3 _ 1 _ 1 rfl k c)
      (fun k c => ldW3 _ 2 _ 2 rfl k c)
      (fun k c => ldW3 _ 3 _ 3 rfl k c)
      (fun k c => ldW3 _ 4 _ 4 rfl k c)
      (fun k c => ldW3 _ 5 _ 5 rfl k c)
      (fun k c => ldW3 _ 6 _ 6 rfl k c)
      (fun k c => ldW3 _ 7 _ 7 rfl k c)
      (fun k c => ldW3 _ 8 _ 8 rfl k c) x0 x1).trans ?_
    have hy : ((View.whole main_v67).slice (win3_4.rect t)).emb (ix2 y0 y1) = (ix2 ⟨t.val * 256 + 128 + x0.val, by omega⟩ x1 : S3584x256.Idx) := by
      blk_ext [idx3 t]
    refine Eq.trans ?_ (congrArg (convN _ _ _ _) hy).symm
    rw [blk3_2]
    refine congrArg₂ (· + ·) (by rw [blk3_3]; rfl) ?_
    refine Finset.sum_congr rfl fun s _ => Finset.sum_congr rfl fun k _ => ?_
    have hs := tapRow_le s
    refine congrArg (· * _) ?_
    have hb : baseRow (t.val * 256 + 128 + x0.val) = min (t.val * 256 + 128 - 64) 3328 := by unfold baseRow; congr 2; omega
    refine congrArg₂ (· + ·) ((ldRows _ _ _ _ hhi.1 hhi.2 _ k ⟨baseRow (t.val * 256 + 128 + x0.val) + (tapRow s + (t.val * 256 + 128 + x0.val) % 128), by omega⟩ ?_).trans ?_)
      ((ldRows _ _ _ _ hhi.1 hhi.2 _ k ⟨baseRow (t.val * 256 + 128 + x0.val) + (tapRow s + (t.val * 256 + 128 + x0.val) % 128), by omega⟩ ?_).trans ?_)
    · show baseRow _ + (tapRow s + _) = _ + (tapRow s + _); omega
    · rw [blk3_0]; rfl
    · show baseRow _ + (tapRow s + _) = _ + (tapRow s + _); omega
    · rw [blk3_1]; rfl
  · idx_vars x
    refine (payC_lo _ _ _ (iblk3 V c 2 t) _ _ _ _ _ _ _ _ _
      (fun k c => ldW3 _ 0 _ 0 rfl k c)
      (fun k c => ldW3 _ 1 _ 1 rfl k c)
      (fun k c => ldW3 _ 2 _ 2 rfl k c)
      (fun k c => ldW3 _ 3 _ 3 rfl k c)
      (fun k c => ldW3 _ 4 _ 4 rfl k c)
      (fun k c => ldW3 _ 5 _ 5 rfl k c)
      (fun k c => ldW3 _ 6 _ 6 rfl k c)
      (fun k c => ldW3 _ 7 _ 7 rfl k c)
      (fun k c => ldW3 _ 8 _ 8 rfl k c) x0 x1).trans ?_
    have hy : ((View.whole main_v67).slice (win3_4.rect t)).emb (ix2 y0 y1) = (ix2 ⟨t.val * 256 + 0 + x0.val, by omega⟩ x1 : S3584x256.Idx) := by
      blk_ext [idx3 t]
    refine Eq.trans ?_ (congrArg (convN _ _ _ _) hy).symm
    rw [blk3_2]
    refine congrArg₂ (· + ·) (by rw [blk3_3]; rfl) ?_
    refine Finset.sum_congr rfl fun s _ => Finset.sum_congr rfl fun k _ => ?_
    have hs := tapRow_le s
    refine congrArg (· * _) ?_
    have hb : baseRow (t.val * 256 + 0 + x0.val) = min (t.val * 256 + 0 - 64) 3328 := by unfold baseRow; congr 2; omega
    refine congrArg₂ (· + ·) ((ldRows _ _ _ _ hlo.1 hlo.2 _ k ⟨baseRow (t.val * 256 + 0 + x0.val) + (tapRow s + (t.val * 256 + 0 + x0.val) % 128), by omega⟩ ?_).trans ?_)
      ((ldRows _ _ _ _ hlo.1 hlo.2 _ k ⟨baseRow (t.val * 256 + 0 + x0.val) + (tapRow s + (t.val * 256 + 0 + x0.val) % 128), by omega⟩ ?_).trans ?_)
    · show baseRow _ + (tapRow s + _) = _ + (tapRow s + _); omega
    · rw [blk3_0]; rfl
    · show baseRow _ + (tapRow s + _) = _ + (tapRow s + _); omega
    · rw [blk3_1]; rfl

end Cert.KernelIdeal.Val

end

end
-- ==== Proof.RegA0.lean ====
/-
  The feature call: its result arrays.
-/
module

public import proofs.«01_k».proof.Proof.PayA2
public import proofs.«01_k».proof.Proof.PayM
public import proofs.«01_k».proof.Proof.RegC
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val
open Cert.KernelIdeal Cert.KernelIdeal.Gen

variable (V : (c : Dev nD) → (b : Ref sig .tc) → Buf (Elt Ideal) ((c : Thread nD τ).loc b))

theorem idx0 : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0, 0] ∧ win0_9.index t = ![0, 0] ∧ win0_10.index t = ![0, 0] ∧ win0_11.index t = ![0, 0] ∧ win0_12.index t = ![0, 0] ∧ win0_13.index t = ![0, 0] ∧ win0_14.index t = ![t.val, 0] ∧ win0_15.index t = ![t.val, 0] :=
  (by decide +kernel : ∀ t : Fin grid0.N, _)

theorem blk0_0 (c : Dev nD) (t : Fin cfg0.N) : iblk0 V c 0 t = V c main_v4 := by
  blk_ext! [iblk0, idx0 t]
theorem blk0_1 (c : Dev nD) (t : Fin cfg0.N) : iblk0 V c 1 t = V c main_v9 := by
  blk_ext! [iblk0, idx0 t]
theorem blk0_2 (c : Dev nD) (t : Fin cfg0.N) : iblk0 V c 2 t = V c main_v11 := by
  blk_ext! [iblk0, idx0 t]
theorem blk0_3 (c : Dev nD) (t : Fin cfg0.N) : iblk0 V c 3 t = V c main_v12 := by
  blk_ext! [iblk0, idx0 t]
theorem blk0_4 (c : Dev nD) (t : Fin cfg0.N) : iblk0 V c 4 t = V c main_v13 := by
  blk_ext! [iblk0, idx0 t]
theorem blk0_5 (c : Dev nD) (t : Fin cfg0.N) : iblk0 V c 5 t = V c main_v14 := by
  blk_ext! [iblk0, idx0 t]
theorem blk0_6 (c : Dev nD) (t : Fin cfg0.N) : iblk0 V c 6 t = V c main_v15 := by
  blk_ext! [iblk0, idx0 t]
theorem blk0_7 (c : Dev nD) (t : Fin cfg0.N) : iblk0 V c 7 t = V c main_v16 := by
  blk_ext! [iblk0, idx0 t]
theorem blk0_8 (c : Dev nD) (t : Fin cfg0.N) : iblk0 V c 8 t = V c main_v18 := by
  blk_ext! [iblk0, idx0 t]
theorem blk0_9 (c : Dev nD) (t : Fin cfg0.N) : iblk0 V c 9 t = V c main_v19 := by
  blk_ext! [iblk0, idx0 t]
theorem blk0_10 (c : Dev nD) (t : Fin cfg0.N) : iblk0 V c 10 t = V c main_v20 := by
  blk_ext! [iblk0, idx0 t]
theorem blk0_11 (c : Dev nD) (t : Fin cfg0.N) : iblk0 V c 11 t = V c main_v21 := by
  blk_ext! [iblk0, idx0 t]
theorem blk0_12 (c : Dev nD) (t : Fin cfg0.N) : iblk0 V c 12 t = V c main_v24 := by
  blk_ext! [iblk0, idx0 t]
theorem blk0_13 (c : Dev nD) (t : Fin cfg0.N) : iblk0 V c 13 t = V c main_v27 := by
  blk_ext! [iblk0, idx0 t]

theorem off0_lo : ∀ t : Fin cfg0.N, k0_off1 (grid0.coords t) 0#32 0 = min (t.val * 256 + 0 - 64) 3328 ∧ k0_off1 (grid0.coords t) 0#32 1 = 0 :=
  (by decide +kernel : ∀ t : Fin grid0.N, _)
theorem off0_hi : ∀ t : Fin cfg0.N, k0_off1 (grid0.coords t) 128#32 0 = min (t.val * 256 + 128 - 64) 3328 ∧ k0_off1 (grid0.coords t) 128#32 1 = 0 :=
  (by decide +kernel : ∀ t : Fin grid0.N, _)
theorem coord0 : ∀ t : Fin cfg0.N, (grid0.coords t 0).val = t.val := (by decide +kernel : ∀ t : Fin grid0.N, _)

/-- One tap's depthwise weights at an index. -/
theorem ldW9 (x : FVec Ideal S9x256 .f32) (a : ℕ) (hin) (t : Fin 9) (ha : a = t.val) (c : Fin 256) :
    View.ld (Val := Elt Ideal) (e' := .f32) x (Rect.unit (s := S9x256) ![a, 0] S1x256.size hin) (ix2 0 c) = x (ix2 t c) := by
  subst ha; pointwise
/-- One tap's convolution weights at an index. -/
theorem ldC9 (x : FVec Ideal S9x256x128 .f32) (a : ℕ) (hin) (t : Fin 9) (ha : a = t.val) (k : Fin 256) (c : Fin 128) :
    View.ld (Val := Elt Ideal) (e' := .f32) x (Rect.unit (s := S9x256x128) ![a, 0, 0] S1x256x128.size hin) (ix3 0 k c) = x (ix3 t k c) := by
  subst ha; pointwise

/-- The nine neighbours of row `R` in the padded image. -/
def nb (X : S3584x256.Idx → EReal) (R : Fin 3584) (t : Fin 9) (c : Fin 256) : EReal :=
  X (ix2 ⟨baseRow R.val + (tapRow t + R.val % 128), by have := tapRow_le t; have := baseRow_le R.val; omega⟩ c)

/-- The queries from the call's arrays. -/
def qN (X : S3584x256.Idx → EReal) (w : S9x256.Idx → EReal) (b : S1x256.Idx → EReal) (p1 : S256x128.Idx → EReal) (p1b : S1x128.Idx → EReal)
    (p2 : S128x9.Idx → EReal) (p2b : S1x9.Idx → EReal) (qw : S256x256.Idx → EReal) (qb : S1x256.Idx → EReal) : S3584x256.Idx → EReal := fun y =>
  (∑ k : Fin 256, wsum (nb X (y 0)) (lgD (nb X (y 0)) (fun t c => w (ix2 t c)) (fun c => b (ix2 0 c))
      (fun c o => p1 (ix2 c o)) (fun o => p1b (ix2 0 o)) (fun o t => p2 (ix2 o t)) (fun t => p2b (ix2 0 t))) k * qw (ix2 k (y 1))) + qb (ix2 0 (y 1))
/-- The high-frequency features from the call's arrays. -/
def fhN (X : S3584x256.Idx → EReal) (c1 : S9x256x128.Idx → EReal) (c1b : S1x128.Idx → EReal) (c2 : S128x9.Idx → EReal) (c2b : S1x9.Idx → EReal) :
    S3584x256.Idx → EReal := fun y =>
  if ring (y 0).val then 0 else Ideal.ofBits .f32 0x40000000#32 * nb X (y 0) 4 (y 1) - wsum (nb X (y 0)) (lgE (nb X (y 0)) (fun t c o => c1 (ix3 t c o))
    (fun o => c1b (ix2 0 o)) (fun o t => c2 (ix2 o t)) (fun t => c2b (ix2 0 t))) (y 1)

theorem qN_at (X : S3584x256.Idx → EReal) (w : S9x256.Idx → EReal) (b : S1x256.Idx → EReal) (p1 : S256x128.Idx → EReal) (p1b : S1x128.Idx → EReal)
    (p2 : S128x9.Idx → EReal) (p2b : S1x9.Idx → EReal) (qw : S256x256.Idx → EReal) (qb : S1x256.Idx → EReal) (R : Fin 3584) (o : Fin 256) :
    qN X w b p1 p1b p2 p2b qw qb (ix2 R o) = (∑ k : Fin 256, wsum (nb X R) (lgD (nb X R) (fun t c => w (ix2 t c)) (fun c => b (ix2 0 c))
      (fun c o => p1 (ix2 c o)) (fun o => p1b (ix2 0 o)) (fun o t => p2 (ix2 o t)) (fun t => p2b (ix2 0 t))) k * qw (ix2 k o)) + qb (ix2 0 o) := rfl
theorem fhN_at (X : S3584x256.Idx → EReal) (c1 : S9x256x128.Idx → EReal) (c1b : S1x128.Idx → EReal) (c2 : S128x9.Idx → EReal) (c2b : S1x9.Idx → EReal) (R : Fin 3584) (o : Fin 256) :
    fhN X c1 c1b c2 c2b (ix2 R o) = if ring R.val then 0 else Ideal.ofBits .f32 0x40000000#32 * nb X R 4 o - wsum (nb X R) (lgE (nb X R) (fun t c o => c1 (ix3 t c o))
    (fun o => c1b (ix2 0 o)) (fun o t => c2 (ix2 o t)) (fun t => c2b (ix2 0 t))) o := rfl

/-- A tap of the rows loaded for `R`. -/
theorem taps_nb (X : FVec Ideal S3584x256 .f32) (off : Fin 2 → ℕ) (hin) (b : ℕ) (h0 : off 0 = b) (h1 : off 1 = 0) (r : Fin 128) (R : Fin 3584)
    (hb : b = baseRow R.val) (hr : r.val = R.val % 128) (t : Fin 9) (c : Fin 256) :
    taps (View.ld (Val := Elt Ideal) (e' := .f32) X (Rect.unit (s := S3584x256) off S256x256.size hin)) t (ix2 r c) = nb X R t c := by
  rw [taps_at]
  exact ldRows X off hin b h0 h1 _ c _ (by subst hb; show _ = _ + (tapRow t + _); rw [hr])

end Cert.KernelIdeal.Val

end

end
-- ==== Proof.RegAQ.lean ====
/-
  The feature call: its result arrays.
-/
module

public import proofs.«01_k».proof.Proof.RegA0
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val
open Cert.KernelIdeal Cert.KernelIdeal.Gen

variable (V : (c : Dev nD) → (b : Ref sig .tc) → Buf (Elt Ideal) ((c : Thread nD τ).loc b))

set_option maxHeartbeats 1000000 in
/-- The queries after the call. -/
theorem reg0_q (c : Dev nD) : (dat0 V c).arrAt 14 cfg0.N
    = qN (V c main_v4) (V c main_v11) (V c main_v12) (V c main_v13) (V c main_v14) (V c main_v15) (V c main_v16) (V c main_v24) (V c main_v27) := by
  refine (dat0 V c).arrAt_eq_of_covers 14 _ (by decide +kernel) fun t _ y => ?_
  blk_simp
  rw [after0_14]; unfold outsAt0; frame_out
  have hN : t.val < 14 := t.isLt
  have hlo := off0_lo t
  have hhi := off0_hi t
  have hc := coord0 t
  idx_vars y
  canon_tiles x e
  · idx_vars x
    have hb : min (t.val * 256 + 128 - 64) 3328 = baseRow (t.val * 256 + 128 + x0.val) := by unfold baseRow; congr 2; omega
    have hy : ((View.whole main_v28_0).slice (win0_14.rect t)).emb (ix2 y0 y1) = (ix2 ⟨t.val * 256 + 128 + x0.val, by omega⟩ x1 : S3584x256.Idx) := by
      blk_ext [idx0 t]
    refine Eq.trans ?_ ((congrArg (qN _ _ _ _ _ _ _ _ _) hy).trans (qN_at _ _ _ _ _ _ _ _ _ _ _)).symm
    rw [q_hi]
    refine (qBlk_at _ _ _ _ _ _ _ _ _ (nb (V c main_v4) ⟨t.val * 256 + 128 + x0.val, by omega⟩) (fun t k => V c main_v11 (ix2 t k)) x0 (fun s k => ?_) (fun s k => ?_) x1).trans ?_
    · rw [blk0_0]
      exact taps_nb _ _ _ _ hhi.1 hhi.2 x0 ⟨t.val * 256 + 128 + x0.val, by omega⟩ hb (by show x0.val = (_ + _) % 128; omega) s k
    · rw [← blk0_2 V c t]
      exact fam9_all (α := FVec Ideal S1x256 .f32) (P := fun s f => f (ix2 0 k) = iblk0 V c 2 t (ix2 s k)) (ldW9 _ 0 _ 0 rfl k) (ldW9 _ 1 _ 1 rfl k) (ldW9 _ 2 _ 2 rfl k) (ldW9 _ 3 _ 3 rfl k) (ldW9 _ 4 _ 4 rfl k) (ldW9 _ 5 _ 5 rfl k) (ldW9 _ 6 _ 6 rfl k) (ldW9 _ 7 _ 7 rfl k) (ldW9 _ 8 _ 8 rfl k) s
    · rw [blk0_3, blk0_4, blk0_5, blk0_6, blk0_7, blk0_12, blk0_13]
  · idx_vars x
    have hb : min (t.val * 256 + 0 - 64) 3328 = baseRow (t.val * 256 + 0 + x0.val) := by unfold baseRow; congr 2; omega
    have hy : ((View.whole main_v28_0).slice (win0_14.rect t)).emb (ix2 y0 y1) = (ix2 ⟨t.val * 256 + 0 + x0.val, by omega⟩ x1 : S3584x256.Idx) := by
      blk_ext [idx0 t]
    refine Eq.trans ?_ ((congrArg (qN _ _ _ _ _ _ _ _ _) hy).trans (qN_at _ _ _ _ _ _ _ _ _ _ _)).symm
    rw [q_lo]
    refine (qBlk_at _ _ _ _ _ _ _ _ _ (nb (V c main_v4) ⟨t.val * 256 + 0 + x0.val, by omega⟩) (fun t k => V c main_v11 (ix2 t k)) x0 (fun s k => ?_) (fun s k => ?_) x1).trans ?_
    · rw [blk0_0]
      exact taps_nb _ _ _ _ hlo.1 hlo.2 x0 ⟨t.val * 256 + 0 + x0.val, by omega⟩ hb (by show x0.val = (_ + _) % 128; omega) s k
    · rw [← blk0_2 V c t]
      exact fam9_all (α := FVec Ideal S1x256 .f32) (P := fun s f => f (ix2 0 k) = iblk0 V c 2 t (ix2 s k)) (ldW9 _ 0 _ 0 rfl k) (ldW9 _ 1 _ 1 rfl k) (ldW9 _ 2 _ 2 rfl k) (ldW9 _ 3 _ 3 rfl k) (ldW9 _ 4 _ 4 rfl k) (ldW9 _ 5 _ 5 rfl k) (ldW9 _ 6 _ 6 rfl k) (ldW9 _ 7 _ 7 rfl k) (ldW9 _ 8 _ 8 rfl k) s
    · rw [blk0_3, blk0_4, blk0_5, blk0_6, blk0_7, blk0_12, blk0_13]

end Cert.KernelIdeal.Val

end

end
-- ==== Proof.RegAF.lean ====
/-
  The feature call: its result arrays.
-/
module

public import proofs.«01_k».proof.Proof.RegA0
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val
open Cert.KernelIdeal Cert.KernelIdeal.Gen

variable (V : (c : Dev nD) → (b : Ref sig .tc) → Buf (Elt Ideal) ((c : Thread nD τ).loc b))

set_option maxHeartbeats 1000000 in
/-- The high-frequency features after the call. -/
theorem reg0_fh (c : Dev nD) : (dat0 V c).arrAt 15 cfg0.N
    = fhN (V c main_v9) (V c main_v18) (V c main_v19) (V c main_v20) (V c main_v21) := by
  refine (dat0 V c).arrAt_eq_of_covers 15 _ (by decide +kernel) fun t _ y => ?_
  blk_simp
  rw [after0_15]; unfold outsAt0; frame_out
  have hN : t.val < 14 := t.isLt
  have hlo := off0_lo t
  have hhi := off0_hi t
  have hc := coord0 t
  idx_vars y
  canon_tiles x e
  · idx_vars x
    have hb : min (t.val * 256 + 128 - 64) 3328 = baseRow (t.val * 256 + 128 + x0.val) := by unfold baseRow; congr 2; omega
    have hy : ((View.whole main_v28_1).slice (win0_15.rect t)).emb (ix2 y0 y1) = (ix2 ⟨t.val * 256 + 128 + x0.val, by omega⟩ x1 : S3584x256.Idx) := by
      blk_ext [idx0 t]
    refine Eq.trans ?_ ((congrArg (fhN _ _ _ _ _) hy).trans (fhN_at _ _ _ _ _ _ _)).symm
    rw [fh_hi, hc]
    refine (mask_hi _ _ x0 x1).trans ?_
    rw [ring_hi ⟨t.val, hN⟩ x0]
    rw [fhBlk_at _ _ _ _ _ (nb (V c main_v9) ⟨t.val * 256 + 128 + x0.val, by omega⟩) (fun t k o => V c main_v18 (ix3 t k o)) x0 (fun s k => ?_) (fun s k o => ?_) x1]
    · rw [blk0_9, blk0_10, blk0_11]
      show Scalar.select (if ring (t.val * 256 + 128 + x0.val) then 1#1 else 0#1) 0 _ = if ring (t.val * 256 + 128 + x0.val) then _ else _
      cases ring (t.val * 256 + 128 + x0.val)
      · rfl
      · rfl
    · rw [blk0_1]
      exact taps_nb _ _ _ _ hhi.1 hhi.2 x0 ⟨t.val * 256 + 128 + x0.val, by omega⟩ hb (by show x0.val = (_ + _) % 128; omega) s k
    · rw [← blk0_8 V c t]
      exact fam9_all (α := FVec Ideal S1x256x128 .f32) (P := fun s f => f (ix3 0 k o) = iblk0 V c 8 t (ix3 s k o)) (ldC9 _ 0 _ 0 rfl k o) (ldC9 _ 1 _ 1 rfl k o) (ldC9 _ 2 _ 2 rfl k o) (ldC9 _ 3 _ 3 rfl k o) (ldC9 _ 4 _ 4 rfl k o) (ldC9 _ 5 _ 5 rfl k o) (ldC9 _ 6 _ 6 rfl k o) (ldC9 _ 7 _ 7 rfl k o) (ldC9 _ 8 _ 8 rfl k o) s
  · idx_vars x
    have hb : min (t.val * 256 + 0 - 64) 3328 = baseRow (t.val * 256 + 0 + x0.val) := by unfold baseRow; congr 2; omega
    have hy : ((View.whole main_v28_1).slice (win0_15.rect t)).emb (ix2 y0 y1) = (ix2 ⟨t.val * 256 + 0 + x0.val, by omega⟩ x1 : S3584x256.Idx) := by
      blk_ext [idx0 t]
    refine Eq.trans ?_ ((congrArg (fhN _ _ _ _ _) hy).trans (fhN_at _ _ _ _ _ _ _)).symm
    rw [fh_lo, hc]
    refine (mask_lo _ _ x0 x1).trans ?_
    rw [ring_lo ⟨t.val, hN⟩ x0]
    rw [fhBlk_at _ _ _ _ _ (nb (V c main_v9) ⟨t.val * 256 + 0 + x0.val, by omega⟩) (fun t k o => V c main_v18 (ix3 t k o)) x0 (fun s k => ?_) (fun s k o => ?_) x1]
    · rw [blk0_9, blk0_10, blk0_11]
      show Scalar.select (if ring (t.val * 256 + 0 + x0.val) then 1#1 else 0#1) 0 _ = if ring (t.val * 256 + 0 + x0.val) then _ else _
      cases ring (t.val * 256 + 0 + x0.val)
      · rfl
      · rfl
    · rw [blk0_1]
      exact taps_nb _ _ _ _ hlo.1 hlo.2 x0 ⟨t.val * 256 + 0 + x0.val, by omega⟩ hb (by show x0.val = (_ + _) % 128; omega) s k
    · rw [← blk0_8 V c t]
      exact fam9_all (α := FVec Ideal S1x256x128 .f32) (P := fun s f => f (ix3 0 k o) = iblk0 V c 8 t (ix3 s k o)) (ldC9 _ 0 _ 0 rfl k o) (ldC9 _ 1 _ 1 rfl k o) (ldC9 _ 2 _ 2 rfl k o) (ldC9 _ 3 _ 3 rfl k o) (ldC9 _ 4 _ 4 rfl k o) (ldC9 _ 5 _ 5 rfl k o) (ldC9 _ 6 _ 6 rfl k o) (ldC9 _ 7 _ 7 rfl k o) (ldC9 _ 8 _ 8 rfl k o) s

end Cert.KernelIdeal.Val

end

end
-- ==== Proof.EntA.lean ====
/-
  The arguments as plain functions, and what the first call leaves at the image's pixels.
-/
module

public import proofs.«01_k».proof.Proof.HostA
public import proofs.«01_k».proof.Proof.RegAQ
public import proofs.«01_k».proof.Proof.RegAF

@[expose] public section

set_option maxRecDepth 16384

noncomputable section

open Idealize.ShloMosaic Idealize.ShloMosaic.TcCoe Idealize.SL.Sem
open Idealize.ShloMosaic.Pipeline (Dat)

namespace Cert.KernelIdeal.Val
open Cert.KernelIdeal Cert.KernelIdeal.Gen

/-- The argument arrays, each over its own coordinates. -/
def parOf (x0 : S1x256x56x56.Idx → EReal) (x1 : S1x256x56x56.Idx → EReal) (x2 : S256x1x3x3.Idx → EReal) (x3 : S256.Idx → EReal) (x4 : S128x256.Idx → EReal) (x5 : S128.Idx → EReal) (x6 : S9x128.Idx → EReal) (x7 : S9.Idx → EReal) (x8 : S128x256x3x3.Idx → EReal) (x9 : S128.Idx → EReal) (x10 : S9x128.Idx → EReal) (x11 : S9.Idx → EReal) (x12 : S256x256.Idx → EReal) (x13 : S256.Idx → EReal) (x14 : S512x256.Idx → EReal) (x15 : S512.Idx → EReal) (x16 : S256x256.Idx → EReal) (x17 : S256.Idx → EReal) (x18 : S256x256x3x3.Idx → EReal) (x19 : S256.Idx → EReal) : Params where
  dec := fun c a b => x0 (ix4 0 c a b)
  enc := fun c a b => x1 (ix4 0 c a b)
  dww := fun c t => x2 (ix4 c 0 ⟨t.val / 3, by omega⟩ ⟨t.val % 3, by omega⟩)
  dwb := fun c => x3 (ix1 c)
  p1w := fun o c => x4 (ix2 o c)
  p1b := fun o => x5 (ix1 o)
  p2w := fun t o => x6 (ix2 t o)
  p2b := fun t => x7 (ix1 t)
  c1w := fun o c t => x8 (ix4 o c ⟨t.val / 3, by omega⟩ ⟨t.val % 3, by omega⟩)
  c1b := fun o => x9 (ix1 o)
  c2w := fun t o => x10 (ix2 t o)
  c2b := fun t => x11 (ix1 t)
  qw := fun o k => x12 (ix2 o k)
  qb := fun o => x13 (ix1 o)
  kvw := fun r k => x14 (ix2 r k)
  kvb := fun r => x15 (ix1 r)
  ow := fun o k => x16 (ix2 o k)
  ob := fun o => x17 (ix1 o)
  fw := fun o c t => x18 (ix4 o c ⟨t.val / 3, by omega⟩ ⟨t.val % 3, by omega⟩)
  fb := fun o => x19 (ix1 o)

/-- The row of the padded image that holds pixel `(a, b)`. -/
abbrev prow (a b : Fin 56) : Fin 3584 := ⟨110 + ((a.val + 1) * 58 + (b.val + 1)), by omega⟩

/-- The row loaded for tap `t` of a pixel. -/
theorem prow_tap (a b : Fin 56) (t : Fin 9) : baseRow (prow a b).val + (tapRow t + (prow a b).val % 128)
    = 110 + ((a.val + t.val / 3) * 58 + (b.val + t.val % 3)) := by
  unfold baseRow tapRow
  dsimp only
  have := a.isLt; have := b.isLt; have := t.isLt
  omega

theorem nb_pix (X : S3584x256.Idx → EReal) (F : Fin 256 → Fin 56 → Fin 56 → EReal)
    (hX : ∀ (a b : Fin 58) (c : Fin 256), X (ix2 ⟨110 + (a.val * 58 + b.val), by omega⟩ c) = padF F c a b) (a b : Fin 56) :
    nb X (prow a b) = tap F a b := by
  funext t c
  unfold nb tap
  have h := hX ⟨a.val + t.val / 3, by omega⟩ ⟨b.val + t.val % 3, by omega⟩ c
  refine Eq.trans (congrArg (fun R : Fin 3584 => X (ix2 R c)) (Fin.ext ?_)) h
  exact prow_tap a b t

theorem ring_pix (a b : Fin 56) : ring (prow a b).val = false := by
  have ha := a.isLt; have hb := b.isLt
  have e1 : (110 + ((a.val + 1) * 58 + (b.val + 1)) - 110) / 58 = a.val + 1 := by omega
  have e2 : (110 + ((a.val + 1) * 58 + (b.val + 1)) - 110) % 58 = b.val + 1 := by omega
  unfold ring
  dsimp only
  rw [e1, e2]
  simp
  omega

theorem ring_out (a b : Fin 58) (h : ¬((1 ≤ a.val ∧ a.val ≤ 56) ∧ (1 ≤ b.val ∧ b.val ≤ 56))) : ring (110 + (a.val * 58 + b.val)) = true := by
  have ha := a.isLt; have hb := b.isLt
  have e1 : (110 + (a.val * 58 + b.val) - 110) / 58 = a.val := by omega
  have e2 : (110 + (a.val * 58 + b.val) - 110) % 58 = b.val := by omega
  unfold ring
  rw [e1, e2]
  simp
  omega

/-- The tap in the middle is the pixel. -/
theorem tap_mid (F : Fin 256 → Fin 56 → Fin 56 → EReal) (a b : Fin 56) (c : Fin 256) : tap F a b 4 c = F c a b := by
  unfold tap padF
  have ha := a.isLt; have hb := b.isLt
  have e3 : ((4 : Fin 9).val) / 3 = 1 := rfl
  have e4 : ((4 : Fin 9).val) % 3 = 1 := rfl
  rw [e3, e4, dif_pos (by omega)]
  rfl

/-- The first call's queries at a pixel. -/
theorem qN_model (P : Params) (X : S3584x256.Idx → EReal) (w : S9x256.Idx → EReal) (b : S1x256.Idx → EReal) (p1 : S256x128.Idx → EReal) (p1b : S1x128.Idx → EReal)
    (p2 : S128x9.Idx → EReal) (p2b : S1x9.Idx → EReal) (qw : S256x256.Idx → EReal) (qb : S1x256.Idx → EReal)
    (hX : ∀ (a b : Fin 58) (c : Fin 256), X (ix2 ⟨110 + (a.val * 58 + b.val), by omega⟩ c) = padF P.dec c a b)
    (hw : ∀ t c, w (ix2 t c) = P.dww c t) (hb : ∀ c, b (ix2 0 c) = P.dwb c) (hp1 : ∀ c o, p1 (ix2 c o) = P.p1w o c) (hp1b : ∀ o, p1b (ix2 0 o) = P.p1b o)
    (hp2 : ∀ o t, p2 (ix2 o t) = P.p2w t o) (hp2b : ∀ t, p2b (ix2 0 t) = P.p2b t) (hqw : ∀ k o, qw (ix2 k o) = qscale * P.qw o k)
    (hqb : ∀ o, qb (ix2 0 o) = qscale * P.qb o) (i j : Fin 56) (o : Fin 256) :
    qN X w b p1 p1b p2 p2b qw qb (ix2 (prow i j) o) = (∑ k : Fin 256, smooth P i j k * (qscale * P.qw o k)) + qscale * P.qb o := by
  rw [qN_at, nb_pix X P.dec hX i j]
  simp only [hw, hb, hp1, hp1b, hp2, hp2b, hqw, hqb]
  rfl

/-- The first call's high pass part at a pixel. -/
theorem fhN_model (P : Params) (X : S3584x256.Idx → EReal) (c1 : S9x256x128.Idx → EReal) (c1b : S1x128.Idx → EReal) (c2 : S128x9.Idx → EReal) (c2b : S1x9.Idx → EReal)
    (hX : ∀ (a b : Fin 58) (c : Fin 256), X (ix2 ⟨110 + (a.val * 58 + b.val), by omega⟩ c) = padF P.enc c a b)
    (hc1 : ∀ t c o, c1 (ix3 t c o) = P.c1w o c t) (hc1b : ∀ o, c1b (ix2 0 o) = P.c1b o) (hc2 : ∀ o t, c2 (ix2 o t) = P.c2w t o)
    (hc2b : ∀ t, c2b (ix2 0 t) = P.c2b t) (a b : Fin 58) (o : Fin 256) :
    fhN X c1 c1b c2 c2b (ix2 ⟨110 + (a.val * 58 + b.val), by omega⟩ o) = padF (highK P) o a b := by
  rw [fhN_at]
  by_cases h : (1 ≤ a.val ∧ a.val ≤ 56) ∧ (1 ≤ b.val ∧ b.val ≤ 56)
  · have hr : (⟨110 + (a.val * 58 + b.val), by omega⟩ : Fin 3584) = prow ⟨a.val - 1, by omega⟩ ⟨b.val - 1, by omega⟩ := Fin.ext (by dsimp only; omega)
    rw [hr, ring_pix, nb_pix X P.enc hX]
    simp only [hc1, hc1b, hc2, hc2b, tap_mid]
    unfold padF
    rw [dif_pos h]
    rfl
  · rw [ring_out a b h]
    unfold padF
    rw [dif_neg h]
    rfl

section
variable (m : (ℓ : Loc nD τ sig) → Buf (Elt Ideal) ℓ) (ρ : Dev nD → PrngReg) (c : Dev nD)

/-- The launch's arguments. -/
abbrev par : Params := parOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))

theorem v4_row (a b : Fin 58) (ch : Fin 256) :
    (W9 m ρ c (Proc.devRef .tc main_v4) : S3584x256.Idx → EReal) (ix2 ⟨110 + (a.val * 58 + b.val), by omega⟩ ch) = padF (par m c).dec ch a b := by
  rw [W9_of m ρ c main_v4 (by decide), W8_of m ρ c main_v4 (by decide), W7_of m ρ c main_v4 (by decide), W6_of m ρ c main_v4 (by decide),
    W5_of m ρ c main_v4 (by decide)]
  refine (main_v4_at (W3 m ρ c) ⟨a.val * 58 + b.val, by omega⟩ ch).trans ?_
  refine (main_v3_at (W2 m ρ c) a b ch).trans ?_
  exact main_v2_at (W1 m ρ c) a b ch (m ((c : Thread nD τ).loc main_arg0)) (main_c_at (W0 m ρ c)) (main_v1_at (W0 m ρ c))

theorem v9_row (a b : Fin 58) (ch : Fin 256) :
    (W9 m ρ c (Proc.devRef .tc main_v9) : S3584x256.Idx → EReal) (ix2 ⟨110 + (a.val * 58 + b.val), by omega⟩ ch) = padF (par m c).enc ch a b := by
  rw [W9_of m ρ c main_v9 (by decide)]
  refine (main_v9_at (W7 m ρ c) ⟨a.val * 58 + b.val, by omega⟩ ch).trans ?_
  refine (main_v8_at (W6 m ρ c) a b ch).trans ?_
  refine main_v7_at (W5 m ρ c) a b ch (m ((c : Thread nD τ).loc main_arg1)) (main_c_1_at (W4 m ρ c)) (fun i j k => (main_v6_at (W4 m ρ c) i j k).trans ?_)
  rw [W4_args m ρ c main_arg1 (by decide)]

/-- The queries the first call leaves at a pixel. -/
theorem q_pix (i j : Fin 56) (o : Fin 256) :
    (W10 m ρ c (Proc.devRef .tc main_v28_0) : S3584x256.Idx → EReal) (ix2 (prow i j) o)
      = (∑ k : Fin 256, smooth (par m c) i j k * (qscale * (par m c).qw o k)) + qscale * (par m c).qb o := by
  refine (congrFun ((W10_arr m ρ c 14).trans (reg0_q (V9 m ρ) c)) (ix2 (prow i j) o)).trans ?_
  refine qN_model (par m c) _ _ _ _ _ _ _ _ _ (v4_row m ρ c) (fun t k => (main_v11_at (W8 m ρ c) t k).trans ?_) (fun k => (main_v12_at (W8 m ρ c) k).trans ?_)
    (fun k o => (main_v13_at (W8 m ρ c) k o).trans ?_) (fun k => (main_v14_at (W8 m ρ c) k).trans ?_) (fun k o => (main_v15_at (W8 m ρ c) k o).trans ?_)
    (fun k => (main_v16_at (W8 m ρ c) k).trans ?_) (fun k o => (main_v24_at (W8 m ρ c) k o).trans ?_) (fun k => (main_v27_at (W8 m ρ c) k).trans ?_) i j o
  · rw [W8_args m ρ c main_arg2 (by decide)]; rfl
  · rw [W8_args m ρ c main_arg3 (by decide)]; rfl
  · rw [W8_args m ρ c main_arg4 (by decide)]; rfl
  · rw [W8_args m ρ c main_arg5 (by decide)]; rfl
  · rw [W8_args m ρ c main_arg6 (by decide)]; rfl
  · rw [W8_args m ρ c main_arg7 (by decide)]; rfl
  · rw [W8_args m ρ c main_arg12 (by decide)]; rfl
  · rw [W8_args m ρ c main_arg13 (by decide)]; rfl

/-- The high pass part the first call leaves on the padded image. -/
theorem fh_row (a b : Fin 58) (o : Fin 256) :
    (W10 m ρ c (Proc.devRef .tc main_v28_1) : S3584x256.Idx → EReal) (ix2 ⟨110 + (a.val * 58 + b.val), by omega⟩ o)
      = padF (highK (par m c)) o a b := by
  refine (congrFun ((W10_arr m ρ c 15).trans (reg0_fh (V9 m ρ) c)) (ix2 ⟨110 + (a.val * 58 + b.val), by omega⟩ o)).trans ?_
  refine fhN_model (par m c) _ _ _ _ _ (v9_row m ρ c) (fun t k o => (main_v18_at (W8 m ρ c) t k o).trans ?_) (fun k => (main_v19_at (W8 m ρ c) k).trans ?_)
    (fun k o => (main_v20_at (W8 m ρ c) k o).trans ?_) (fun k => (main_v21_at (W8 m ρ c) k).trans ?_) a b o
  · rw [W8_args m ρ c main_arg8 (by decide)]; rfl
  · rw [W8_args m ρ c main_arg9 (by decide)]; rfl
  · rw [W8_args m ρ c main_arg10 (by decide)]; rfl
  · rw [W8_args m ρ c main_arg11 (by decide)]; rfl

end

end Cert.KernelIdeal.Val

end

end
-- ==== Proof.Alg2.lean ====
/-
  On real arguments the layer and the reference agree.
-/
module

public import proofs.«01_k».proof.Proof.Alg
public import proofs.«01_k».proof.Proof.EntA

@[expose] public section

set_option maxRecDepth 16384

noncomputable section

open Idealize.ShloMosaic Idealize.ShloMosaic.TcCoe Idealize.SL.Sem
open Idealize.ShloMosaic.Pipeline (Dat)

namespace Cert.KernelIdeal.Val
open Cert.KernelIdeal Cert.KernelIdeal.Gen

/-- Every argument is real. -/
structure Params.Real (P : Params) : Prop where
  dec : ∀ c a b, IsR (P.dec c a b)
  enc : ∀ c a b, IsR (P.enc c a b)
  dww : ∀ c t, IsR (P.dww c t)
  dwb : ∀ c, IsR (P.dwb c)
  p1w : ∀ o c, IsR (P.p1w o c)
  p1b : ∀ o, IsR (P.p1b o)
  p2w : ∀ t o, IsR (P.p2w t o)
  p2b : ∀ t, IsR (P.p2b t)
  c1w : ∀ o c t, IsR (P.c1w o c t)
  c1b : ∀ o, IsR (P.c1b o)
  c2w : ∀ t o, IsR (P.c2w t o)
  c2b : ∀ t, IsR (P.c2b t)
  qw : ∀ o k, IsR (P.qw o k)
  qb : ∀ o, IsR (P.qb o)
  kvw : ∀ r k, IsR (P.kvw r k)
  kvb : ∀ r, IsR (P.kvb r)

variable {P : Params} (h : P.Real)
include h

theorem tapD_real (a b : Fin 56) (t : Fin 9) (c : Fin 256) : IsR (tap P.dec a b t c) := by
  unfold tap padF
  split
  · exact h.dec _ _ _
  · exact IsR.zero
theorem tapE_real (a b : Fin 56) (t : Fin 9) (c : Fin 256) : IsR (tap P.enc a b t c) := by
  unfold tap padF
  split
  · exact h.enc _ _ _
  · exact IsR.zero

theorem logD_real (a b : Fin 56) (t : Fin 9) : IsR (logD P a b t) :=
  (IsR.sum fun o => (IsR.lrelu ((IsR.sum fun c => ((h.dwb c).add (IsR.sum fun s => (tapD_real h a b s c).mul (h.dww c s))).mul (h.p1w o c)).add (h.p1b o))).mul
    (h.p2w t o)).add (h.p2b t)
theorem logE_real (a b : Fin 56) (t : Fin 9) : IsR (logE P a b t) :=
  (IsR.sum fun o => (IsR.lrelu ((IsR.sum fun s => IsR.sum fun c => (tapE_real h a b s c).mul (h.c1w o c s)).add (h.c1b o))).mul (h.c2w t o)).add (h.c2b t)
theorem smooth_real (a b : Fin 56) (c : Fin 256) : IsR (smooth P a b c) :=
  IsR.sum fun t => (tapD_real h a b t c).mul (IsR.sm9 (logD_real h a b) t)
theorem qR_real (n : Fin 3136) (j : Fin 256) : IsR (qR P n j) :=
  (IsR.sum fun k => (smooth_real h _ _ k).mul (h.qw j k)).add (h.qb j)
theorem kvF_real (r : Fin 512) (m : Fin 3136) : IsR (kvF P r m) :=
  (IsR.sum fun k => (h.kvw r k).mul (h.enc k _ _)).add (h.kvb r)

/-- The scale comes out of the queries. -/
theorem qK_eq (n : Fin 3136) (j : Fin 256) : qK P n j = qR P n j * qscale := by
  unfold qK qR
  obtain ⟨s, hs⟩ := qscale_real
  have hx := fun k => smooth_real h (rowOf n) (colOf n) k
  have hw := fun k => h.qw j k
  choose x hx using hx
  choose w hw using hw
  obtain ⟨b, hb⟩ := h.qb j
  simp only [hs, hx, hw, hb, ← EReal.coe_mul, coe_sum, ← EReal.coe_add]
  refine congrArg _ ?_
  rw [add_mul, Finset.sum_mul, mul_comm s b]
  refine congrArg (· + b * s) (Finset.sum_congr rfl fun k _ => ?_)
  ring

theorem scoreK_eq (n : Fin 3136) (hh : Fin 8) (m : Fin 3136) : scoreK P n hh m = scoreR P n hh m := by
  unfold scoreK scoreR
  simp only [qK_eq h]
  obtain ⟨s, hs⟩ := qscale_real
  have hq := fun e => qR_real h n (hd hh e)
  have hk := fun e : Fin 32 => kvF_real h ⟨(hd hh e).val, by omega⟩ m
  choose q hq using hq
  choose k hk using hk
  simp only [hs, hq, keyF, hk, ← EReal.coe_mul, coe_sum]
  refine congrArg _ ?_
  rw [Finset.sum_mul]
  refine Finset.sum_congr rfl fun e _ => ?_
  ring

theorem scoreR_real (n : Fin 3136) (hh : Fin 8) (m : Fin 3136) : IsR (scoreR P n hh m) :=
  (IsR.sum fun e => (qR_real h n _).mul (kvF_real h _ m)).mul qscale_real

/-- Both attentions agree. -/
theorem att_eq (n : Fin 3136) (hh : Fin 8) (d : Fin 32) : attK P n hh d = attR P n hh d := by
  unfold attK attR
  simp only [scoreK_eq h]
  exact soft_quot (by decide) (scoreR_real h n hh) (fun m => kvF_real h _ m) (IsR.top (by decide) (scoreR_real h n hh))

/-- Both high pass parts agree. -/
theorem high_eq (c : Fin 256) (a b : Fin 56) : highK P c a b = highR P c a b := by
  unfold highK highR wsum
  have hx := fun t => tapE_real h a b t c
  have hw := fun t => IsR.sm9 (logE_real h a b) t
  choose x hx using hx
  choose w hw using hw
  have he : P.enc c a b = ((x 4 : ℝ) : EReal) := by rw [← hx 4, tap_mid]
  have hd : ∀ t : Fin 9, (if t = 4 then (1 : EReal) else 0) = (((if t = 4 then 1 else 0 : ℝ)) : EReal) := fun t => by split <;> rfl
  simp only [two_eq, he, hx, hw, hd, ← EReal.coe_mul, ← EReal.coe_sub, coe_sum, ← EReal.coe_add]
  refine congrArg _ ?_
  simp only [mul_sub, Finset.sum_sub_distrib, mul_ite, mul_one, mul_zero, Finset.sum_ite_eq', Finset.mem_univ, if_true]
  ring

/-- The layer and the reference agree. -/
theorem out_eq (o : Fin 256) (a b : Fin 56) : outK P o a b = outR P o a b := by
  unfold outK outR
  rw [show attK P = attR P from funext fun n => funext fun hh => funext fun d => att_eq h n hh d]
  simp only [high_eq h]

end Cert.KernelIdeal.Val

end

end
-- ==== Proof.RefA.lean ====
/-
  The reference's low pass filter and its queries, read at an index.
-/
module

public import proofs.«01_k».proof.Proof.Model
public import proofs.«01_k».proof.Proof.Gen.ReferenceIdeal.Read
public import proofs.«01_k».proof.Proof.EntA

@[expose] public section

set_option maxRecDepth 16384

noncomputable section

open Idealize.ShloMosaic Idealize.ShloMosaic.TcCoe Idealize.SL.Sem

namespace Cert.ReferenceIdeal.Val
open Cert.ReferenceIdeal Cert.ReferenceIdeal.Gen Cert.ReferenceIdeal.Read
open Cert.KernelIdeal.Val (parOf Params padF tap hd sm9 lrelu lgD lgE wsum qscale sum9 logD logE smooth rowOf colOf kvF keyF valF align pix fuse qR scoreR topR attR highR outR sitofp_zero)

/-- An image with one ring of zeros around it, at an index. -/
theorem pad_at (x : S1x256x56x56.Idx → EReal) (z : S_.Idx → EReal) (hz : ∀ i, z i = 0) (h1) (h2) (c : Fin 256) (i j : Fin 58) :
    (pad (α := EReal) S1x256x58x58 ![0, 0, 1, 1] ![0, 0, 1, 1] ![0, 0, 0, 0] x z h1 h2 : S1x256x58x58.Idx → EReal) (ix4 0 c i j)
      = padF (fun c a b => x (ix4 0 c a b)) c i j := by
  pointwise
  unfold padF
  by_cases h : (1 ≤ i.val ∧ i.val ≤ 56) ∧ (1 ≤ j.val ∧ j.val ≤ 56)
  · rw [dif_pos h, dif_pos (by omega)]
  · rw [dif_neg h, dif_neg (by omega), hz]

/-! Each of the nine shifts of the padded image is a tap. -/

theorem sl0 (y : S1x256x58x58.Idx → EReal) (x : Fin 256 → Fin 56 → Fin 56 → EReal) (hy : ∀ c (i j : Fin 58), y (ix4 0 c i j) = padF x c i j) (h) (c : Fin 256) (a b : Fin 56) :
    (extractStridedSlice S1x256x56x56 ![0, 0, 0, 0] y h : S1x256x56x56.Idx → EReal) (ix4 0 c a b) = tap x a b 0 c := by
  pointwise
  exact (hy c _ _).trans (congrArg₂ (padF x c) rfl rfl)
theorem sl1 (y : S1x256x58x58.Idx → EReal) (x : Fin 256 → Fin 56 → Fin 56 → EReal) (hy : ∀ c (i j : Fin 58), y (ix4 0 c i j) = padF x c i j) (h) (c : Fin 256) (a b : Fin 56) :
    (extractStridedSlice S1x256x56x56 ![0, 0, 0, 1] y h : S1x256x56x56.Idx → EReal) (ix4 0 c a b) = tap x a b 1 c := by
  pointwise
  exact (hy c _ _).trans (congrArg₂ (padF x c) rfl (Nat.add_comm 1 b.val))
theorem sl2 (y : S1x256x58x58.Idx → EReal) (x : Fin 256 → Fin 56 → Fin 56 → EReal) (hy : ∀ c (i j : Fin 58), y (ix4 0 c i j) = padF x c i j) (h) (c : Fin 256) (a b : Fin 56) :
    (extractStridedSlice S1x256x56x56 ![0, 0, 0, 2] y h : S1x256x56x56.Idx → EReal) (ix4 0 c a b) = tap x a b 2 c := by
  pointwise
  exact (hy c _ _).trans (congrArg₂ (padF x c) rfl (Nat.add_comm 2 b.val))
theorem sl3 (y : S1x256x58x58.Idx → EReal) (x : Fin 256 → Fin 56 → Fin 56 → EReal) (hy : ∀ c (i j : Fin 58), y (ix4 0 c i j) = padF x c i j) (h) (c : Fin 256) (a b : Fin 56) :
    (extractStridedSlice S1x256x56x56 ![0, 0, 1, 0] y h : S1x256x56x56.Idx → EReal) (ix4 0 c a b) = tap x a b 3 c := by
  pointwise
  exact (hy c _ _).trans (congrArg₂ (padF x c) (Nat.add_comm 1 a.val) rfl)
theorem sl4 (y : S1x256x58x58.Idx → EReal) (x : Fin 256 → Fin 56 → Fin 56 → EReal) (hy : ∀ c (i j : Fin 58), y (ix4 0 c i j) = padF x c i j) (h) (c : Fin 256) (a b : Fin 56) :
    (extractStridedSlice S1x256x56x56 ![0, 0, 1, 1] y h : S1x256x56x56.Idx → EReal) (ix4 0 c a b) = tap x a b 4 c := by
  pointwise
  exact (hy c _ _).trans (congrArg₂ (padF x c) (Nat.add_comm 1 a.val) (Nat.add_comm 1 b.val))
theorem sl5 (y : S1x256x58x58.Idx → EReal) (x : Fin 256 → Fin 56 → Fin 56 → EReal) (hy : ∀ c (i j : Fin 58), y (ix4 0 c i j) = padF x c i j) (h) (c : Fin 256) (a b : Fin 56) :
    (extractStridedSlice S1x256x56x56 ![0, 0, 1, 2] y h : S1x256x56x56.Idx → EReal) (ix4 0 c a b) = tap x a b 5 c := by
  pointwise
  exact (hy c _ _).trans (congrArg₂ (padF x c) (Nat.add_comm 1 a.val) (Nat.add_comm 2 b.val))
theorem sl6 (y : S1x256x58x58.Idx → EReal) (x : Fin 256 → Fin 56 → Fin 56 → EReal) (hy : ∀ c (i j : Fin 58), y (ix4 0 c i j) = padF x c i j) (h) (c : Fin 256) (a b : Fin 56) :
    (extractStridedSlice S1x256x56x56 ![0, 0, 2, 0] y h : S1x256x56x56.Idx → EReal) (ix4 0 c a b) = tap x a b 6 c := by
  pointwise
  exact (hy c _ _).trans (congrArg₂ (padF x c) (Nat.add_comm 2 a.val) rfl)
theorem sl7 (y : S1x256x58x58.Idx → EReal) (x : Fin 256 → Fin 56 → Fin 56 → EReal) (hy : ∀ c (i j : Fin 58), y (ix4 0 c i j) = padF x c i j) (h) (c : Fin 256) (a b : Fin 56) :
    (extractStridedSlice S1x256x56x56 ![0, 0, 2, 1] y h : S1x256x56x56.Idx → EReal) (ix4 0 c a b) = tap x a b 7 c := by
  pointwise
  exact (hy c _ _).trans (congrArg₂ (padF x c) (Nat.add_comm 2 a.val) (Nat.add_comm 1 b.val))
theorem sl8 (y : S1x256x58x58.Idx → EReal) (x : Fin 256 → Fin 56 → Fin 56 → EReal) (hy : ∀ c (i j : Fin 58), y (ix4 0 c i j) = padF x c i j) (h) (c : Fin 256) (a b : Fin 56) :
    (extractStridedSlice S1x256x56x56 ![0, 0, 2, 2] y h : S1x256x56x56.Idx → EReal) (ix4 0 c a b) = tap x a b 8 c := by
  pointwise
  exact (hy c _ _).trans (congrArg₂ (padF x c) (Nat.add_comm 2 a.val) (Nat.add_comm 2 b.val))

/-- A maximum with the value a running maximum starts from. -/
theorem max_fold {n : ℕ} (z : EReal) (f : Fin n → EReal) : max z (Finset.univ.fold max z f) = Finset.univ.fold max z f :=
  max_eq_right ((Finset.le_fold_max _).2 (Or.inl le_rfl))

section
variable (x0 : S1x256x56x56.Idx → EReal) (x1 : S1x256x56x56.Idx → EReal) (x2 : S256x1x3x3.Idx → EReal) (x3 : S256.Idx → EReal) (x4 : S128x256.Idx → EReal) (x5 : S128.Idx → EReal) (x6 : S9x128.Idx → EReal) (x7 : S9.Idx → EReal) (x8 : S128x256x3x3.Idx → EReal) (x9 : S128.Idx → EReal) (x10 : S9x128.Idx → EReal) (x11 : S9.Idx → EReal) (x12 : S256x256.Idx → EReal) (x13 : S256.Idx → EReal) (x14 : S512x256.Idx → EReal) (x15 : S512.Idx → EReal) (x16 : S256x256.Idx → EReal) (x17 : S256.Idx → EReal) (x18 : S256x256x3x3.Idx → EReal) (x19 : S256.Idx → EReal)

theorem r_v0 (c : Fin 256) (i j : Fin 58) : (val_main_v0 (F := Ideal) x0 : S1x256x58x58.Idx → EReal) (ix4 0 c i j) = padF (parOf x0 x1 x2 x3 x4 x5 x6 x7 x8 x9 x10 x11 x12 x13 x14 x15 x16 x17 x18 x19).dec c i j := by
  unfold val_main_v0
  exact pad_at x0 _ (fun _ => sitofp_zero) _ _ c i j
theorem r_v1 (c : Fin 256) (a b : Fin 56) : (val_main_v1 (F := Ideal) x0 : S1x256x56x56.Idx → EReal) (ix4 0 c a b) = tap (parOf x0 x1 x2 x3 x4 x5 x6 x7 x8 x9 x10 x11 x12 x13 x14 x15 x16 x17 x18 x19).dec a b 0 c := by
  unfold val_main_v1
  exact sl0 _ _ (r_v0 x0 x1 x2 x3 x4 x5 x6 x7 x8 x9 x10 x11 x12 x13 x14 x15 x16 x17 x18 x19) _ c a b
theorem r_v2 (c : Fin 256) (a b : Fin 56) : (val_main_v2 (F := Ideal) x0 : S1x256x56x56.Idx → EReal) (ix4 0 c a b) = tap (parOf x0 x1 x2 x3 x4 x5 x6 x7 x8 x9 x10 x11 x12 x13 x14 x15 x16 x17 x18 x19).dec a b 1 c := by
  unfold val_main_v2
  exact sl1 _ _ (r_v0 x0 x1 x2 x3 x4 x5 x6 x7 x8 x9 x10 x11 x12 x13 x14 x15 x16 x17 x18 x19) _ c a b
theorem r_v3 (c : Fin 256) (a b : Fin 56) : (val_main_v3 (F := Ideal) x0 : S1x256x56x56.Idx → EReal) (ix4 0 c a b) = tap (parOf x0 x1 x2 x3 x4 x5 x6 x7 x8 x9 x10 x11 x12 x13 x14 x15 x16 x17 x18 x19).dec a b 2 c := by
  unfold val_main_v3
  exact sl2 _ _ (r_v0 x0 x1 x2 x3 x4 x5 x6 x7 x8 x9 x10 x11 x12 x13 x14 x15 x16 x17 x18 x19) _ c a b
theorem r_v4 (c : Fin 256) (a b : Fin 56) : (val_main_v4 (F := Ideal) x0 : S1x256x56x56.Idx → EReal) (ix4 0 c a b) = tap (parOf x0 x1 x2 x3 x4 x5 x6 x7 x8 x9 x10 x11 x12 x13 x14 x15 x16 x17 x18 x19).dec a b 3 c := by
  unfold val_main_v4
  exact sl3 _ _ (r_v0 x0 x1 x2 x3 x4 x5 x6 x7 x8 x9 x10 x11 x12 x13 x14 x15 x16 x17 x18 x19) _ c a b
theorem r_v5 (c : Fin 256) (a b : Fin 56) : (val_main_v5 (F := Ideal) x0 : S1x256x56x56.Idx → EReal) (ix4 0 c a b) = tap (parOf x0 x1 x2 x3 x4 x5 x6 x7 x8 x9 x10 x11 x12 x13 x14 x15 x16 x17 x18 x19).dec a b 4 c := by
  unfold val_main_v5
  exact sl4 _ _ (r_v0 x0 x1 x2 x3 x4 x5 x6 x7 x8 x9 x10 x11 x12 x13 x14 x15 x16 x17 x18 x19) _ c a b
theorem r_v6 (c : Fin 256) (a b : Fin 56) : (val_main_v6 (F := Ideal) x0 : S1x256x56x56.Idx → EReal) (ix4 0 c a b) = tap (parOf x0 x1 x2 x3 x4 x5 x6 x7 x8 x9 x10 x11 x12 x13 x14 x15 x16 x17 x18 x19).dec a b 5 c := by
  unfold val_main_v6
  exact sl5 _ _ (r_v0 x0 x1 x2 x3 x4 x5 x6 x7 x8 x9 x10 x11 x12 x13 x14 x15 x16 x17 x18 x19) _ c a b
theorem r_v7 (c : Fin 256) (a b : Fin 56) : (val_main_v7 (F := Ideal) x0 : S1x256x56x56.Idx → EReal) (ix4 0 c a b) = tap (parOf x0 x1 x2 x3 x4 x5 x6 x7 x8 x9 x10 x11 x12 x13 x14 x15 x16 x17 x18 x19).dec a b 6 c := by
  unfold val_main_v7
  exact sl6 _ _ (r_v0 x0 x1 x2 x3 x4 x5 x6 x7 x8 x9 x10 x11 x12 x13 x14 x15 x16 x17 x18 x19) _ c a b
theorem r_v8 (c : Fin 256) (a b : Fin 56) : (val_main_v8 (F := Ideal) x0 : S1x256x56x56.Idx → EReal) (ix4 0 c a b) = tap (parOf x0 x1 x2 x3 x4 x5 x6 x7 x8 x9 x10 x11 x12 x13 x14 x15 x16 x17 x18 x19).dec a b 7 c := by
  unfold val_main_v8
  exact sl7 _ _ (r_v0 x0 x1 x2 x3 x4 x5 x6 x7 x8 x9 x10 x11 x12 x13 x14 x15 x16 x17 x18 x19) _ c a b
theorem r_v9 (c : Fin 256) (a b : Fin 56) : (val_main_v9 (F := Ideal) x0 : S1x256x56x56.Idx → EReal) (ix4 0 c a b) = tap (parOf x0 x1 x2 x3 x4 x5 x6 x7 x8 x9 x10 x11 x12 x13 x14 x15 x16 x17 x18 x19).dec a b 8 c := by
  unfold val_main_v9
  exact sl8 _ _ (r_v0 x0 x1 x2 x3 x4 x5 x6 x7 x8 x9 x10 x11 x12 x13 x14 x15 x16 x17 x18 x19) _ c a b

/-- The depthwise filter. -/
theorem r_v65 (c : Fin 256) (a b : Fin 56) : (val_main_v65 (F := Ideal) x0 x2 x3 : S1x256x56x56.Idx → EReal) (ix4 0 c a b)
    = (parOf x0 x1 x2 x3 x4 x5 x6 x7 x8 x9 x10 x11 x12 x13 x14 x15 x16 x17 x18 x19).dwb c + ∑ t, tap (parOf x0 x1 x2 x3 x4 x5 x6 x7 x8 x9 x10 x11 x12 x13 x14 x15 x16 x17 x18 x19).dec a b t c * (parOf x0 x1 x2 x3 x4 x5 x6 x7 x8 x9 x10 x11 x12 x13 x14 x15 x16 x17 x18 x19).dww c t := by
  pointwise [val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65]
  simp only [r_v1 x0 x1 x2 x3 x4 x5 x6 x7 x8 x9 x10 x11 x12 x13 x14 x15 x16 x17 x18 x19, r_v2 x0 x1 x2 x3 x4 x5 x6 x7 x8 x9 x10 x11 x12 x13 x14 x15 x16 x17 x18 x19, r_v3 x0 x1 x2 x3 x4 x5 x6 x7 x8 x9 x10 x11 x12 x13 x14 x15 x16 x17 x18 x19, r_v4 x0 x1 x2 x3 x4 x5 x6 x7 x8 x9 x10 x11 x12 x13 x14 x15 x16 x17 x18 x19, r_v5 x0 x1 x2 x3 x4 x5 x6 x7 x8 x9 x10 x11 x12 x13 x14 x15 x16 x17 x18 x19, r_v6 x0 x1 x2 x3 x4 x5 x6 x7 x8 x9 x10 x11 x12 x13 x14 x15 x16 x17 x18 x19, r_v7 x0 x1 x2 x3 x4 x5 x6 x7 x8 x9 x10 x11 x12 x13 x14 x15 x16 x17 x18 x19, r_v8 x0 x1 x2 x3 x4 x5 x6 x7 x8 x9 x10 x11 x12 x13 x14 x15 x16 x17 x18 x19, r_v9 x0 x1 x2 x3 x4 x5 x6 x7 x8 x9 x10 x11 x12 x13 x14 x15 x16 x17 x18 x19]
  rw [sum9, add_comm]
  rfl

/-- The low pass filter's logits. -/
theorem r_v80 (t : Fin 9) (a b : Fin 56) : (val_main_v80 (F := Ideal) x0 x2 x3 x4 x5 x6 x7 : S1x9x56x56.Idx → EReal) (ix4 0 t a b) = logD (parOf x0 x1 x2 x3 x4 x5 x6 x7 x8 x9 x10 x11 x12 x13 x14 x15 x16 x17 x18 x19) a b t := by
  pointwise [val_main_v66, val_main_v67, val_main_v68, val_main_v69, val_main_v70, val_main_cst, val_main_v71, val_main_v72, val_main_cst_0, val_main_v73, val_main_v74, val_main_v75, val_main_v76, val_main_v77, val_main_v78, val_main_v79, val_main_v80]
  simp only [r_v65 x0 x1 x2 x3 x4 x5 x6 x7 x8 x9 x10 x11 x12 x13 x14 x15 x16 x17 x18 x19]
  rfl

/-- The low pass filter. -/
theorem r_v91 (t : Fin 9) (a b : Fin 56) : (val_main_v91 (F := Ideal) x0 x2 x3 x4 x5 x6 x7 : S1x9x56x56.Idx → EReal) (ix4 0 t a b) = sm9 (logD (parOf x0 x1 x2 x3 x4 x5 x6 x7 x8 x9 x10 x11 x12 x13 x14 x15 x16 x17 x18 x19) a b) t := by
  pointwise [val_main_cst_1, val_main_v81, val_main_cst_2, val_main_v82, val_main_v83, val_main_v84, val_main_v85, val_main_v86, val_main_v87, val_main_cst_3, val_main_v88, val_main_v89, val_main_v90, val_main_v91]
  simp only [r_v80 x0 x1 x2 x3 x4 x5 x6 x7 x8 x9 x10 x11 x12 x13 x14 x15 x16 x17 x18 x19, max_fold]
  rfl

theorem r_v92 (c : Fin 256) (i j : Fin 58) : (val_main_v92 (F := Ideal) x0 : S1x256x58x58.Idx → EReal) (ix4 0 c i j) = padF (parOf x0 x1 x2 x3 x4 x5 x6 x7 x8 x9 x10 x11 x12 x13 x14 x15 x16 x17 x18 x19).dec c i j := by
  unfold val_main_v92
  exact pad_at x0 _ (fun _ => sitofp_zero) _ _ c i j
theorem r_v93 (c : Fin 256) (a b : Fin 56) : (val_main_v93 (F := Ideal) x0 : S1x256x56x56.Idx → EReal) (ix4 0 c a b) = tap (parOf x0 x1 x2 x3 x4 x5 x6 x7 x8 x9 x10 x11 x12 x13 x14 x15 x16 x17 x18 x19).dec a b 0 c := by
  unfold val_main_v93
  exact sl0 _ _ (r_v92 x0 x1 x2 x3 x4 x5 x6 x7 x8 x9 x10 x11 x12 x13 x14 x15 x16 x17 x18 x19) _ c a b
theorem r_v94 (c : Fin 256) (a b : Fin 56) : (val_main_v94 (F := Ideal) x0 : S1x256x56x56.Idx → EReal) (ix4 0 c a b) = tap (parOf x0 x1 x2 x3 x4 x5 x6 x7 x8 x9 x10 x11 x12 x13 x14 x15 x16 x17 x18 x19).dec a b 1 c := by
  unfold val_main_v94
  exact sl1 _ _ (r_v92 x0 x1 x2 x3 x4 x5 x6 x7 x8 x9 x10 x11 x12 x13 x14 x15 x16 x17 x18 x19) _ c a b
theorem r_v95 (c : Fin 256) (a b : Fin 56) : (val_main_v95 (F := Ideal) x0 : S1x256x56x56.Idx → EReal) (ix4 0 c a b) = tap (parOf x0 x1 x2 x3 x4 x5 x6 x7 x8 x9 x10 x11 x12 x13 x14 x15 x16 x17 x18 x19).dec a b 2 c := by
  unfold val_main_v95
  exact sl2 _ _ (r_v92 x0 x1 x2 x3 x4 x5 x6 x7 x8 x9 x10 x11 x12 x13 x14 x15 x16 x17 x18 x19) _ c a b
theorem r_v96 (c : Fin 256) (a b : Fin 56) : (val_main_v96 (F := Ideal) x0 : S1x256x56x56.Idx → EReal) (ix4 0 c a b) = tap (parOf x0 x1 x2 x3 x4 x5 x6 x7 x8 x9 x10 x11 x12 x13 x14 x15 x16 x17 x18 x19).dec a b 3 c := by
  unfold val_main_v96
  exact sl3 _ _ (r_v92 x0 x1 x2 x3 x4 x5 x6 x7 x8 x9 x10 x11 x12 x13 x14 x15 x16 x17 x18 x19) _ c a b
theorem r_v97 (c : Fin 256) (a b : Fin 56) : (val_main_v97 (F := Ideal) x0 : S1x256x56x56.Idx → EReal) (ix4 0 c a b) = tap (parOf x0 x1 x2 x3 x4 x5 x6 x7 x8 x9 x10 x11 x12 x13 x14 x15 x16 x17 x18 x19).dec a b 4 c := by
  unfold val_main_v97
  exact sl4 _ _ (r_v92 x0 x1 x2 x3 x4 x5 x6 x7 x8 x9 x10 x11 x12 x13 x14 x15 x16 x17 x18 x19) _ c a b
theorem r_v98 (c : Fin 256) (a b : Fin 56) : (val_main_v98 (F := Ideal) x0 : S1x256x56x56.Idx → EReal) (ix4 0 c a b) = tap (parOf x0 x1 x2 x3 x4 x5 x6 x7 x8 x9 x10 x11 x12 x13 x14 x15 x16 x17 x18 x19).dec a b 5 c := by
  unfold val_main_v98
  exact sl5 _ _ (r_v92 x0 x1 x2 x3 x4 x5 x6 x7 x8 x9 x10 x11 x12 x13 x14 x15 x16 x17 x18 x19) _ c a b
theorem r_v99 (c : Fin 256) (a b : Fin 56) : (val_main_v99 (F := Ideal) x0 : S1x256x56x56.Idx → EReal) (ix4 0 c a b) = tap (parOf x0 x1 x2 x3 x4 x5 x6 x7 x8 x9 x10 x11 x12 x13 x14 x15 x16 x17 x18 x19).dec a b 6 c := by
  unfold val_main_v99
  exact sl6 _ _ (r_v92 x0 x1 x2 x3 x4 x5 x6 x7 x8 x9 x10 x11 x12 x13 x14 x15 x16 x17 x18 x19) _ c a b
theorem r_v100 (c : Fin 256) (a b : Fin 56) : (val_main_v100 (F := Ideal) x0 : S1x256x56x56.Idx → EReal) (ix4 0 c a b) = tap (parOf x0 x1 x2 x3 x4 x5 x6 x7 x8 x9 x10 x11 x12 x13 x14 x15 x16 x17 x18 x19).dec a b 7 c := by
  unfold val_main_v100
  exact sl7 _ _ (r_v92 x0 x1 x2 x3 x4 x5 x6 x7 x8 x9 x10 x11 x12 x13 x14 x15 x16 x17 x18 x19) _ c a b
theorem r_v101 (c : Fin 256) (a b : Fin 56) : (val_main_v101 (F := Ideal) x0 : S1x256x56x56.Idx → EReal) (ix4 0 c a b) = tap (parOf x0 x1 x2 x3 x4 x5 x6 x7 x8 x9 x10 x11 x12 x13 x14 x15 x16 x17 x18 x19).dec a b 8 c := by
  unfold val_main_v101
  exact sl8 _ _ (r_v92 x0 x1 x2 x3 x4 x5 x6 x7 x8 x9 x10 x11 x12 x13 x14 x15 x16 x17 x18 x19) _ c a b
set_option maxHeartbeats 800000 in
theorem r_v111 (c : Fin 256) (t : Fin 9) (a b : Fin 56) : (val_main_v111 (F := Ideal) x0 : S1x256x9x56x56.Idx → EReal) (ix5 0 c t a b) = tap (parOf x0 x1 x2 x3 x4 x5 x6 x7 x8 x9 x10 x11 x12 x13 x14 x15 x16 x17 x18 x19).dec a b t c := by
  fin_cases t
  · refine Eq.trans ?_ (r_v93 x0 x1 x2 x3 x4 x5 x6 x7 x8 x9 x10 x11 x12 x13 x14 x15 x16 x17 x18 x19 c a b)
    pointwise [val_main_v102, val_main_v103, val_main_v104, val_main_v105, val_main_v106, val_main_v107, val_main_v108, val_main_v109, val_main_v110, val_main_v111]
  · refine Eq.trans ?_ (r_v94 x0 x1 x2 x3 x4 x5 x6 x7 x8 x9 x10 x11 x12 x13 x14 x15 x16 x17 x18 x19 c a b)
    pointwise [val_main_v102, val_main_v103, val_main_v104, val_main_v105, val_main_v106, val_main_v107, val_main_v108, val_main_v109, val_main_v110, val_main_v111]
  · refine Eq.trans ?_ (r_v95 x0 x1 x2 x3 x4 x5 x6 x7 x8 x9 x10 x11 x12 x13 x14 x15 x16 x17 x18 x19 c a b)
    pointwise [val_main_v102, val_main_v103, val_main_v104, val_main_v105, val_main_v106, val_main_v107, val_main_v108, val_main_v109, val_main_v110, val_main_v111]
  · refine Eq.trans ?_ (r_v96 x0 x1 x2 x3 x4 x5 x6 x7 x8 x9 x10 x11 x12 x13 x14 x15 x16 x17 x18 x19 c a b)
    pointwise [val_main_v102, val_main_v103, val_main_v104, val_main_v105, val_main_v106, val_main_v107, val_main_v108, val_main_v109, val_main_v110, val_main_v111]
  · refine Eq.trans ?_ (r_v97 x0 x1 x2 x3 x4 x5 x6 x7 x8 x9 x10 x11 x12 x13 x14 x15 x16 x17 x18 x19 c a b)
    pointwise [val_main_v102, val_main_v103, val_main_v104, val_main_v105, val_main_v106, val_main_v107, val_main_v108, val_main_v109, val_main_v110, val_main_v111]
  · refine Eq.trans ?_ (r_v98 x0 x1 x2 x3 x4 x5 x6 x7 x8 x9 x10 x11 x12 x13 x14 x15 x16 x17 x18 x19 c a b)
    pointwise [val_main_v102, val_main_v103, val_main_v104, val_main_v105, val_main_v106, val_main_v107, val_main_v108, val_main_v109, val_main_v110, val_main_v111]
  · refine Eq.trans ?_ (r_v99 x0 x1 x2 x3 x4 x5 x6 x7 x8 x9 x10 x11 x12 x13 x14 x15 x16 x17 x18 x19 c a b)
    pointwise [val_main_v102, val_main_v103, val_main_v104, val_main_v105, val_main_v106, val_main_v107, val_main_v108, val_main_v109, val_main_v110, val_main_v111]
  · refine Eq.trans ?_ (r_v100 x0 x1 x2 x3 x4 x5 x6 x7 x8 x9 x10 x11 x12 x13 x14 x15 x16 x17 x18 x19 c a b)
    pointwise [val_main_v102, val_main_v103, val_main_v104, val_main_v105, val_main_v106, val_main_v107, val_main_v108, val_main_v109, val_main_v110, val_main_v111]
  · refine Eq.trans ?_ (r_v101 x0 x1 x2 x3 x4 x5 x6 x7 x8 x9 x10 x11 x12 x13 x14 x15 x16 x17 x18 x19 c a b)
    pointwise [val_main_v102, val_main_v103, val_main_v104, val_main_v105, val_main_v106, val_main_v107, val_main_v108, val_main_v109, val_main_v110, val_main_v111]

/-- The smoothed decoder features. -/
theorem r_v115 (c : Fin 256) (a b : Fin 56) : (val_main_v115 (F := Ideal) x0 x2 x3 x4 x5 x6 x7 : S1x256x56x56.Idx → EReal) (ix4 0 c a b) = smooth (parOf x0 x1 x2 x3 x4 x5 x6 x7 x8 x9 x10 x11 x12 x13 x14 x15 x16 x17 x18 x19) a b c := by
  pointwise [val_main_v112, val_main_v113, val_main_v114, val_main_cst_5, val_main_v115]
  simp only [r_v91 x0 x1 x2 x3 x4 x5 x6 x7 x8 x9 x10 x11 x12 x13 x14 x15 x16 x17 x18 x19, r_v111 x0 x1 x2 x3 x4 x5 x6 x7 x8 x9 x10 x11 x12 x13 x14 x15 x16 x17 x18 x19]
  rfl

/-- The queries by head. -/
theorem r_v121 (h : Fin 8) (d : Fin 32) (n : Fin 3136) : (val_main_v121 (F := Ideal) x0 x2 x3 x4 x5 x6 x7 x12 x13 : S1x8x32x3136.Idx → EReal) (ix4 0 h d n) = qR (parOf x0 x1 x2 x3 x4 x5 x6 x7 x8 x9 x10 x11 x12 x13 x14 x15 x16 x17 x18 x19) n (hd h d) := by
  pointwise [val_main_v116, val_main_v117, val_main_v118, val_main_v119, val_main_v120, val_main_v121]
  simp only [r_v115 x0 x1 x2 x3 x4 x5 x6 x7 x8 x9 x10 x11 x12 x13 x14 x15 x16 x17 x18 x19]
  trivial

end

end Cert.ReferenceIdeal.Val

end

end
-- ==== Proof.RefB.lean ====
/-
  The reference's attention, read at an index.
-/
module

public import proofs.«01_k».proof.Proof.Model
public import proofs.«01_k».proof.Proof.Gen.ReferenceIdeal.Read
public import proofs.«01_k».proof.Proof.EntA
public import proofs.«01_k».proof.Proof.RefA

@[expose] public section

set_option maxRecDepth 16384

noncomputable section

open Idealize.ShloMosaic Idealize.ShloMosaic.TcCoe Idealize.SL.Sem

namespace Cert.ReferenceIdeal.Val
open Cert.ReferenceIdeal Cert.ReferenceIdeal.Gen Cert.ReferenceIdeal.Read
open Cert.KernelIdeal.Val (parOf Params padF tap hd sm9 lrelu lgD lgE wsum qscale sum9 logD logE smooth rowOf colOf kvF keyF valF align pix fuse qR scoreR topR attR highR outR sitofp_zero)

/-- A sum over the 256 channels, head by head. -/
theorem sum_heads (f : Fin 256 → EReal) : ∑ c : Fin 256, f c = ∑ h : Fin 8, ∑ d : Fin 32, f (hd h d) := by
  rw [← Fintype.sum_prod_type', ← Equiv.sum_comp (finProdFinEquiv : Fin 8 × Fin 32 ≃ Fin (8 * 32)) f]
  refine Finset.sum_congr rfl fun p _ => congrArg f (Fin.ext ?_)
  show p.2.val + 32 * p.1.val = p.1.val * 32 + p.2.val
  omega

section
variable (x0 : S1x256x56x56.Idx → EReal) (x1 : S1x256x56x56.Idx → EReal) (x2 : S256x1x3x3.Idx → EReal) (x3 : S256.Idx → EReal) (x4 : S128x256.Idx → EReal) (x5 : S128.Idx → EReal) (x6 : S9x128.Idx → EReal) (x7 : S9.Idx → EReal) (x8 : S128x256x3x3.Idx → EReal) (x9 : S128.Idx → EReal) (x10 : S9x128.Idx → EReal) (x11 : S9.Idx → EReal) (x12 : S256x256.Idx → EReal) (x13 : S256.Idx → EReal) (x14 : S512x256.Idx → EReal) (x15 : S512.Idx → EReal) (x16 : S256x256.Idx → EReal) (x17 : S256.Idx → EReal) (x18 : S256x256x3x3.Idx → EReal) (x19 : S256.Idx → EReal)

/-- The keys and values as images. -/
theorem r_v126 (r : Fin 512) (a b : Fin 56) : (val_main_v126 (F := Ideal) x1 x14 x15 : S1x512x56x56.Idx → EReal) (ix4 0 r a b)
    = (∑ c : Fin 256, (parOf x0 x1 x2 x3 x4 x5 x6 x7 x8 x9 x10 x11 x12 x13 x14 x15 x16 x17 x18 x19).kvw r c * (parOf x0 x1 x2 x3 x4 x5 x6 x7 x8 x9 x10 x11 x12 x13 x14 x15 x16 x17 x18 x19).enc c a b) + (parOf x0 x1 x2 x3 x4 x5 x6 x7 x8 x9 x10 x11 x12 x13 x14 x15 x16 x17 x18 x19).kvb r := by
  pointwise [val_main_v122, val_main_v123, val_main_v124, val_main_v125, val_main_v126]
  refine congrArg (fun x : EReal => x + _) (Finset.sum_congr rfl fun c _ => mul_comm _ _)

/-- The keys by head. -/
theorem r_v129 (h : Fin 8) (d : Fin 32) (n : Fin 3136) : (val_main_v129 (F := Ideal) x1 x14 x15 : S1x8x32x3136.Idx → EReal) (ix4 0 h d n) = keyF (parOf x0 x1 x2 x3 x4 x5 x6 x7 x8 x9 x10 x11 x12 x13 x14 x15 x16 x17 x18 x19) h d n := by
  pointwise [val_main_v129, val_main_v127]
  refine (r_v126 x0 x1 x2 x3 x4 x5 x6 x7 x8 x9 x10 x11 x12 x13 x14 x15 x16 x17 x18 x19 _ _ _).trans ?_
  trivial

/-- The values by head. -/
theorem r_v130 (h : Fin 8) (d : Fin 32) (n : Fin 3136) : (val_main_v130 (F := Ideal) x1 x14 x15 : S1x8x32x3136.Idx → EReal) (ix4 0 h d n) = valF (parOf x0 x1 x2 x3 x4 x5 x6 x7 x8 x9 x10 x11 x12 x13 x14 x15 x16 x17 x18 x19) h d n := by
  pointwise [val_main_v130, val_main_v128]
  refine (r_v126 x0 x1 x2 x3 x4 x5 x6 x7 x8 x9 x10 x11 x12 x13 x14 x15 x16 x17 x18 x19 _ _ _).trans ?_
  trivial

/-- The scores. -/
theorem r_v133 (h : Fin 8) (n m : Fin 3136) : (val_main_v133 (F := Ideal) x0 x1 x2 x3 x4 x5 x6 x7 x12 x13 x14 x15 : S1x8x3136x3136.Idx → EReal) (ix4 0 h n m) = scoreR (parOf x0 x1 x2 x3 x4 x5 x6 x7 x8 x9 x10 x11 x12 x13 x14 x15 x16 x17 x18 x19) n h m := by
  pointwise [val_main_v131, val_main_cst_6, val_main_v132, val_main_v133]
  simp only [r_v121 x0 x1 x2 x3 x4 x5 x6 x7 x8 x9 x10 x11 x12 x13 x14 x15 x16 x17 x18 x19, r_v129 x0 x1 x2 x3 x4 x5 x6 x7 x8 x9 x10 x11 x12 x13 x14 x15 x16 x17 x18 x19]
  rfl

/-- A maximum over the last axis. -/
theorem top_at (h : Fin 8) (n : Fin 3136) (y : S1x8x3136x3136.Idx → EReal) (z : S_.Idx → EReal) : (Host.reduce (α := EReal) (FloatOps.maximumf (F := Ideal) (φ := .f32)) y z reducesTo_S1x8x3136x3136_S1x8x3136_d3 h_S_ : S1x8x3136.Idx → EReal) (ix3 0 h n)
    = (Finset.univ : Finset (Fin 3136)).fold max (z (Shape.Idx.first h_S_)) (fun m => y (ix4 0 h n m)) := by
  pointwise

/-- The largest score of a place. -/
theorem r_v134 (h : Fin 8) (n : Fin 3136) : (val_main_v134 (F := Ideal) x0 x1 x2 x3 x4 x5 x6 x7 x12 x13 x14 x15 : S1x8x3136.Idx → EReal) (ix3 0 h n) = topR (parOf x0 x1 x2 x3 x4 x5 x6 x7 x8 x9 x10 x11 x12 x13 x14 x15 x16 x17 x18 x19) n h := by
  unfold val_main_v134
  refine (top_at h n _ _).trans ?_
  unfold topR
  exact congrArg (fun f => (Finset.univ : Finset (Fin 3136)).fold max (Ideal.ofBits .f32 0xFF800000#32) f) (funext fun m => r_v133 x0 x1 x2 x3 x4 x5 x6 x7 x8 x9 x10 x11 x12 x13 x14 x15 x16 x17 x18 x19 h n m)

/-- The largest score is not below the value the maximum starts from. -/
theorem max_topR (P : Params) (n : Fin 3136) (h : Fin 8) : max (Ideal.ofBits .f32 0xFF800000#32) (topR P n h) = topR P n h := by
  unfold topR
  exact max_fold (Ideal.ofBits .f32 0xFF800000#32) (scoreR P n h)

/-- The maximum of two numbers. -/
theorem maxi_eq (p q : EReal) : FloatOps.maximumf (F := Ideal) (φ := .f32) p q = max p q := rfl

/-- The largest score, compared once more with the value the maximum starts from. -/
theorem r_v136 (h : Fin 8) (n : Fin 3136) : (val_main_v136 (F := Ideal) x0 x1 x2 x3 x4 x5 x6 x7 x12 x13 x14 x15 : S1x8x3136.Idx → EReal) (ix3 0 h n) = topR (parOf x0 x1 x2 x3 x4 x5 x6 x7 x8 x9 x10 x11 x12 x13 x14 x15 x16 x17 x18 x19) n h := by
  have e : (val_main_v135 (F := Ideal) : S1x8x3136.Idx → EReal) (ix3 0 h n) = Ideal.ofBits .f32 0xFF800000#32 := by
    rw [val_main_v135_apply]
    rfl
  have e' := r_v134 x0 x1 x2 x3 x4 x5 x6 x7 x8 x9 x10 x11 x12 x13 x14 x15 x16 x17 x18 x19 h n
  rw [val_main_v136_apply, e, e']
  exact (maxi_eq _ _).trans (max_topR _ _ _)

/-- The exponential of a score below the largest. -/
theorem r_v140 (h : Fin 8) (n m : Fin 3136) : (val_main_v140 (F := Ideal) x0 x1 x2 x3 x4 x5 x6 x7 x12 x13 x14 x15 : S1x8x3136x3136.Idx → EReal) (ix4 0 h n m) = Ideal.exp (scoreR (parOf x0 x1 x2 x3 x4 x5 x6 x7 x8 x9 x10 x11 x12 x13 x14 x15 x16 x17 x18 x19) n h m - topR (parOf x0 x1 x2 x3 x4 x5 x6 x7 x8 x9 x10 x11 x12 x13 x14 x15 x16 x17 x18 x19) n h) := by
  have i1 : idx_main_v138 (ix4 0 h n m) = ix4 0 h n 0 := by
    funext k
    match k with
    | ⟨0, _⟩ => rfl
    | ⟨1, _⟩ => rfl
    | ⟨2, _⟩ => rfl
    | ⟨3, _⟩ => rfl
  have i2 : idx_main_v137 (ix4 0 h n 0) = ix3 0 h n := by
    funext k
    match k with
    | ⟨0, _⟩ => rfl
    | ⟨1, _⟩ => rfl
    | ⟨2, _⟩ => rfl
  have e : (val_main_v138 (F := Ideal) x0 x1 x2 x3 x4 x5 x6 x7 x12 x13 x14 x15 : S1x8x3136x3136.Idx → EReal) (ix4 0 h n m) = topR (parOf x0 x1 x2 x3 x4 x5 x6 x7 x8 x9 x10 x11 x12 x13 x14 x15 x16 x17 x18 x19) n h := by
    rw [val_main_v138_apply, i1, val_main_v137_apply, i2]
    exact r_v136 x0 x1 x2 x3 x4 x5 x6 x7 x8 x9 x10 x11 x12 x13 x14 x15 x16 x17 x18 x19 h n
  exact congrArg Ideal.exp (congrArg₂ (fun p q : EReal => p - q) (r_v133 x0 x1 x2 x3 x4 x5 x6 x7 x8 x9 x10 x11 x12 x13 x14 x15 x16 x17 x18 x19 h n m) e)

/-- The sum of those exponentials. -/
theorem r_v141 (h : Fin 8) (n : Fin 3136) : (val_main_v141 (F := Ideal) x0 x1 x2 x3 x4 x5 x6 x7 x12 x13 x14 x15 : S1x8x3136.Idx → EReal) (ix3 0 h n) = ∑ m : Fin 3136, Ideal.exp (scoreR (parOf x0 x1 x2 x3 x4 x5 x6 x7 x8 x9 x10 x11 x12 x13 x14 x15 x16 x17 x18 x19) n h m - topR (parOf x0 x1 x2 x3 x4 x5 x6 x7 x8 x9 x10 x11 x12 x13 x14 x15 x16 x17 x18 x19) n h) := by
  have e : (val_main_v141 (F := Ideal) x0 x1 x2 x3 x4 x5 x6 x7 x12 x13 x14 x15 : S1x8x3136.Idx → EReal) (ix3 0 h n) = ∑ m : Fin 3136, (val_main_v140 (F := Ideal) x0 x1 x2 x3 x4 x5 x6 x7 x12 x13 x14 x15 : S1x8x3136x3136.Idx → EReal) (ix4 0 h n m) := by
    pointwise [val_main_v141, val_main_cst_9]
  rw [e]
  exact Finset.sum_congr rfl fun m _ => r_v140 x0 x1 x2 x3 x4 x5 x6 x7 x8 x9 x10 x11 x12 x13 x14 x15 x16 x17 x18 x19 h n m

/-- The weights of the attention. -/
theorem r_v144 (h : Fin 8) (n m : Fin 3136) : (val_main_v144 (F := Ideal) x0 x1 x2 x3 x4 x5 x6 x7 x12 x13 x14 x15 : S1x8x3136x3136.Idx → EReal) (ix4 0 h n m)
    = Ideal.div (Ideal.exp (scoreR (parOf x0 x1 x2 x3 x4 x5 x6 x7 x8 x9 x10 x11 x12 x13 x14 x15 x16 x17 x18 x19) n h m - topR (parOf x0 x1 x2 x3 x4 x5 x6 x7 x8 x9 x10 x11 x12 x13 x14 x15 x16 x17 x18 x19) n h)) (∑ m' : Fin 3136, Ideal.exp (scoreR (parOf x0 x1 x2 x3 x4 x5 x6 x7 x8 x9 x10 x11 x12 x13 x14 x15 x16 x17 x18 x19) n h m' - topR (parOf x0 x1 x2 x3 x4 x5 x6 x7 x8 x9 x10 x11 x12 x13 x14 x15 x16 x17 x18 x19) n h)) := by
  have i1 : idx_main_v143 (ix4 0 h n m) = ix4 0 h n 0 := by
    funext k
    match k with
    | ⟨0, _⟩ => rfl
    | ⟨1, _⟩ => rfl
    | ⟨2, _⟩ => rfl
    | ⟨3, _⟩ => rfl
  have i2 : idx_main_v142 (ix4 0 h n 0) = ix3 0 h n := by
    funext k
    match k with
    | ⟨0, _⟩ => rfl
    | ⟨1, _⟩ => rfl
    | ⟨2, _⟩ => rfl
  have e : (val_main_v143 (F := Ideal) x0 x1 x2 x3 x4 x5 x6 x7 x12 x13 x14 x15 : S1x8x3136x3136.Idx → EReal) (ix4 0 h n m) = ∑ m' : Fin 3136, Ideal.exp (scoreR (parOf x0 x1 x2 x3 x4 x5 x6 x7 x8 x9 x10 x11 x12 x13 x14 x15 x16 x17 x18 x19) n h m' - topR (parOf x0 x1 x2 x3 x4 x5 x6 x7 x8 x9 x10 x11 x12 x13 x14 x15 x16 x17 x18 x19) n h) := by
    rw [val_main_v143_apply, i1, val_main_v142_apply, i2]
    exact r_v141 x0 x1 x2 x3 x4 x5 x6 x7 x8 x9 x10 x11 x12 x13 x14 x15 x16 x17 x18 x19 h n
  exact congrArg₂ Ideal.div (r_v140 x0 x1 x2 x3 x4 x5 x6 x7 x8 x9 x10 x11 x12 x13 x14 x15 x16 x17 x18 x19 h n m) e

/-- The heads' results. -/
theorem r_v145 (h : Fin 8) (d : Fin 32) (n : Fin 3136) : (val_main_v145 (F := Ideal) x0 x1 x2 x3 x4 x5 x6 x7 x12 x13 x14 x15 : S1x8x32x3136.Idx → EReal) (ix4 0 h d n) = attR (parOf x0 x1 x2 x3 x4 x5 x6 x7 x8 x9 x10 x11 x12 x13 x14 x15 x16 x17 x18 x19) n h d := by
  pointwise [val_main_v145]
  simp only [r_v130 x0 x1 x2 x3 x4 x5 x6 x7 x8 x9 x10 x11 x12 x13 x14 x15 x16 x17 x18 x19, r_v144 x0 x1 x2 x3 x4 x5 x6 x7 x8 x9 x10 x11 x12 x13 x14 x15 x16 x17 x18 x19]
  exact Finset.sum_congr rfl fun m _ => mul_comm _ _

/-- The heads' results, one channel after another. -/
theorem r_v146 (h : Fin 8) (d : Fin 32) (a b : Fin 56) : (val_main_v146 (F := Ideal) x0 x1 x2 x3 x4 x5 x6 x7 x12 x13 x14 x15 : S1x256x56x56.Idx → EReal) (ix4 0 (hd h d) a b) = attR (parOf x0 x1 x2 x3 x4 x5 x6 x7 x8 x9 x10 x11 x12 x13 x14 x15 x16 x17 x18 x19) (pix a b) h d := by
  have e1 : (⟨(h.val * 32 + d.val) / 32, by omega⟩ : Fin 8) = h := Fin.ext (by dsimp only; omega)
  have e2 : (⟨(h.val * 32 + d.val) % 32, by omega⟩ : Fin 32) = d := Fin.ext (by dsimp only; omega)
  rw [← r_v145 x0 x1 x2 x3 x4 x5 x6 x7 x8 x9 x10 x11 x12 x13 x14 x15 x16 x17 x18 x19]
  pointwise [val_main_v146]
  rw [e1, e2]
  try rfl

/-- The output projection. -/
theorem r_v151 (o : Fin 256) (a b : Fin 56) : (val_main_v151 (F := Ideal) x0 x1 x2 x3 x4 x5 x6 x7 x12 x13 x14 x15 x16 x17 : S1x256x56x56.Idx → EReal) (ix4 0 o a b) = align (parOf x0 x1 x2 x3 x4 x5 x6 x7 x8 x9 x10 x11 x12 x13 x14 x15 x16 x17 x18 x19) (attR (parOf x0 x1 x2 x3 x4 x5 x6 x7 x8 x9 x10 x11 x12 x13 x14 x15 x16 x17 x18 x19)) (pix a b) o := by
  pointwise [val_main_v147, val_main_v148, val_main_v149, val_main_v150, val_main_v151]
  rw [sum_heads]
  simp only [r_v146 x0 x1 x2 x3 x4 x5 x6 x7 x8 x9 x10 x11 x12 x13 x14 x15 x16 x17 x18 x19]
  rfl

end

end Cert.ReferenceIdeal.Val

end

end
-- ==== Proof.RefC.lean ====
/-
  The reference's high pass filter, read at an index.
-/
module

public import proofs.«01_k».proof.Proof.Model
public import proofs.«01_k».proof.Proof.Gen.ReferenceIdeal.Read
public import proofs.«01_k».proof.Proof.EntA
public import proofs.«01_k».proof.Proof.RefA

@[expose] public section

set_option maxRecDepth 16384

noncomputable section

open Idealize.ShloMosaic Idealize.ShloMosaic.TcCoe Idealize.SL.Sem

namespace Cert.ReferenceIdeal.Val
open Cert.ReferenceIdeal Cert.ReferenceIdeal.Gen Cert.ReferenceIdeal.Read
open Cert.KernelIdeal.Val (parOf Params padF tap hd sm9 lrelu lgD lgE wsum qscale sum9 logD logE smooth rowOf colOf kvF keyF valF align pix fuse qR scoreR topR attR highR outR sitofp_zero)

section
variable (x0 : S1x256x56x56.Idx → EReal) (x1 : S1x256x56x56.Idx → EReal) (x2 : S256x1x3x3.Idx → EReal) (x3 : S256.Idx → EReal) (x4 : S128x256.Idx → EReal) (x5 : S128.Idx → EReal) (x6 : S9x128.Idx → EReal) (x7 : S9.Idx → EReal) (x8 : S128x256x3x3.Idx → EReal) (x9 : S128.Idx → EReal) (x10 : S9x128.Idx → EReal) (x11 : S9.Idx → EReal) (x12 : S256x256.Idx → EReal) (x13 : S256.Idx → EReal) (x14 : S512x256.Idx → EReal) (x15 : S512.Idx → EReal) (x16 : S256x256.Idx → EReal) (x17 : S256.Idx → EReal) (x18 : S256x256x3x3.Idx → EReal) (x19 : S256.Idx → EReal)

theorem r_v152 (c : Fin 256) (i j : Fin 58) : (val_main_v152 (F := Ideal) x1 : S1x256x58x58.Idx → EReal) (ix4 0 c i j) = padF (parOf x0 x1 x2 x3 x4 x5 x6 x7 x8 x9 x10 x11 x12 x13 x14 x15 x16 x17 x18 x19).enc c i j := by
  unfold val_main_v152
  exact pad_at x1 _ (fun _ => sitofp_zero) _ _ c i j
theorem r_v153 (c : Fin 256) (a b : Fin 56) : (val_main_v153 (F := Ideal) x1 : S1x256x56x56.Idx → EReal) (ix4 0 c a b) = tap (parOf x0 x1 x2 x3 x4 x5 x6 x7 x8 x9 x10 x11 x12 x13 x14 x15 x16 x17 x18 x19).enc a b 0 c := by
  unfold val_main_v153
  exact sl0 _ _ (r_v152 x0 x1 x2 x3 x4 x5 x6 x7 x8 x9 x10 x11 x12 x13 x14 x15 x16 x17 x18 x19) _ c a b
theorem r_v154 (c : Fin 256) (a b : Fin 56) : (val_main_v154 (F := Ideal) x1 : S1x256x56x56.Idx → EReal) (ix4 0 c a b) = tap (parOf x0 x1 x2 x3 x4 x5 x6 x7 x8 x9 x10 x11 x12 x13 x14 x15 x16 x17 x18 x19).enc a b 1 c := by
  unfold val_main_v154
  exact sl1 _ _ (r_v152 x0 x1 x2 x3 x4 x5 x6 x7 x8 x9 x10 x11 x12 x13 x14 x15 x16 x17 x18 x19) _ c a b
theorem r_v155 (c : Fin 256) (a b : Fin 56) : (val_main_v155 (F := Ideal) x1 : S1x256x56x56.Idx → EReal) (ix4 0 c a b) = tap (parOf x0 x1 x2 x3 x4 x5 x6 x7 x8 x9 x10 x11 x12 x13 x14 x15 x16 x17 x18 x19).enc a b 2 c := by
  unfold val_main_v155
  exact sl2 _ _ (r_v152 x0 x1 x2 x3 x4 x5 x6 x7 x8 x9 x10 x11 x12 x13 x14 x15 x16 x17 x18 x19) _ c a b
theorem r_v156 (c : Fin 256) (a b : Fin 56) : (val_main_v156 (F := Ideal) x1 : S1x256x56x56.Idx → EReal) (ix4 0 c a b) = tap (parOf x0 x1 x2 x3 x4 x5 x6 x7 x8 x9 x10 x11 x12 x13 x14 x15 x16 x17 x18 x19).enc a b 3 c := by
  unfold val_main_v156
  exact sl3 _ _ (r_v152 x0 x1 x2 x3 x4 x5 x6 x7 x8 x9 x10 x11 x12 x13 x14 x15 x16 x17 x18 x19) _ c a b
theorem r_v157 (c : Fin 256) (a b : Fin 56) : (val_main_v157 (F := Ideal) x1 : S1x256x56x56.Idx → EReal) (ix4 0 c a b) = tap (parOf x0 x1 x2 x3 x4 x5 x6 x7 x8 x9 x10 x11 x12 x13 x14 x15 x16 x17 x18 x19).enc a b 4 c := by
  unfold val_main_v157
  exact sl4 _ _ (r_v152 x0 x1 x2 x3 x4 x5 x6 x7 x8 x9 x10 x11 x12 x13 x14 x15 x16 x17 x18 x19) _ c a b
theorem r_v158 (c : Fin 256) (a b : Fin 56) : (val_main_v158 (F := Ideal) x1 : S1x256x56x56.Idx → EReal) (ix4 0 c a b) = tap (parOf x0 x1 x2 x3 x4 x5 x6 x7 x8 x9 x10 x11 x12 x13 x14 x15 x16 x17 x18 x19).enc a b 5 c := by
  unfold val_main_v158
  exact sl5 _ _ (r_v152 x0 x1 x2 x3 x4 x5 x6 x7 x8 x9 x10 x11 x12 x13 x14 x15 x16 x17 x18 x19) _ c a b
theorem r_v159 (c : Fin 256) (a b : Fin 56) : (val_main_v159 (F := Ideal) x1 : S1x256x56x56.Idx → EReal) (ix4 0 c a b) = tap (parOf x0 x1 x2 x3 x4 x5 x6 x7 x8 x9 x10 x11 x12 x13 x14 x15 x16 x17 x18 x19).enc a b 6 c := by
  unfold val_main_v159
  exact sl6 _ _ (r_v152 x0 x1 x2 x3 x4 x5 x6 x7 x8 x9 x10 x11 x12 x13 x14 x15 x16 x17 x18 x19) _ c a b
theorem r_v160 (c : Fin 256) (a b : Fin 56) : (val_main_v160 (F := Ideal) x1 : S1x256x56x56.Idx → EReal) (ix4 0 c a b) = tap (parOf x0 x1 x2 x3 x4 x5 x6 x7 x8 x9 x10 x11 x12 x13 x14 x15 x16 x17 x18 x19).enc a b 7 c := by
  unfold val_main_v160
  exact sl7 _ _ (r_v152 x0 x1 x2 x3 x4 x5 x6 x7 x8 x9 x10 x11 x12 x13 x14 x15 x16 x17 x18 x19) _ c a b
theorem r_v161 (c : Fin 256) (a b : Fin 56) : (val_main_v161 (F := Ideal) x1 : S1x256x56x56.Idx → EReal) (ix4 0 c a b) = tap (parOf x0 x1 x2 x3 x4 x5 x6 x7 x8 x9 x10 x11 x12 x13 x14 x15 x16 x17 x18 x19).enc a b 8 c := by
  unfold val_main_v161
  exact sl8 _ _ (r_v152 x0 x1 x2 x3 x4 x5 x6 x7 x8 x9 x10 x11 x12 x13 x14 x15 x16 x17 x18 x19) _ c a b

/-- The high pass filter's logits. -/
theorem r_v218 (t : Fin 9) (a b : Fin 56) : (val_main_v218 (F := Ideal) x1 x8 x9 x10 x11 : S1x9x56x56.Idx → EReal) (ix4 0 t a b) = logE (parOf x0 x1 x2 x3 x4 x5 x6 x7 x8 x9 x10 x11 x12 x13 x14 x15 x16 x17 x18 x19) a b t := by
  pointwise [val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_cst_11, val_main_v209, val_main_v210, val_main_cst_12, val_main_v211, val_main_v212, val_main_v213, val_main_v214, val_main_v215, val_main_v216, val_main_v217, val_main_v218]
  simp only [r_v153 x0 x1 x2 x3 x4 x5 x6 x7 x8 x9 x10 x11 x12 x13 x14 x15 x16 x17 x18 x19, r_v154 x0 x1 x2 x3 x4 x5 x6 x7 x8 x9 x10 x11 x12 x13 x14 x15 x16 x17 x18 x19, r_v155 x0 x1 x2 x3 x4 x5 x6 x7 x8 x9 x10 x11 x12 x13 x14 x15 x16 x17 x18 x19, r_v156 x0 x1 x2 x3 x4 x5 x6 x7 x8 x9 x10 x11 x12 x13 x14 x15 x16 x17 x18 x19, r_v157 x0 x1 x2 x3 x4 x5 x6 x7 x8 x9 x10 x11 x12 x13 x14 x15 x16 x17 x18 x19, r_v158 x0 x1 x2 x3 x4 x5 x6 x7 x8 x9 x10 x11 x12 x13 x14 x15 x16 x17 x18 x19, r_v159 x0 x1 x2 x3 x4 x5 x6 x7 x8 x9 x10 x11 x12 x13 x14 x15 x16 x17 x18 x19, r_v160 x0 x1 x2 x3 x4 x5 x6 x7 x8 x9 x10 x11 x12 x13 x14 x15 x16 x17 x18 x19, r_v161 x0 x1 x2 x3 x4 x5 x6 x7 x8 x9 x10 x11 x12 x13 x14 x15 x16 x17 x18 x19]
  unfold logE lgE
  simp only [sum9 (fun s => ∑ c : Fin 256, tap (parOf x0 x1 x2 x3 x4 x5 x6 x7 x8 x9 x10 x11 x12 x13 x14 x15 x16 x17 x18 x19).enc a b s c * (parOf x0 x1 x2 x3 x4 x5 x6 x7 x8 x9 x10 x11 x12 x13 x14 x15 x16 x17 x18 x19).c1w _ c s)]
  rfl

/-- The high pass filter's softmax. -/
theorem r_v229 (t : Fin 9) (a b : Fin 56) : (val_main_v229 (F := Ideal) x1 x8 x9 x10 x11 : S1x9x56x56.Idx → EReal) (ix4 0 t a b) = sm9 (logE (parOf x0 x1 x2 x3 x4 x5 x6 x7 x8 x9 x10 x11 x12 x13 x14 x15 x16 x17 x18 x19) a b) t := by
  pointwise [val_main_cst_13, val_main_v219, val_main_cst_14, val_main_v220, val_main_v221, val_main_v222, val_main_v223, val_main_v224, val_main_v225, val_main_cst_15, val_main_v226, val_main_v227, val_main_v228, val_main_v229]
  simp only [r_v218 x0 x1 x2 x3 x4 x5 x6 x7 x8 x9 x10 x11 x12 x13 x14 x15 x16 x17 x18 x19, max_fold]
  rfl

/-- One at the centre tap. -/
theorem r_v235 (t : Fin 9) : (val_main_v235 (F := Ideal) : S1x9x1x1.Idx → EReal) (ix4 0 t 0 0) = if t = 4 then (1 : EReal) else (0 : EReal) := by
  fin_cases t
  · show val_main_v234 (F := Ideal) (ix4 0 0 0 0) = _
    pointwise [val_main_v230, val_main_c_16, val_main_v231, val_main_v232, val_main_cst_17, val_main_cst_18, val_main_call5_v0, val_main_call5_v1, val_main_v233, val_main_v234] <;> trivial
  · show val_main_v234 (F := Ideal) (ix4 0 1 0 0) = _
    pointwise [val_main_v230, val_main_c_16, val_main_v231, val_main_v232, val_main_cst_17, val_main_cst_18, val_main_call5_v0, val_main_call5_v1, val_main_v233, val_main_v234] <;> trivial
  · show val_main_v234 (F := Ideal) (ix4 0 2 0 0) = _
    pointwise [val_main_v230, val_main_c_16, val_main_v231, val_main_v232, val_main_cst_17, val_main_cst_18, val_main_call5_v0, val_main_call5_v1, val_main_v233, val_main_v234] <;> trivial
  · show val_main_v234 (F := Ideal) (ix4 0 3 0 0) = _
    pointwise [val_main_v230, val_main_c_16, val_main_v231, val_main_v232, val_main_cst_17, val_main_cst_18, val_main_call5_v0, val_main_call5_v1, val_main_v233, val_main_v234] <;> trivial
  · show val_main_v234 (F := Ideal) (ix4 0 4 0 0) = _
    pointwise [val_main_v230, val_main_c_16, val_main_v231, val_main_v232, val_main_cst_17, val_main_cst_18, val_main_call5_v0, val_main_call5_v1, val_main_v233, val_main_v234] <;> trivial
  · show val_main_v234 (F := Ideal) (ix4 0 5 0 0) = _
    pointwise [val_main_v230, val_main_c_16, val_main_v231, val_main_v232, val_main_cst_17, val_main_cst_18, val_main_call5_v0, val_main_call5_v1, val_main_v233, val_main_v234] <;> trivial
  · show val_main_v234 (F := Ideal) (ix4 0 6 0 0) = _
    pointwise [val_main_v230, val_main_c_16, val_main_v231, val_main_v232, val_main_cst_17, val_main_cst_18, val_main_call5_v0, val_main_call5_v1, val_main_v233, val_main_v234] <;> trivial
  · show val_main_v234 (F := Ideal) (ix4 0 7 0 0) = _
    pointwise [val_main_v230, val_main_c_16, val_main_v231, val_main_v232, val_main_cst_17, val_main_cst_18, val_main_call5_v0, val_main_call5_v1, val_main_v233, val_main_v234] <;> trivial
  · show val_main_v234 (F := Ideal) (ix4 0 8 0 0) = _
    pointwise [val_main_v230, val_main_c_16, val_main_v231, val_main_v232, val_main_cst_17, val_main_cst_18, val_main_call5_v0, val_main_call5_v1, val_main_v233, val_main_v234] <;> trivial

/-- The high pass filter. -/
theorem r_v237 (t : Fin 9) (a b : Fin 56) : (val_main_v237 (F := Ideal) x1 x8 x9 x10 x11 : S1x9x56x56.Idx → EReal) (ix4 0 t a b) = (if t = 4 then (1 : EReal) else (0 : EReal)) - sm9 (logE (parOf x0 x1 x2 x3 x4 x5 x6 x7 x8 x9 x10 x11 x12 x13 x14 x15 x16 x17 x18 x19) a b) t := by
  pointwise [val_main_v236, val_main_v237]
  simp only [r_v235 , r_v229 x0 x1 x2 x3 x4 x5 x6 x7 x8 x9 x10 x11 x12 x13 x14 x15 x16 x17 x18 x19]

theorem r_v238 (c : Fin 256) (i j : Fin 58) : (val_main_v238 (F := Ideal) x1 : S1x256x58x58.Idx → EReal) (ix4 0 c i j) = padF (parOf x0 x1 x2 x3 x4 x5 x6 x7 x8 x9 x10 x11 x12 x13 x14 x15 x16 x17 x18 x19).enc c i j := by
  unfold val_main_v238
  exact pad_at x1 _ (fun _ => sitofp_zero) _ _ c i j
theorem r_v239 (c : Fin 256) (a b : Fin 56) : (val_main_v239 (F := Ideal) x1 : S1x256x56x56.Idx → EReal) (ix4 0 c a b) = tap (parOf x0 x1 x2 x3 x4 x5 x6 x7 x8 x9 x10 x11 x12 x13 x14 x15 x16 x17 x18 x19).enc a b 0 c := by
  unfold val_main_v239
  exact sl0 _ _ (r_v238 x0 x1 x2 x3 x4 x5 x6 x7 x8 x9 x10 x11 x12 x13 x14 x15 x16 x17 x18 x19) _ c a b
theorem r_v240 (c : Fin 256) (a b : Fin 56) : (val_main_v240 (F := Ideal) x1 : S1x256x56x56.Idx → EReal) (ix4 0 c a b) = tap (parOf x0 x1 x2 x3 x4 x5 x6 x7 x8 x9 x10 x11 x12 x13 x14 x15 x16 x17 x18 x19).enc a b 1 c := by
  unfold val_main_v240
  exact sl1 _ _ (r_v238 x0 x1 x2 x3 x4 x5 x6 x7 x8 x9 x10 x11 x12 x13 x14 x15 x16 x17 x18 x19) _ c a b
theorem r_v241 (c : Fin 256) (a b : Fin 56) : (val_main_v241 (F := Ideal) x1 : S1x256x56x56.Idx → EReal) (ix4 0 c a b) = tap (parOf x0 x1 x2 x3 x4 x5 x6 x7 x8 x9 x10 x11 x12 x13 x14 x15 x16 x17 x18 x19).enc a b 2 c := by
  unfold val_main_v241
  exact sl2 _ _ (r_v238 x0 x1 x2 x3 x4 x5 x6 x7 x8 x9 x10 x11 x12 x13 x14 x15 x16 x17 x18 x19) _ c a b
theorem r_v242 (c : Fin 256) (a b : Fin 56) : (val_main_v242 (F := Ideal) x1 : S1x256x56x56.Idx → EReal) (ix4 0 c a b) = tap (parOf x0 x1 x2 x3 x4 x5 x6 x7 x8 x9 x10 x11 x12 x13 x14 x15 x16 x17 x18 x19).enc a b 3 c := by
  unfold val_main_v242
  exact sl3 _ _ (r_v238 x0 x1 x2 x3 x4 x5 x6 x7 x8 x9 x10 x11 x12 x13 x14 x15 x16 x17 x18 x19) _ c a b
theorem r_v243 (c : Fin 256) (a b : Fin 56) : (val_main_v243 (F := Ideal) x1 : S1x256x56x56.Idx → EReal) (ix4 0 c a b) = tap (parOf x0 x1 x2 x3 x4 x5 x6 x7 x8 x9 x10 x11 x12 x13 x14 x15 x16 x17 x18 x19).enc a b 4 c := by
  unfold val_main_v243
  exact sl4 _ _ (r_v238 x0 x1 x2 x3 x4 x5 x6 x7 x8 x9 x10 x11 x12 x13 x14 x15 x16 x17 x18 x19) _ c a b
theorem r_v244 (c : Fin 256) (a b : Fin 56) : (val_main_v244 (F := Ideal) x1 : S1x256x56x56.Idx → EReal) (ix4 0 c a b) = tap (parOf x0 x1 x2 x3 x4 x5 x6 x7 x8 x9 x10 x11 x12 x13 x14 x15 x16 x17 x18 x19).enc a b 5 c := by
  unfold val_main_v244
  exact sl5 _ _ (r_v238 x0 x1 x2 x3 x4 x5 x6 x7 x8 x9 x10 x11 x12 x13 x14 x15 x16 x17 x18 x19) _ c a b
theorem r_v245 (c : Fin 256) (a b : Fin 56) : (val_main_v245 (F := Ideal) x1 : S1x256x56x56.Idx → EReal) (ix4 0 c a b) = tap (parOf x0 x1 x2 x3 x4 x5 x6 x7 x8 x9 x10 x11 x12 x13 x14 x15 x16 x17 x18 x19).enc a b 6 c := by
  unfold val_main_v245
  exact sl6 _ _ (r_v238 x0 x1 x2 x3 x4 x5 x6 x7 x8 x9 x10 x11 x12 x13 x14 x15 x16 x17 x18 x19) _ c a b
theorem r_v246 (c : Fin 256) (a b : Fin 56) : (val_main_v246 (F := Ideal) x1 : S1x256x56x56.Idx → EReal) (ix4 0 c a b) = tap (parOf x0 x1 x2 x3 x4 x5 x6 x7 x8 x9 x10 x11 x12 x13 x14 x15 x16 x17 x18 x19).enc a b 7 c := by
  unfold val_main_v246
  exact sl7 _ _ (r_v238 x0 x1 x2 x3 x4 x5 x6 x7 x8 x9 x10 x11 x12 x13 x14 x15 x16 x17 x18 x19) _ c a b
theorem r_v247 (c : Fin 256) (a b : Fin 56) : (val_main_v247 (F := Ideal) x1 : S1x256x56x56.Idx → EReal) (ix4 0 c a b) = tap (parOf x0 x1 x2 x3 x4 x5 x6 x7 x8 x9 x10 x11 x12 x13 x14 x15 x16 x17 x18 x19).enc a b 8 c := by
  unfold val_main_v247
  exact sl8 _ _ (r_v238 x0 x1 x2 x3 x4 x5 x6 x7 x8 x9 x10 x11 x12 x13 x14 x15 x16 x17 x18 x19) _ c a b
set_option maxHeartbeats 800000 in
theorem r_v257 (c : Fin 256) (t : Fin 9) (a b : Fin 56) : (val_main_v257 (F := Ideal) x1 : S1x256x9x56x56.Idx → EReal) (ix5 0 c t a b) = tap (parOf x0 x1 x2 x3 x4 x5 x6 x7 x8 x9 x10 x11 x12 x13 x14 x15 x16 x17 x18 x19).enc a b t c := by
  fin_cases t
  · refine Eq.trans ?_ (r_v239 x0 x1 x2 x3 x4 x5 x6 x7 x8 x9 x10 x11 x12 x13 x14 x15 x16 x17 x18 x19 c a b)
    pointwise [val_main_v248, val_main_v249, val_main_v250, val_main_v251, val_main_v252, val_main_v253, val_main_v254, val_main_v255, val_main_v256, val_main_v257]
  · refine Eq.trans ?_ (r_v240 x0 x1 x2 x3 x4 x5 x6 x7 x8 x9 x10 x11 x12 x13 x14 x15 x16 x17 x18 x19 c a b)
    pointwise [val_main_v248, val_main_v249, val_main_v250, val_main_v251, val_main_v252, val_main_v253, val_main_v254, val_main_v255, val_main_v256, val_main_v257]
  · refine Eq.trans ?_ (r_v241 x0 x1 x2 x3 x4 x5 x6 x7 x8 x9 x10 x11 x12 x13 x14 x15 x16 x17 x18 x19 c a b)
    pointwise [val_main_v248, val_main_v249, val_main_v250, val_main_v251, val_main_v252, val_main_v253, val_main_v254, val_main_v255, val_main_v256, val_main_v257]
  · refine Eq.trans ?_ (r_v242 x0 x1 x2 x3 x4 x5 x6 x7 x8 x9 x10 x11 x12 x13 x14 x15 x16 x17 x18 x19 c a b)
    pointwise [val_main_v248, val_main_v249, val_main_v250, val_main_v251, val_main_v252, val_main_v253, val_main_v254, val_main_v255, val_main_v256, val_main_v257]
  · refine Eq.trans ?_ (r_v243 x0 x1 x2 x3 x4 x5 x6 x7 x8 x9 x10 x11 x12 x13 x14 x15 x16 x17 x18 x19 c a b)
    pointwise [val_main_v248, val_main_v249, val_main_v250, val_main_v251, val_main_v252, val_main_v253, val_main_v254, val_main_v255, val_main_v256, val_main_v257]
  · refine Eq.trans ?_ (r_v244 x0 x1 x2 x3 x4 x5 x6 x7 x8 x9 x10 x11 x12 x13 x14 x15 x16 x17 x18 x19 c a b)
    pointwise [val_main_v248, val_main_v249, val_main_v250, val_main_v251, val_main_v252, val_main_v253, val_main_v254, val_main_v255, val_main_v256, val_main_v257]
  · refine Eq.trans ?_ (r_v245 x0 x1 x2 x3 x4 x5 x6 x7 x8 x9 x10 x11 x12 x13 x14 x15 x16 x17 x18 x19 c a b)
    pointwise [val_main_v248, val_main_v249, val_main_v250, val_main_v251, val_main_v252, val_main_v253, val_main_v254, val_main_v255, val_main_v256, val_main_v257]
  · refine Eq.trans ?_ (r_v246 x0 x1 x2 x3 x4 x5 x6 x7 x8 x9 x10 x11 x12 x13 x14 x15 x16 x17 x18 x19 c a b)
    pointwise [val_main_v248, val_main_v249, val_main_v250, val_main_v251, val_main_v252, val_main_v253, val_main_v254, val_main_v255, val_main_v256, val_main_v257]
  · refine Eq.trans ?_ (r_v247 x0 x1 x2 x3 x4 x5 x6 x7 x8 x9 x10 x11 x12 x13 x14 x15 x16 x17 x18 x19 c a b)
    pointwise [val_main_v248, val_main_v249, val_main_v250, val_main_v251, val_main_v252, val_main_v253, val_main_v254, val_main_v255, val_main_v256, val_main_v257]

/-- The high pass part. -/
theorem r_v262 (c : Fin 256) (a b : Fin 56) : (val_main_v262 (F := Ideal) x1 x8 x9 x10 x11 : S1x256x56x56.Idx → EReal) (ix4 0 c a b) = highR (parOf x0 x1 x2 x3 x4 x5 x6 x7 x8 x9 x10 x11 x12 x13 x14 x15 x16 x17 x18 x19) c a b := by
  pointwise [val_main_v258, val_main_v259, val_main_v260, val_main_cst_20, val_main_v261, val_main_v262]
  simp only [r_v237 x0 x1 x2 x3 x4 x5 x6 x7 x8 x9 x10 x11 x12 x13 x14 x15 x16 x17 x18 x19, r_v257 x0 x1 x2 x3 x4 x5 x6 x7 x8 x9 x10 x11 x12 x13 x14 x15 x16 x17 x18 x19]
  rfl

end

end Cert.ReferenceIdeal.Val

end

end
-- ==== Proof.RefD.lean ====
/-
  The reference's result, read at an index.
-/
module

public import proofs.«01_k».proof.Proof.Model
public import proofs.«01_k».proof.Proof.Gen.ReferenceIdeal.Read
public import proofs.«01_k».proof.Proof.EntA
public import proofs.«01_k».proof.Proof.RefB
public import proofs.«01_k».proof.Proof.RefC

@[expose] public section

set_option maxRecDepth 16384

noncomputable section

open Idealize.ShloMosaic Idealize.ShloMosaic.TcCoe Idealize.SL.Sem

namespace Cert.ReferenceIdeal.Val
open Cert.ReferenceIdeal Cert.ReferenceIdeal.Gen Cert.ReferenceIdeal.Read
open Cert.KernelIdeal.Val (parOf Params padF tap hd sm9 lrelu lgD lgE wsum qscale sum9 logD logE smooth rowOf colOf kvF keyF valF align pix fuse qR scoreR topR attR highR outR sitofp_zero)

section
variable (x0 : S1x256x56x56.Idx → EReal) (x1 : S1x256x56x56.Idx → EReal) (x2 : S256x1x3x3.Idx → EReal) (x3 : S256.Idx → EReal) (x4 : S128x256.Idx → EReal) (x5 : S128.Idx → EReal) (x6 : S9x128.Idx → EReal) (x7 : S9.Idx → EReal) (x8 : S128x256x3x3.Idx → EReal) (x9 : S128.Idx → EReal) (x10 : S9x128.Idx → EReal) (x11 : S9.Idx → EReal) (x12 : S256x256.Idx → EReal) (x13 : S256.Idx → EReal) (x14 : S512x256.Idx → EReal) (x15 : S512.Idx → EReal) (x16 : S256x256.Idx → EReal) (x17 : S256.Idx → EReal) (x18 : S256x256x3x3.Idx → EReal) (x19 : S256.Idx → EReal)

/-- The sum of the two parts. -/
theorem r_v265 (c : Fin 256) (a b : Fin 56) : (val_main_v265 (F := Ideal) x0 x1 x2 x3 x4 x5 x6 x7 x8 x9 x10 x11 x12 x13 x14 x15 x16 x17 : S1x256x56x56.Idx → EReal) (ix4 0 c a b) = align (parOf x0 x1 x2 x3 x4 x5 x6 x7 x8 x9 x10 x11 x12 x13 x14 x15 x16 x17 x18 x19) (attR (parOf x0 x1 x2 x3 x4 x5 x6 x7 x8 x9 x10 x11 x12 x13 x14 x15 x16 x17 x18 x19)) (pix a b) c + highR (parOf x0 x1 x2 x3 x4 x5 x6 x7 x8 x9 x10 x11 x12 x13 x14 x15 x16 x17 x18 x19) c a b := by
  pointwise [val_main_cst_21, val_main_v263, val_main_v264, val_main_v265]
  simp only [r_v151 x0 x1 x2 x3 x4 x5 x6 x7 x8 x9 x10 x11 x12 x13 x14 x15 x16 x17 x18 x19, r_v262 x0 x1 x2 x3 x4 x5 x6 x7 x8 x9 x10 x11 x12 x13 x14 x15 x16 x17 x18 x19]

/-- The summed image with its ring. -/
theorem r_v266 (c : Fin 256) (i j : Fin 58) : (val_main_v266 (F := Ideal) x0 x1 x2 x3 x4 x5 x6 x7 x8 x9 x10 x11 x12 x13 x14 x15 x16 x17 : S1x256x58x58.Idx → EReal) (ix4 0 c i j)
    = padF (fun c a b => align (parOf x0 x1 x2 x3 x4 x5 x6 x7 x8 x9 x10 x11 x12 x13 x14 x15 x16 x17 x18 x19) (attR (parOf x0 x1 x2 x3 x4 x5 x6 x7 x8 x9 x10 x11 x12 x13 x14 x15 x16 x17 x18 x19)) (pix a b) c + highR (parOf x0 x1 x2 x3 x4 x5 x6 x7 x8 x9 x10 x11 x12 x13 x14 x15 x16 x17 x18 x19) c a b) c i j := by
  unfold val_main_v266
  refine (pad_at _ _ (fun _ => sitofp_zero) _ _ c i j).trans ?_
  simp only [r_v265 x0 x1 x2 x3 x4 x5 x6 x7 x8 x9 x10 x11 x12 x13 x14 x15 x16 x17 x18 x19]
theorem r_v267 (c : Fin 256) (a b : Fin 56) : (val_main_v267 (F := Ideal) x0 x1 x2 x3 x4 x5 x6 x7 x8 x9 x10 x11 x12 x13 x14 x15 x16 x17 : S1x256x56x56.Idx → EReal) (ix4 0 c a b)
    = tap (fun c a b => align (parOf x0 x1 x2 x3 x4 x5 x6 x7 x8 x9 x10 x11 x12 x13 x14 x15 x16 x17 x18 x19) (attR (parOf x0 x1 x2 x3 x4 x5 x6 x7 x8 x9 x10 x11 x12 x13 x14 x15 x16 x17 x18 x19)) (pix a b) c + highR (parOf x0 x1 x2 x3 x4 x5 x6 x7 x8 x9 x10 x11 x12 x13 x14 x15 x16 x17 x18 x19) c a b) a b 0 c := by
  unfold val_main_v267
  exact sl0 _ _ (r_v266 x0 x1 x2 x3 x4 x5 x6 x7 x8 x9 x10 x11 x12 x13 x14 x15 x16 x17 x18 x19) _ c a b
theorem r_v268 (c : Fin 256) (a b : Fin 56) : (val_main_v268 (F := Ideal) x0 x1 x2 x3 x4 x5 x6 x7 x8 x9 x10 x11 x12 x13 x14 x15 x16 x17 : S1x256x56x56.Idx → EReal) (ix4 0 c a b)
    = tap (fun c a b => align (parOf x0 x1 x2 x3 x4 x5 x6 x7 x8 x9 x10 x11 x12 x13 x14 x15 x16 x17 x18 x19) (attR (parOf x0 x1 x2 x3 x4 x5 x6 x7 x8 x9 x10 x11 x12 x13 x14 x15 x16 x17 x18 x19)) (pix a b) c + highR (parOf x0 x1 x2 x3 x4 x5 x6 x7 x8 x9 x10 x11 x12 x13 x14 x15 x16 x17 x18 x19) c a b) a b 1 c := by
  unfold val_main_v268
  exact sl1 _ _ (r_v266 x0 x1 x2 x3 x4 x5 x6 x7 x8 x9 x10 x11 x12 x13 x14 x15 x16 x17 x18 x19) _ c a b
theorem r_v269 (c : Fin 256) (a b : Fin 56) : (val_main_v269 (F := Ideal) x0 x1 x2 x3 x4 x5 x6 x7 x8 x9 x10 x11 x12 x13 x14 x15 x16 x17 : S1x256x56x56.Idx → EReal) (ix4 0 c a b)
    = tap (fun c a b => align (parOf x0 x1 x2 x3 x4 x5 x6 x7 x8 x9 x10 x11 x12 x13 x14 x15 x16 x17 x18 x19) (attR (parOf x0 x1 x2 x3 x4 x5 x6 x7 x8 x9 x10 x11 x12 x13 x14 x15 x16 x17 x18 x19)) (pix a b) c + highR (parOf x0 x1 x2 x3 x4 x5 x6 x7 x8 x9 x10 x11 x12 x13 x14 x15 x16 x17 x18 x19) c a b) a b 2 c := by
  unfold val_main_v269
  exact sl2 _ _ (r_v266 x0 x1 x2 x3 x4 x5 x6 x7 x8 x9 x10 x11 x12 x13 x14 x15 x16 x17 x18 x19) _ c a b
theorem r_v270 (c : Fin 256) (a b : Fin 56) : (val_main_v270 (F := Ideal) x0 x1 x2 x3 x4 x5 x6 x7 x8 x9 x10 x11 x12 x13 x14 x15 x16 x17 : S1x256x56x56.Idx → EReal) (ix4 0 c a b)
    = tap (fun c a b => align (parOf x0 x1 x2 x3 x4 x5 x6 x7 x8 x9 x10 x11 x12 x13 x14 x15 x16 x17 x18 x19) (attR (parOf x0 x1 x2 x3 x4 x5 x6 x7 x8 x9 x10 x11 x12 x13 x14 x15 x16 x17 x18 x19)) (pix a b) c + highR (parOf x0 x1 x2 x3 x4 x5 x6 x7 x8 x9 x10 x11 x12 x13 x14 x15 x16 x17 x18 x19) c a b) a b 3 c := by
  unfold val_main_v270
  exact sl3 _ _ (r_v266 x0 x1 x2 x3 x4 x5 x6 x7 x8 x9 x10 x11 x12 x13 x14 x15 x16 x17 x18 x19) _ c a b
theorem r_v271 (c : Fin 256) (a b : Fin 56) : (val_main_v271 (F := Ideal) x0 x1 x2 x3 x4 x5 x6 x7 x8 x9 x10 x11 x12 x13 x14 x15 x16 x17 : S1x256x56x56.Idx → EReal) (ix4 0 c a b)
    = tap (fun c a b => align (parOf x0 x1 x2 x3 x4 x5 x6 x7 x8 x9 x10 x11 x12 x13 x14 x15 x16 x17 x18 x19) (attR (parOf x0 x1 x2 x3 x4 x5 x6 x7 x8 x9 x10 x11 x12 x13 x14 x15 x16 x17 x18 x19)) (pix a b) c + highR (parOf x0 x1 x2 x3 x4 x5 x6 x7 x8 x9 x10 x11 x12 x13 x14 x15 x16 x17 x18 x19) c a b) a b 4 c := by
  unfold val_main_v271
  exact sl4 _ _ (r_v266 x0 x1 x2 x3 x4 x5 x6 x7 x8 x9 x10 x11 x12 x13 x14 x15 x16 x17 x18 x19) _ c a b
theorem r_v272 (c : Fin 256) (a b : Fin 56) : (val_main_v272 (F := Ideal) x0 x1 x2 x3 x4 x5 x6 x7 x8 x9 x10 x11 x12 x13 x14 x15 x16 x17 : S1x256x56x56.Idx → EReal) (ix4 0 c a b)
    = tap (fun c a b => align (parOf x0 x1 x2 x3 x4 x5 x6 x7 x8 x9 x10 x11 x12 x13 x14 x15 x16 x17 x18 x19) (attR (parOf x0 x1 x2 x3 x4 x5 x6 x7 x8 x9 x10 x11 x12 x13 x14 x15 x16 x17 x18 x19)) (pix a b) c + highR (parOf x0 x1 x2 x3 x4 x5 x6 x7 x8 x9 x10 x11 x12 x13 x14 x15 x16 x17 x18 x19) c a b) a b 5 c := by
  unfold val_main_v272
  exact sl5 _ _ (r_v266 x0 x1 x2 x3 x4 x5 x6 x7 x8 x9 x10 x11 x12 x13 x14 x15 x16 x17 x18 x19) _ c a b
theorem r_v273 (c : Fin 256) (a b : Fin 56) : (val_main_v273 (F := Ideal) x0 x1 x2 x3 x4 x5 x6 x7 x8 x9 x10 x11 x12 x13 x14 x15 x16 x17 : S1x256x56x56.Idx → EReal) (ix4 0 c a b)
    = tap (fun c a b => align (parOf x0 x1 x2 x3 x4 x5 x6 x7 x8 x9 x10 x11 x12 x13 x14 x15 x16 x17 x18 x19) (attR (parOf x0 x1 x2 x3 x4 x5 x6 x7 x8 x9 x10 x11 x12 x13 x14 x15 x16 x17 x18 x19)) (pix a b) c + highR (parOf x0 x1 x2 x3 x4 x5 x6 x7 x8 x9 x10 x11 x12 x13 x14 x15 x16 x17 x18 x19) c a b) a b 6 c := by
  unfold val_main_v273
  exact sl6 _ _ (r_v266 x0 x1 x2 x3 x4 x5 x6 x7 x8 x9 x10 x11 x12 x13 x14 x15 x16 x17 x18 x19) _ c a b
theorem r_v274 (c : Fin 256) (a b : Fin 56) : (val_main_v274 (F := Ideal) x0 x1 x2 x3 x4 x5 x6 x7 x8 x9 x10 x11 x12 x13 x14 x15 x16 x17 : S1x256x56x56.Idx → EReal) (ix4 0 c a b)
    = tap (fun c a b => align (parOf x0 x1 x2 x3 x4 x5 x6 x7 x8 x9 x10 x11 x12 x13 x14 x15 x16 x17 x18 x19) (attR (parOf x0 x1 x2 x3 x4 x5 x6 x7 x8 x9 x10 x11 x12 x13 x14 x15 x16 x17 x18 x19)) (pix a b) c + highR (parOf x0 x1 x2 x3 x4 x5 x6 x7 x8 x9 x10 x11 x12 x13 x14 x15 x16 x17 x18 x19) c a b) a b 7 c := by
  unfold val_main_v274
  exact sl7 _ _ (r_v266 x0 x1 x2 x3 x4 x5 x6 x7 x8 x9 x10 x11 x12 x13 x14 x15 x16 x17 x18 x19) _ c a b
theorem r_v275 (c : Fin 256) (a b : Fin 56) : (val_main_v275 (F := Ideal) x0 x1 x2 x3 x4 x5 x6 x7 x8 x9 x10 x11 x12 x13 x14 x15 x16 x17 : S1x256x56x56.Idx → EReal) (ix4 0 c a b)
    = tap (fun c a b => align (parOf x0 x1 x2 x3 x4 x5 x6 x7 x8 x9 x10 x11 x12 x13 x14 x15 x16 x17 x18 x19) (attR (parOf x0 x1 x2 x3 x4 x5 x6 x7 x8 x9 x10 x11 x12 x13 x14 x15 x16 x17 x18 x19)) (pix a b) c + highR (parOf x0 x1 x2 x3 x4 x5 x6 x7 x8 x9 x10 x11 x12 x13 x14 x15 x16 x17 x18 x19) c a b) a b 8 c := by
  unfold val_main_v275
  exact sl8 _ _ (r_v266 x0 x1 x2 x3 x4 x5 x6 x7 x8 x9 x10 x11 x12 x13 x14 x15 x16 x17 x18 x19) _ c a b

/-- The reference's result at a pixel. -/
theorem r_v322 (o : Fin 256) (a b : Fin 56) : (val_main_v322 (F := Ideal) x0 x1 x2 x3 x4 x5 x6 x7 x8 x9 x10 x11 x12 x13 x14 x15 x16 x17 x18 x19 : S1x256x56x56.Idx → EReal) (ix4 0 o a b) = outR (parOf x0 x1 x2 x3 x4 x5 x6 x7 x8 x9 x10 x11 x12 x13 x14 x15 x16 x17 x18 x19) o a b := by
  pointwise [val_main_v276, val_main_v277, val_main_v278, val_main_v279, val_main_v280, val_main_v281, val_main_v282, val_main_v283, val_main_v284, val_main_v285, val_main_v286, val_main_v287, val_main_v288, val_main_v289, val_main_v290, val_main_v291, val_main_v292, val_main_v293, val_main_v294, val_main_v295, val_main_v296, val_main_v297, val_main_v298, val_main_v299, val_main_v300, val_main_v301, val_main_v302, val_main_v303, val_main_v304, val_main_v305, val_main_v306, val_main_v307, val_main_v308, val_main_v309, val_main_v310, val_main_v311, val_main_v312, val_main_v313, val_main_v314, val_main_v315, val_main_v316, val_main_v317, val_main_v318, val_main_v319, val_main_v320, val_main_v321, val_main_v322]
  simp only [r_v267 x0 x1 x2 x3 x4 x5 x6 x7 x8 x9 x10 x11 x12 x13 x14 x15 x16 x17 x18 x19, r_v268 x0 x1 x2 x3 x4 x5 x6 x7 x8 x9 x10 x11 x12 x13 x14 x15 x16 x17 x18 x19, r_v269 x0 x1 x2 x3 x4 x5 x6 x7 x8 x9 x10 x11 x12 x13 x14 x15 x16 x17 x18 x19, r_v270 x0 x1 x2 x3 x4 x5 x6 x7 x8 x9 x10 x11 x12 x13 x14 x15 x16 x17 x18 x19, r_v271 x0 x1 x2 x3 x4 x5 x6 x7 x8 x9 x10 x11 x12 x13 x14 x15 x16 x17 x18 x19, r_v272 x0 x1 x2 x3 x4 x5 x6 x7 x8 x9 x10 x11 x12 x13 x14 x15 x16 x17 x18 x19, r_v273 x0 x1 x2 x3 x4 x5 x6 x7 x8 x9 x10 x11 x12 x13 x14 x15 x16 x17 x18 x19, r_v274 x0 x1 x2 x3 x4 x5 x6 x7 x8 x9 x10 x11 x12 x13 x14 x15 x16 x17 x18 x19, r_v275 x0 x1 x2 x3 x4 x5 x6 x7 x8 x9 x10 x11 x12 x13 x14 x15 x16 x17 x18 x19]
  unfold outR fuse
  rw [sum9, add_comm]
  rfl

end

end Cert.ReferenceIdeal.Val

end

end
-- ==== Proof.KRun.lean ====
/-
  The kernel's run: every weakly fair execution ends with each of the TensorCore's buffers at the contents of the last
  segment boundary.
-/
module

public import proofs.«01_k».proof.Proof.Gen.KernelIdeal.Frame

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- The final contents of every buffer outside a scope. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W25 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h _ => h)

end Cert.KernelIdeal.Val

end

end
-- ==== Proof.HostB.lean ====
/-
  The host operations between the calls, read at an index: the queries by head, the image and the key and value weights with their extra rows, and the padded images of the last call.
-/
module

public import proofs.«01_k».proof.Proof.HostA
public import Idealize.ShloMosaic.Lib.Routing.OpsSet
public import Idealize.ShloMosaic.Lib.Claim
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val
open Cert.KernelIdeal Cert.KernelIdeal.Gen

variable (W : Valuation τ sig (Elt Ideal))

theorem main_v34_at (h : Fin 8) (n : Fin 3136) (e : Fin 32) :
    (StableHlo.after (hostOps1 (F := Ideal)) W (Proc.devRef .tc main_v34) : S8x3136x32.Idx → EReal) (ix3 h n e)
      = (W (Proc.devRef .tc main_v28_0) : S3584x256.Idx → EReal) (ix2 ⟨110 + ((n.val / 56 + 1) * 58 + (n.val % 56 + 1)), by omega⟩ ⟨h.val * 32 + e.val, by omega⟩) := by
  after_reads_at
  exact congrArg (fun R : Fin 3584 => (W (Proc.devRef .tc main_v28_0) : S3584x256.Idx → EReal) (ix2 R ⟨h.val * 32 + e.val, by omega⟩))
    (Fin.ext (by dsimp only; omega))

theorem main_v35_at (c : Fin 256) (m : Fin 3136) :
    (StableHlo.after (hostOps1 (F := Ideal)) W (Proc.devRef .tc main_v35) : S256x3136.Idx → EReal) (ix2 c m)
      = (W (Proc.devRef .tc main_arg1) : S1x256x56x56.Idx → EReal) (ix4 0 c ⟨m.val / 56, by omega⟩ ⟨m.val % 56, by omega⟩) := by
  after_reads_at

theorem main_c_4_at : (StableHlo.after (hostOps1 (F := Ideal)) W (Proc.devRef .tc main_c_4) : S_.Idx → BitVec 32) = constantI S_ 32 0#32 := by
  after_reads_simp

theorem main_c_6_at : (StableHlo.after (hostOps1_2 (F := Ideal)) W (Proc.devRef .tc main_c_6) : S_.Idx → BitVec 32) = constantI S_ 32 0#32 := by
  after_reads_simp

theorem main_v36_at (c : Fin 256) (m : Fin 3200)
    (hc : (W (Proc.devRef .tc main_c_4) : S_.Idx → BitVec 32) = constantI S_ 32 0#32) :
    (StableHlo.after (hostOps1_1 (F := Ideal)) W (Proc.devRef .tc main_v36) : S256x3200.Idx → EReal) (ix2 c m)
      = if h : m.val < 3136 then (W (Proc.devRef .tc main_v35) : S256x3136.Idx → EReal) (ix2 c ⟨m.val, h⟩) else (0 : EReal) := by
  after_reads_at
  rw [hc]
  simp only [constantI_apply, sitofp_zero]

theorem main_v37_at (m : Fin 3136) :
    (StableHlo.after (hostOps1_2 (F := Ideal)) W (Proc.devRef .tc main_v37) : S1x3136.Idx → EReal) (ix2 0 m)
      = (1 : EReal) := by
  after_reads_at

theorem main_v38_at (m : Fin 3200)
    (hc : (W (Proc.devRef .tc main_c_6) : S_.Idx → BitVec 32) = constantI S_ 32 0#32) :
    (StableHlo.after (hostOps1_3 (F := Ideal)) W (Proc.devRef .tc main_v38) : S1x3200.Idx → EReal) (ix2 0 m)
      = if h : m.val < 3136 then (W (Proc.devRef .tc main_v37) : S1x3136.Idx → EReal) (ix2 0 ⟨m.val, h⟩) else (0 : EReal) := by
  after_reads_at
  rw [hc]
  simp only [constantI_apply, sitofp_zero]

theorem main_v57_at (k o : Fin 256) :
    (StableHlo.after (hostOps2 (F := Ideal)) W (Proc.devRef .tc main_v57) : S256x256.Idx → EReal) (ix2 k o)
      = (W (Proc.devRef .tc main_arg16) : S256x256.Idx → EReal) (ix2 o k) := by
  after_reads_at

theorem main_v58_at (o : Fin 256) :
    (StableHlo.after (hostOps2 (F := Ideal)) W (Proc.devRef .tc main_v58) : S1x256.Idx → EReal) (ix2 0 o)
      = (W (Proc.devRef .tc main_arg17) : S256.Idx → EReal) (ix1 o) := by
  after_reads_at

theorem main_v60_at (a b : Fin 56) (c : Fin 256) :
    (StableHlo.after (hostOps3 (F := Ideal)) W (Proc.devRef .tc main_v60) : S56x56x256.Idx → EReal) (ix3 a b c)
      = (W (Proc.devRef .tc main_v59) : S3136x256.Idx → EReal) (ix2 ⟨a.val * 56 + b.val, by omega⟩ c) := by
  after_reads_at

theorem main_c_14_at : (StableHlo.after (hostOps3 (F := Ideal)) W (Proc.devRef .tc main_c_14) : S_.Idx → BitVec 32) = constantI S_ 32 0#32 := by
  after_reads_simp

theorem main_v61_at (a b : Fin 58) (c : Fin 256)
    (hc : (W (Proc.devRef .tc main_c_14) : S_.Idx → BitVec 32) = constantI S_ 32 0#32) :
    (StableHlo.after (hostOps3_1 (F := Ideal)) W (Proc.devRef .tc main_v61) : S58x58x256.Idx → EReal) (ix3 a b c)
      = if h : (1 ≤ a.val ∧ a.val ≤ 56) ∧ (1 ≤ b.val ∧ b.val ≤ 56) then (W (Proc.devRef .tc main_v60) : S56x56x256.Idx → EReal) (ix3 ⟨a.val - 1, by omega⟩ ⟨b.val - 1, by omega⟩ c) else (0 : EReal) := by
  after_reads_at
  by_cases h : (1 ≤ a.val ∧ a.val ≤ 56) ∧ (1 ≤ b.val ∧ b.val ≤ 56)
  · rw [dif_pos h, dif_pos (by omega)]
  · rw [dif_neg h, dif_neg (by omega), hc]
    exact sitofp_zero

theorem main_v62_at (a b : Fin 58) (c : Fin 256) :
    (StableHlo.after (hostOps3_2 (F := Ideal)) W (Proc.devRef .tc main_v62) : S3364x256.Idx → EReal) (ix2 ⟨a.val * 58 + b.val, by omega⟩ c)
      = (W (Proc.devRef .tc main_v61) : S58x58x256.Idx → EReal) (ix3 a b c) := by
  after_reads_at

theorem main_v63_at (R : Fin 3364) (c : Fin 256) :
    (StableHlo.after (hostOps3_3 (F := Ideal)) W (Proc.devRef .tc main_v63) : S3584x256.Idx → EReal) (ix2 ⟨110 + R, by omega⟩ c)
      = (W (Proc.devRef .tc main_v62) : S3364x256.Idx → EReal) (ix2 R c) := by
  after_reads_at

theorem main_v65_at (t : Fin 9) (c o : Fin 256) :
    (StableHlo.after (hostOps3_4 (F := Ideal)) W (Proc.devRef .tc main_v65) : S9x256x256.Idx → EReal) (ix3 t c o)
      = (W (Proc.devRef .tc main_arg18) : S256x256x3x3.Idx → EReal) (ix4 o c ⟨t.val / 3, by omega⟩ ⟨t.val % 3, by omega⟩) := by
  after_reads_at

theorem main_v66_at (o : Fin 256) :
    (StableHlo.after (hostOps3_4 (F := Ideal)) W (Proc.devRef .tc main_v66) : S1x256.Idx → EReal) (ix2 0 o)
      = (W (Proc.devRef .tc main_arg19) : S256.Idx → EReal) (ix1 o) := by
  after_reads_at

theorem main_v74_at (o : Fin 256) (a b : Fin 56) :
    (StableHlo.after (hostOps4 (F := Ideal)) W (Proc.devRef .tc main_v74) : S1x256x56x56.Idx → EReal) (ix4 0 o a b)
      = (W (Proc.devRef .tc main_v67) : S3584x256.Idx → EReal) (ix2 ⟨110 + ((a.val + 1) * 58 + (b.val + 1)), by omega⟩ o) := by
  after_reads_at
  exact congrArg (fun R : Fin 3584 => (W (Proc.devRef .tc main_v67) : S3584x256.Idx → EReal) (ix2 R o)) (Fin.ext (by dsimp only; omega))

end Cert.KernelIdeal.Val

end

end
-- ==== Proof.HostC.lean ====
/-
  The host operations before the key and value call that place the image, the weights and the row of ones, read at an index.
-/
module

public import proofs.«01_k».proof.Proof.HostA
public import Idealize.ShloMosaic.Lib.Routing.OpsSet
public import Idealize.ShloMosaic.Lib.Claim
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val
open Cert.KernelIdeal Cert.KernelIdeal.Gen

variable (W : Valuation τ sig (Elt Ideal))

/-- The two index words of the one entry set in every head. -/
abbrev oneIdx : IVec S2 32 := fun i => if (i 0).val = 0 then 0#32 else 256#32

theorem scat_pos (h : Fin 8) (a : Fin 3) :
    scatter_S8x1x264_S2_S8_0_12_12_0.start (ix1 h) oneIdx a + scatter_S8x1x264_S2_S8_0_12_12_0.window (ix1 h) a = ![(h.val : Int), 0, 256] a := by
  revert h a
  decide +kernel

theorem scat_res (h : Fin 8) : scatter_S8x1x264_S2_S8_0_12_12_0.resultIdx? (ix1 h) oneIdx = some (ix3 h 0 256) := by
  unfold ScatterDims.resultIdx?
  rw [dif_pos]
  · refine congrArg some (funext fun a => Fin.ext ?_)
    have e := scat_pos h a
    dsimp only
    rw [e]
    fin_cases a <;> rfl
  · intro a
    rw [scat_pos h a]
    fin_cases a
    · exact ⟨Int.natCast_nonneg _, Int.ofNat_lt.2 h.isLt⟩
    · exact ⟨le_refl (0 : Int), (by decide : (0 : Int) < 1)⟩
    · exact ⟨(by decide : (0 : Int) ≤ 256), (by decide : (256 : Int) < 264)⟩

/-- The row of zeros with a one at column 256, in every head. -/
theorem scat_at (idx : IVec S2 32) (hidx : idx = oneIdx) (h : Fin 8) (k : Fin 264) :
    Host.scatter scatter_S8x1x264_S2_S8_0_12_12_0 (fun _ b => b)
      (broadcastInDim S8x1x264 ![] bcast_S_S8x1x264 (constant (F := Ideal) S_ FTy.f32 0#32)) idx
      (broadcastInDim S8 ![] bcast_S_S8 (constant (F := Ideal) S_ FTy.f32 0x3F800000#32)) (ix3 h 0 k)
      = if k.val = 256 then (1 : EReal) else 0 := by
  subst hidx
  by_cases hk : k.val = 256
  · rw [if_pos hk]
    obtain rfl : k = 256 := Fin.ext hk
    exact Routing.scatter_set_hit _ _ _ _ _ _ (fun _ _ => by pointwise) (ix1 h) (scat_res h)
  · rw [if_neg hk, Routing.scatter_set_miss]
    · pointwise
    · intro j e
      obtain ⟨q, rfl⟩ : ∃ q : Fin 8, j = ix1 q := ⟨j 0, by
        funext a
        obtain rfl : a = 0 := Subsingleton.elim _ _
        rfl⟩
      rw [scat_res] at e
      have e2 : (256 : Fin 264) = k := congrFun (Option.some.inj e) 2
      exact hk (congrArg Fin.val e2.symm)

theorem main_v40_at (k : Fin 264) (m : Fin 3200) :
    (StableHlo.after (hostOps1_4 (F := Ideal)) W (Proc.devRef .tc main_v40) : S264x3200.Idx → EReal) (ix2 k m)
      = if h : k.val < 256 then (W (Proc.devRef .tc main_v36) : S256x3200.Idx → EReal) (ix2 ⟨k.val, h⟩ m) else if k.val = 256 then (W (Proc.devRef .tc main_v38) : S1x3200.Idx → EReal) (ix2 0 m) else (0 : EReal) := by
  after_reads_at
  simp (disch := decide) only [StableHlo.readAfter, StableHlo.readUpto, StableHlo.nullary_result', StableHlo.unary_result', StableHlo.binary_result', StableHlo.ternary_result', StableHlo.reshape_result', StableHlo.nary_result']
  pointwise
  by_cases h1 : k.val < 256
  · rw [dif_pos h1, dif_pos h1]
  · rw [dif_neg h1, dif_neg h1]
    by_cases h2 : k.val = 256
    · rw [dif_pos (by omega), if_pos h2]
      exact congrArg (fun q : Fin 1 => (W (Proc.devRef .tc main_v38) : S1x3200.Idx → EReal) (ix2 q m)) (Subsingleton.elim _ _)
    · rw [dif_neg (by omega), if_neg h2]

theorem main_v45_at (h : Fin 8) (d : Fin 32) (k : Fin 264) :
    (StableHlo.after (hostOps1_4 (F := Ideal)) W (Proc.devRef .tc main_v45) : S8x32x264.Idx → EReal) (ix3 h d k)
      = if h' : k.val < 256 then (W (Proc.devRef .tc main_arg14) : S512x256.Idx → EReal) (ix2 ⟨h.val * 32 + d.val, by omega⟩ ⟨k.val, h'⟩) else if k.val = 256 then (W (Proc.devRef .tc main_arg15) : S512.Idx → EReal) (ix1 ⟨h.val * 32 + d.val, by omega⟩) else (0 : EReal) := by
  after_reads_at
  simp (disch := decide) only [StableHlo.readAfter, StableHlo.readUpto, StableHlo.nullary_result', StableHlo.unary_result', StableHlo.binary_result', StableHlo.ternary_result', StableHlo.reshape_result', StableHlo.nary_result']
  pointwise
  by_cases h1 : k.val < 256
  · rw [dif_pos h1, dif_pos h1]
  · rw [dif_neg h1, dif_neg h1]
    by_cases h2 : k.val = 256
    · rw [dif_pos (by omega), if_pos h2]
    · rw [dif_neg (by omega), if_neg h2]

theorem main_v55_lo (h : Fin 8) (d : Fin 32) (k : Fin 264) :
    (StableHlo.after (hostOps1_4 (F := Ideal)) W (Proc.devRef .tc main_v55) : S8x40x264.Idx → EReal) (ix3 h ⟨d.val, by omega⟩ k)
      = if h' : k.val < 256 then (W (Proc.devRef .tc main_arg14) : S512x256.Idx → EReal) (ix2 ⟨256 + (h.val * 32 + d.val), by omega⟩ ⟨k.val, h'⟩) else if k.val = 256 then (W (Proc.devRef .tc main_arg15) : S512.Idx → EReal) (ix1 ⟨256 + (h.val * 32 + d.val), by omega⟩) else (0 : EReal) := by
  after_reads_at
  simp (disch := decide) only [StableHlo.readAfter, StableHlo.readUpto, StableHlo.nullary_result', StableHlo.unary_result', StableHlo.binary_result', StableHlo.ternary_result', StableHlo.reshape_result', StableHlo.nary_result']
  pointwise
  simp (disch := decide) only [StableHlo.readAfter, StableHlo.readUpto, StableHlo.nullary_result', StableHlo.unary_result', StableHlo.binary_result', StableHlo.ternary_result', StableHlo.reshape_result', StableHlo.nary_result']
  pointwise
  by_cases h1 : k.val < 256
  · rw [dif_pos h1, dif_pos h1]
  · rw [dif_neg h1, dif_neg h1]
    by_cases h2 : k.val = 256
    · rw [dif_pos (by omega), if_pos h2]
    · rw [dif_neg (by omega), if_neg h2]

theorem main_v55_one (h : Fin 8) (k : Fin 264) :
    (StableHlo.after (hostOps1_4 (F := Ideal)) W (Proc.devRef .tc main_v55) : S8x40x264.Idx → EReal) (ix3 h 32 k)
      = if k.val = 256 then (1 : EReal) else 0 := by
  after_reads_at
  simp (disch := decide) only [StableHlo.readAfter, StableHlo.readUpto, StableHlo.nullary_result', StableHlo.unary_result', StableHlo.binary_result', StableHlo.ternary_result', StableHlo.reshape_result', StableHlo.nary_result']
  pointwise
  refine scat_at _ (funext fun i => ?_) h k
  obtain ⟨q, rfl⟩ : ∃ q : Fin 2, i = ix1 q := ⟨i 0, by
    funext a
    obtain rfl : a = 0 := Subsingleton.elim _ _
    rfl⟩
  fin_cases q
  · pointwise
    simp (disch := decide) only [StableHlo.readAfter, StableHlo.readUpto, StableHlo.nullary_result', StableHlo.unary_result', StableHlo.binary_result', StableHlo.ternary_result', StableHlo.reshape_result', StableHlo.nary_result']
    rfl
  · pointwise
    simp (disch := decide) only [StableHlo.readAfter, StableHlo.readUpto, StableHlo.nullary_result', StableHlo.unary_result', StableHlo.binary_result', StableHlo.ternary_result', StableHlo.reshape_result', StableHlo.nary_result']
    rfl

end Cert.KernelIdeal.Val

end

end
-- ==== Proof.PayKV.lean ====
/-
  The products of the second call, read at an index: an entry of the key (value) rows of one head is the sum over the
  264 augmented channels of weight times augmented feature.
-/
module

public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.KernelIdeal.Val
open Cert.KernelIdeal Cert.KernelIdeal.Gen

/-- One key entry: row `d` of the head's weights against column `m` of the features. -/
theorem pay_k (v0 : FVec Ideal S1x32x264 .f32) (v2 : FVec Ideal S264x3200 .f32) (d : Fin 32) (m : Fin 3200) :
    Gen.k1_pay1 (F := Ideal) v0 v2 (ix3 0 d m) = ∑ k : Fin 264, v0 (ix3 0 d k) * v2 (ix2 k m) := by
  pointwise [Gen.k1_pay1]

/-- One value entry, as `pay_k`. -/
theorem pay_v (v0 : FVec Ideal S1x40x264 .f32) (v2 : FVec Ideal S264x3200 .f32) (d : Fin 40) (m : Fin 3200) :
    Gen.k1_pay2 (F := Ideal) v0 v2 (ix3 0 d m) = ∑ k : Fin 264, v0 (ix3 0 d k) * v2 (ix2 k m) := by
  pointwise [Gen.k1_pay2]

end Cert.KernelIdeal.Val

end

end
-- ==== Proof.RegKV.lean ====
/-
  The second call: its two result arrays at an index.
-/
module

public import proofs.«01_k».proof.Proof.PayKV
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val
open Cert.KernelIdeal Cert.KernelIdeal.Gen

variable (V : (c : Dev nD) → (b : Ref sig .tc) → Buf (Elt Ideal) ((c : Thread nD τ).loc b))

/-- The grid point's block numbers: head `t` of the weights and of the results, the features whole. -/
theorem idx1 : ∀ t : Fin cfg1.N, win1_0.index t = ![0, 0] ∧ win1_1.index t = ![t.val, 0, 0] ∧ win1_2.index t = ![t.val, 0, 0]
    ∧ win1_3.index t = ![t.val, 0, 0] ∧ win1_4.index t = ![t.val, 0, 0] :=
  (by decide +kernel : ∀ t : Fin grid1.N, _)

/-- The product of a head's weight rows with the features. -/
def prodKV {n : ℕ} (w : (⟨3, ![8, n, 264]⟩ : Shape).Idx → EReal) (e : S264x3200.Idx → EReal) : (⟨3, ![8, n, 3200]⟩ : Shape).Idx → EReal :=
  fun j => ∑ k : Fin 264, w (ix3 (j 0) (j 1) k) * e (ix2 k (j 2))

/-- The key rows after the call. -/
theorem reg1_k (c : Dev nD) : (dat1 V c).arrAt 3 cfg1.N
    = prodKV (V c (Pipeline.arrRef spec1 1)) (V c (Pipeline.arrRef spec1 0)) := by
  refine (dat1 V c).arrAt_eq_of_covers 3 _ (by decide +kernel) fun t _ y => ?_
  blk_simp
  rw [after1_3]; frame_out
  idx_vars y
  obtain rfl : y0 = 0 := Subsingleton.elim _ _
  refine (pay_k _ _ y1 y2).trans ?_
  unfold prodKV
  blk_point [iblk1, idx1 t]

/-- The value rows after the call. -/
theorem reg1_v (c : Dev nD) : (dat1 V c).arrAt 4 cfg1.N
    = prodKV (V c (Pipeline.arrRef spec1 2)) (V c (Pipeline.arrRef spec1 0)) := by
  refine (dat1 V c).arrAt_eq_of_covers 4 _ (by decide +kernel) fun t _ y => ?_
  blk_simp
  rw [after1_4]; frame_out
  idx_vars y
  obtain rfl : y0 = 0 := Subsingleton.elim _ _
  refine (pay_v _ _ y1 y2).trans ?_
  unfold prodKV
  blk_point [iblk1, idx1 t]

end Cert.KernelIdeal.Val

end

end
-- ==== Proof.PayHead.lean ====
/-
  One head of the attention call, as the body computes it over five column chunks, read at an index: the quotient of the
  exponential-weighted sum of a value row by the same sum of row 32 (the row of ones).
-/
module

public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.KernelIdeal.Val
open Cert.KernelIdeal Cert.KernelIdeal.Gen

/-- One chunk added to the running sums: the exponentials of the scores against the chunk's value rows. -/
def headStep (q : FVec Ideal S392x32 .f32) (acc : FVec Ideal S392x40 .f32) (k : FVec Ideal S1x32x640 .f32)
    (v : FVec Ideal S1x40x640 .f32) : FVec Ideal S392x40 .f32 :=
  addf acc (matmul dot_S392x640_S40x640_S392x40_1_1_0_0_n_n none
    (exp (matmul dot_S392x32_S32x640_S392x640_1_0_0_1_n_n none q (shapeCast S32x640 k shapeCasts_S1x32x640_S32x640)
      (constant S392x640 .f32 0x00000000#32)))
    (shapeCast S40x640 v shapeCasts_S1x40x640_S40x640) (constant S392x40 .f32 0x00000000#32))

/-- The running sums after the five chunks. -/
def headAcc (q : FVec Ideal S1x392x32 .f32) (k0 k1 k2 k3 k4 : FVec Ideal S1x32x640 .f32)
    (v0 v1 v2 v3 v4 : FVec Ideal S1x40x640 .f32) : FVec Ideal S392x40 .f32 :=
  let qs := shapeCast S392x32 q shapeCasts_S1x392x32_S392x32
  headStep qs (headStep qs (headStep qs (headStep qs (headStep qs (broadcast S392x40 (Scalar.ofBits .f32 0x00000000#32))
    k0 v0) k1 v1) k2 v2) k3 v3) k4 v4

/-- The head's output rows: the first 32 columns of the sums over column 32. -/
def headOut (q : FVec Ideal S1x392x32 .f32) (k0 k1 k2 k3 k4 : FVec Ideal S1x32x640 .f32)
    (v0 v1 v2 v3 v4 : FVec Ideal S1x40x640 .f32) : FVec Ideal S392x32 .f32 :=
  divf (extractStridedSlice S392x32 ![0, 0] (headAcc q k0 k1 k2 k3 k4 v0 v1 v2 v3 v4) slices_S392x40_o0_0_S392x32)
    (broadcastTo S392x32 (extractStridedSlice S392x1 ![0, 32] (headAcc q k0 k1 k2 k3 k4 v0 v1 v2 v3 v4) slices_S392x40_o0_32_S392x1)
      broadcasts_S392x1_S392x32)

/-- A chunk's contribution at an index. -/
theorem headStep_at (q : FVec Ideal S392x32 .f32) (acc : FVec Ideal S392x40 .f32) (k : FVec Ideal S1x32x640 .f32)
    (v : FVec Ideal S1x40x640 .f32) (i : Fin 392) (j : Fin 40) :
    headStep q acc k v (ix2 i j) = acc (ix2 i j)
      + ∑ m : Fin 640, Ideal.exp (∑ e : Fin 32, q (ix2 i e) * k (ix3 0 e m)) * v (ix3 0 j m) := by
  pointwise [headStep]

/-- The weighted sum of row `j` of the values of head `h`, over all the columns. -/
def accB (x0 : FVec Ideal S8x392x32 .f32) (x1 : FVec Ideal S8x32x3200 .f32) (x2 : FVec Ideal S8x40x3200 .f32)
    (h : Fin 8) (i : Fin 392) (j : Fin 40) : EReal :=
  ∑ m : Fin 3200, Ideal.exp (∑ e : Fin 32, x0 (ix3 h i e) * x1 (ix3 h e m)) * x2 (ix3 h j m)

/-- The running sums, when the loaded pieces are head `h`'s rows cut into five chunks of columns. -/
theorem headAcc_at (x0 : FVec Ideal S8x392x32 .f32) (x1 : FVec Ideal S8x32x3200 .f32) (x2 : FVec Ideal S8x40x3200 .f32)
    (h : Fin 8) (q : FVec Ideal S1x392x32 .f32) (k0 k1 k2 k3 k4 : FVec Ideal S1x32x640 .f32)
    (v0 v1 v2 v3 v4 : FVec Ideal S1x40x640 .f32)
    (hq : ∀ i e, q (ix3 0 i e) = x0 (ix3 h i e))
    (hk0 : ∀ e (m : Fin 640), k0 (ix3 0 e m) = x1 (ix3 h e ⟨0 * 640 + m, by omega⟩))
    (hk1 : ∀ e (m : Fin 640), k1 (ix3 0 e m) = x1 (ix3 h e ⟨1 * 640 + m, by omega⟩))
    (hk2 : ∀ e (m : Fin 640), k2 (ix3 0 e m) = x1 (ix3 h e ⟨2 * 640 + m, by omega⟩))
    (hk3 : ∀ e (m : Fin 640), k3 (ix3 0 e m) = x1 (ix3 h e ⟨3 * 640 + m, by omega⟩))
    (hk4 : ∀ e (m : Fin 640), k4 (ix3 0 e m) = x1 (ix3 h e ⟨4 * 640 + m, by omega⟩))
    (hv0 : ∀ e (m : Fin 640), v0 (ix3 0 e m) = x2 (ix3 h e ⟨0 * 640 + m, by omega⟩))
    (hv1 : ∀ e (m : Fin 640), v1 (ix3 0 e m) = x2 (ix3 h e ⟨1 * 640 + m, by omega⟩))
    (hv2 : ∀ e (m : Fin 640), v2 (ix3 0 e m) = x2 (ix3 h e ⟨2 * 640 + m, by omega⟩))
    (hv3 : ∀ e (m : Fin 640), v3 (ix3 0 e m) = x2 (ix3 h e ⟨3 * 640 + m, by omega⟩))
    (hv4 : ∀ e (m : Fin 640), v4 (ix3 0 e m) = x2 (ix3 h e ⟨4 * 640 + m, by omega⟩))
    (i : Fin 392) (j : Fin 40) :
    headAcc q k0 k1 k2 k3 k4 v0 v1 v2 v3 v4 (ix2 i j) = accB x0 x1 x2 h i j := by
  have hqs : ∀ e, (shapeCast S392x32 q shapeCasts_S1x392x32_S392x32 : FVec Ideal S392x32 .f32) (ix2 i e) = x0 (ix3 h i e) := by
    intro e; rw [← hq]; pointwise
  have hz : (broadcast S392x40 (Scalar.ofBits .f32 0x00000000#32) : FVec Ideal S392x40 .f32) (ix2 i j) = 0 := by pointwise
  unfold headAcc
  simp only [headStep_at, hqs, hz, hk0, hk1, hk2, hk3, hk4, hv0, hv1, hv2, hv3, hv4]
  unfold accB
  rw [Fin.sum_univ_tiles 5 640 rfl]
  simp only [Fin.sum_univ_five]
  rw [zero_add]
  rfl

/-- The head's output at an index, from its running sums. -/
theorem headOut_at (q : FVec Ideal S1x392x32 .f32) (k0 k1 k2 k3 k4 : FVec Ideal S1x32x640 .f32)
    (v0 v1 v2 v3 v4 : FVec Ideal S1x40x640 .f32) (i : Fin 392) (d : Fin 32) :
    headOut q k0 k1 k2 k3 k4 v0 v1 v2 v3 v4 (ix2 i d)
      = Ideal.div (headAcc q k0 k1 k2 k3 k4 v0 v1 v2 v3 v4 (ix2 i ⟨d, by omega⟩)) (headAcc q k0 k1 k2 k3 k4 v0 v1 v2 v3 v4 (ix2 i 32)) := by
  pointwise [headOut]

end Cert.KernelIdeal.Val

end

end
-- ==== Proof.RegB.lean ====
/-
  The attention call: its result array at an index.
-/
module

public import proofs.«01_k».proof.Proof.PayHead
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val
open Cert.KernelIdeal Cert.KernelIdeal.Gen

/-- A loaded piece of head `a`'s query rows at an index. -/
theorem ldQ (x : FVec Ideal S8x392x32 .f32) (a : ℕ) (hin) (h : Fin 8) (ha : a = h.val) (i : Fin 392) (e : Fin 32) :
    View.ld (Val := Elt Ideal) (e' := .f32) x (Rect.unit (s := S8x392x32) ![a, 0, 0] S1x392x32.size hin) (ix3 0 i e) = x (ix3 h i e) := by
  subst ha; pointwise
/-- A loaded chunk of head `a`'s key rows at an index. -/
theorem ldK (x : FVec Ideal S8x32x3200 .f32) (a b : ℕ) (hin) (h : Fin 8) (ha : a = h.val) (e : Fin 32) (m : Fin 640) (p : Fin 3200)
    (hp : p.val = b + m.val) :
    View.ld (Val := Elt Ideal) (e' := .f32) x (Rect.unit (s := S8x32x3200) ![a, 0, b] S1x32x640.size hin) (ix3 0 e m) = x (ix3 h e p) := by
  subst ha
  obtain ⟨p, hpp⟩ := p
  obtain rfl : p = b + m.val := hp
  pointwise
/-- A loaded chunk of head `a`'s value rows at an index. -/
theorem ldV (x : FVec Ideal S8x40x3200 .f32) (a b : ℕ) (hin) (h : Fin 8) (ha : a = h.val) (e : Fin 40) (m : Fin 640) (p : Fin 3200)
    (hp : p.val = b + m.val) :
    View.ld (Val := Elt Ideal) (e' := .f32) x (Rect.unit (s := S8x40x3200) ![a, 0, b] S1x40x640.size hin) (ix3 0 e m) = x (ix3 h e p) := by
  subst ha
  obtain ⟨p, hpp⟩ := p
  obtain rfl : p = b + m.val := hp
  pointwise

/-- Head `h`'s output rows, from the loaded pieces. -/
theorem hval (x0 : FVec Ideal S8x392x32 .f32) (x1 : FVec Ideal S8x32x3200 .f32) (x2 : FVec Ideal S8x40x3200 .f32) (h : Fin 8) (a : ℕ) (ha : a = h.val)
    (p0 p1 p2 p3 p4 p5 p6 p7 p8 p9 p10) (i : Fin 392) (d : Fin 32) :
    headOut (View.ld (Val := Elt Ideal) (e' := .f32) x0 (Rect.unit (s := S8x392x32) ![a, 0, 0] S1x392x32.size p0)) (View.ld (Val := Elt Ideal) (e' := .f32) x1 (Rect.unit (s := S8x32x3200) ![a, 0, 0] S1x32x640.size p1)) (View.ld (Val := Elt Ideal) (e' := .f32) x1 (Rect.unit (s := S8x32x3200) ![a, 0, 640] S1x32x640.size p2)) (View.ld (Val := Elt Ideal) (e' := .f32) x1 (Rect.unit (s := S8x32x3200) ![a, 0, 1280] S1x32x640.size p3)) (View.ld (Val := Elt Ideal) (e' := .f32) x1 (Rect.unit (s := S8x32x3200) ![a, 0, 1920] S1x32x640.size p4)) (View.ld (Val := Elt Ideal) (e' := .f32) x1 (Rect.unit (s := S8x32x3200) ![a, 0, 2560] S1x32x640.size p5))
      (View.ld (Val := Elt Ideal) (e' := .f32) x2 (Rect.unit (s := S8x40x3200) ![a, 0, 0] S1x40x640.size p6)) (View.ld (Val := Elt Ideal) (e' := .f32) x2 (Rect.unit (s := S8x40x3200) ![a, 0, 640] S1x40x640.size p7)) (View.ld (Val := Elt Ideal) (e' := .f32) x2 (Rect.unit (s := S8x40x3200) ![a, 0, 1280] S1x40x640.size p8)) (View.ld (Val := Elt Ideal) (e' := .f32) x2 (Rect.unit (s := S8x40x3200) ![a, 0, 1920] S1x40x640.size p9)) (View.ld (Val := Elt Ideal) (e' := .f32) x2 (Rect.unit (s := S8x40x3200) ![a, 0, 2560] S1x40x640.size p10)) (ix2 i d)
      = Ideal.div (accB x0 x1 x2 h i ⟨d, by omega⟩) (accB x0 x1 x2 h i 32) := by
  have hacc := headAcc_at x0 x1 x2 h (View.ld (Val := Elt Ideal) (e' := .f32) x0 (Rect.unit (s := S8x392x32) ![a, 0, 0] S1x392x32.size p0)) (View.ld (Val := Elt Ideal) (e' := .f32) x1 (Rect.unit (s := S8x32x3200) ![a, 0, 0] S1x32x640.size p1)) (View.ld (Val := Elt Ideal) (e' := .f32) x1 (Rect.unit (s := S8x32x3200) ![a, 0, 640] S1x32x640.size p2)) (View.ld (Val := Elt Ideal) (e' := .f32) x1 (Rect.unit (s := S8x32x3200) ![a, 0, 1280] S1x32x640.size p3)) (View.ld (Val := Elt Ideal) (e' := .f32) x1 (Rect.unit (s := S8x32x3200) ![a, 0, 1920] S1x32x640.size p4)) (View.ld (Val := Elt Ideal) (e' := .f32) x1 (Rect.unit (s := S8x32x3200) ![a, 0, 2560] S1x32x640.size p5))
      (View.ld (Val := Elt Ideal) (e' := .f32) x2 (Rect.unit (s := S8x40x3200) ![a, 0, 0] S1x40x640.size p6)) (View.ld (Val := Elt Ideal) (e' := .f32) x2 (Rect.unit (s := S8x40x3200) ![a, 0, 640] S1x40x640.size p7)) (View.ld (Val := Elt Ideal) (e' := .f32) x2 (Rect.unit (s := S8x40x3200) ![a, 0, 1280] S1x40x640.size p8)) (View.ld (Val := Elt Ideal) (e' := .f32) x2 (Rect.unit (s := S8x40x3200) ![a, 0, 1920] S1x40x640.size p9)) (View.ld (Val := Elt Ideal) (e' := .f32) x2 (Rect.unit (s := S8x40x3200) ![a, 0, 2560] S1x40x640.size p10))
    (fun i e => ldQ x0 a p0 h ha i e)
    (fun e m => ldK x1 a 0 p1 h ha e m _ (by simp))
    (fun e m => ldK x1 a 640 p2 h ha e m _ (by simp))
    (fun e m => ldK x1 a 1280 p3 h ha e m _ (by simp))
    (fun e m => ldK x1 a 1920 p4 h ha e m _ (by simp))
    (fun e m => ldK x1 a 2560 p5 h ha e m _ (by simp))
    (fun e m => ldV x2 a 0 p6 h ha e m _ (by simp))
    (fun e m => ldV x2 a 640 p7 h ha e m _ (by simp))
    (fun e m => ldV x2 a 1280 p8 h ha e m _ (by simp))
    (fun e m => ldV x2 a 1920 p9 h ha e m _ (by simp))
    (fun e m => ldV x2 a 2560 p10 h ha e m _ (by simp))
  rw [headOut_at, hacc, hacc]

section heads
variable (q : FVec Ideal S1x392x32 .f32) (k0 k1 k2 k3 k4 : FVec Ideal S1x32x640 .f32)
    (v0 v1 v2 v3 v4 : FVec Ideal S1x40x640 .f32)
/-- Head 0's chain is the head's rows. -/
theorem head0 : k2_pay4 (k2_pay2 q) (k2_pay3 q k0 v0 k1 v1 k2 v2) k3 v3 k4 v4
    = headOut q k0 k1 k2 k3 k4 v0 v1 v2 v3 v4 := rfl
/-- Head 1's chain is the head's rows. -/
theorem head1 : k2_pay10 (k2_pay8 (k2_pay5 q) (k2_pay6 q k0 v0) (k2_pay7 k1) v1 k2 v2 k3 v3 k4 v4) (k2_pay9 (k2_pay5 q) (k2_pay6 q k0 v0) (k2_pay7 k1) v1 k2 v2 k3 v3 k4 v4)
    = headOut q k0 k1 k2 k3 k4 v0 v1 v2 v3 v4 := rfl
/-- Head 2's chain is the head's rows. -/
theorem head2 : k2_pay13 (k2_pay11 q) (k2_pay12 q k0 v0 k1 v1 k2 v2) k3 v3 k4 v4
    = headOut q k0 k1 k2 k3 k4 v0 v1 v2 v3 v4 := rfl
/-- Head 3's chain is the head's rows. -/
theorem head3 : k2_pay18 (k2_pay16 (k2_pay14 q) (k2_pay15 q k0 v0) k1 v1 k2 v2 k3 v3) (k2_pay17 (k2_pay14 q) k4 v4)
    = headOut q k0 k1 k2 k3 k4 v0 v1 v2 v3 v4 := rfl
/-- Head 4's chain is the head's rows. -/
theorem head4 : k2_pay21 (k2_pay19 q) (k2_pay20 q k0 v0 k1 v1 k2 v2) k3 v3 k4 v4
    = headOut q k0 k1 k2 k3 k4 v0 v1 v2 v3 v4 := rfl
/-- Head 5's chain is the head's rows. -/
theorem head5 : k2_pay27 (k2_pay24 (k2_pay22 q) (k2_pay23 q k0 v0) k1 v1 k2 v2 k3 v3) (k2_pay25 (k2_pay22 q) k4) (k2_pay26 v4)
    = headOut q k0 k1 k2 k3 k4 v0 v1 v2 v3 v4 := rfl
/-- Head 6's chain is the head's rows. -/
theorem head6 : k2_pay32 (k2_pay28 q) (k2_pay29 q k0 v0 k1 v1) (k2_pay30 q k2) (k2_pay31 v2) (constant S392x40 FTy.f32 0#32) k3 v3 k4 v4
    = headOut q k0 k1 k2 k3 k4 v0 v1 v2 v3 v4 := rfl

/-- The heads side by side, through the output layer. -/
def outMap (h0 h1 h2 h3 h4 h5 h6 h7 : FVec Ideal S392x32 .f32) (x3 : FVec Ideal S256x256 .f32) (x4 : FVec Ideal S1x256 .f32) : FVec Ideal S392x256 .f32 :=
  addf (matmul dot_S392x256_S256x256_S392x256_1_0_0_1_n_n none
    (concatenate S392x256 1 [⟨S392x32, h0⟩, ⟨S392x32, h1⟩, ⟨S392x32, h2⟩, ⟨S392x32, h3⟩, ⟨S392x32, h4⟩, ⟨S392x32, h5⟩, ⟨S392x32, h6⟩, ⟨S392x32, h7⟩] concatenates_S392x32_S392x32_S392x32_S392x32_S392x32_S392x32_S392x32_S392x32_S392x256_d1)
    (shapeCast S256x256 x3 shapeCasts_S256x256_S256x256) (constant S392x256 .f32 0x00000000#32))
    (broadcastTo S392x256 (shapeCast S1x256 x4 shapeCasts_S1x256_S1x256) broadcasts_S1x256_S392x256)
/-- The last head's chain and the output layer. -/
theorem head7 (h0 h1 h2 h3 h4 h5 h6 : FVec Ideal S392x32 .f32) (x3 : FVec Ideal S256x256 .f32) (x4 : FVec Ideal S1x256 .f32) :
    k2_pay1 h0 h1 h2 h3 h4 h5 h6 (k2_pay36 (k2_pay33 q) k2_pay34 (k2_pay35 q k0 v0) k1 v1 k2 v2 k3 v3) (k2_pay37 (k2_pay33 q) k4) v4 x3 x4
      = outMap h0 h1 h2 h3 h4 h5 h6 (headOut q k0 k1 k2 k3 k4 v0 v1 v2 v3 v4) x3 x4 := rfl
end heads

/-- The output map at an index, when head `h`'s rows are `G h`. -/
theorem outMap_at (h0 h1 h2 h3 h4 h5 h6 h7 : FVec Ideal S392x32 .f32) (x3 : FVec Ideal S256x256 .f32) (x4 : FVec Ideal S1x256 .f32)
    (i : Fin 392) (j : Fin 256) (G : Fin 8 → Fin 32 → EReal)
    (e0 : ∀ d, h0 (ix2 i d) = G 0 d) (e1 : ∀ d, h1 (ix2 i d) = G 1 d) (e2 : ∀ d, h2 (ix2 i d) = G 2 d) (e3 : ∀ d, h3 (ix2 i d) = G 3 d)
    (e4 : ∀ d, h4 (ix2 i d) = G 4 d) (e5 : ∀ d, h5 (ix2 i d) = G 5 d) (e6 : ∀ d, h6 (ix2 i d) = G 6 d) (e7 : ∀ d, h7 (ix2 i d) = G 7 d) :
    outMap h0 h1 h2 h3 h4 h5 h6 h7 x3 x4 (ix2 i j)
      = (∑ h : Fin 8, ∑ d : Fin 32, G h d * x3 (ix2 ⟨h * 32 + d, by omega⟩ j)) + x4 (ix2 0 j) := by
  pointwise [outMap]
  refine congrArg (· + _) ?_
  refine (Fin.sum_univ_tiles 8 32 rfl _).trans ?_
  refine Finset.sum_congr rfl fun h _ => Finset.sum_congr rfl fun d _ => ?_
  refine congrArg (· * _) ?_
  fin_cases h <;> simp (disch := omega) only [Fin.mk_zero, Fin.mk_one, Fin.reduceFinMk, Fin.isValue, dif_pos, dif_neg] <;>
    simp only [e0, e1, e2, e3, e4, e5, e6, e7] <;> refine congrArg _ ?_ <;> apply Fin.ext <;> simp <;> omega

variable (V : (c : Dev nD) → (b : Ref sig .tc) → Buf (Elt Ideal) ((c : Thread nD τ).loc b))

/-- The grid point's block numbers: row block `t` of the queries and of the result, the rest whole. -/
theorem idx2 : ∀ t : Fin cfg2.N, win2_0.index t = ![0, t.val, 0] ∧ win2_1.index t = ![0, 0, 0] ∧ win2_2.index t = ![0, 0, 0]
    ∧ win2_3.index t = ![0, 0] ∧ win2_4.index t = ![0, 0] ∧ win2_5.index t = ![t.val, 0] :=
  (by decide +kernel : ∀ t : Fin grid2.N, _)

/-- The weighted sum of row `j` of head `h`'s values for query position `n`. -/
def accN (q : S8x3136x32.Idx → EReal) (k : S8x32x3200.Idx → EReal) (v : S8x40x3200.Idx → EReal) (h : Fin 8) (n : Fin 3136) (j : Fin 40) : EReal :=
  ∑ m : Fin 3200, Ideal.exp (∑ e : Fin 32, q (ix3 h n e) * k (ix3 h e m)) * v (ix3 h j m)

/-- The attention call's result from its five arrays. -/
def attnOut (q : S8x3136x32.Idx → EReal) (k : S8x32x3200.Idx → EReal) (v : S8x40x3200.Idx → EReal) (w : S256x256.Idx → EReal)
    (b : S1x256.Idx → EReal) : S3136x256.Idx → EReal := fun y =>
  (∑ h : Fin 8, ∑ d : Fin 32, Ideal.div (accN q k v h (y 0) ⟨d, by omega⟩) (accN q k v h (y 0) 32) * w (ix2 ⟨h * 32 + d, by omega⟩ (y 1)))
    + b (ix2 0 (y 1))

theorem blk2_0 (c : Dev nD) (t : Fin cfg2.N) (h : Fin 8) (i : Fin 392) (e : Fin 32) (n : Fin 3136) (hn : n.val = t.val * 392 + i.val) :
    iblk2 V c 0 t (ix3 h i e) = V c main_v34 (ix3 h n e) := by
  blk_ext! [iblk2, idx2 t]
theorem blk2_1 (c : Dev nD) (t : Fin cfg2.N) : iblk2 V c 1 t = V c main_v56_0 := by
  blk_ext! [iblk2, idx2 t]
theorem blk2_2 (c : Dev nD) (t : Fin cfg2.N) : iblk2 V c 2 t = V c main_v56_1 := by
  blk_ext! [iblk2, idx2 t]
theorem blk2_3 (c : Dev nD) (t : Fin cfg2.N) : iblk2 V c 3 t = V c main_v57 := by
  blk_ext! [iblk2, idx2 t]
theorem blk2_4 (c : Dev nD) (t : Fin cfg2.N) : iblk2 V c 4 t = V c main_v58 := by
  blk_ext! [iblk2, idx2 t]

end Cert.KernelIdeal.Val

end

end
-- ==== Proof.RegB2.lean ====
/-
  The attention call: its result array.
-/
module

public import proofs.«01_k».proof.Proof.RegB
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val
open Cert.KernelIdeal Cert.KernelIdeal.Gen

variable (V : (c : Dev nD) → (b : Ref sig .tc) → Buf (Elt Ideal) ((c : Thread nD τ).loc b))

set_option maxHeartbeats 4000000 in
/-- The aligned features after the call. -/
theorem reg2 (c : Dev nD) : (dat2 V c).arrAt 5 cfg2.N
    = attnOut (V c main_v34) (V c main_v56_0) (V c main_v56_1) (V c main_v57) (V c main_v58) := by
  refine (dat2 V c).arrAt_eq_of_covers 5 _ (by decide +kernel) fun t _ y => ?_
  blk_simp
  rw [after2_5]; frame_out
  idx_vars y
  have hN : t.val < 8 := t.isLt
  unfold k2_pay38 k2_pay39 k2_pay40 k2_pay41 k2_pay42 k2_pay43
  rw [head0, head1, head2, head3, head4, head5, head6, head7]
  refine (outMap_at _ _ _ _ _ _ _ _ _ _ y0 y1 (fun h d => Ideal.div (accB (iblk2 V c 0 t) (iblk2 V c 1 t) (iblk2 V c 2 t) h y0 ⟨d, by omega⟩) (accB (iblk2 V c 0 t) (iblk2 V c 1 t) (iblk2 V c 2 t) h y0 32))
    (hval _ _ _ 0 0 rfl _ _ _ _ _ _ _ _ _ _ _ y0)
    (hval _ _ _ 1 1 rfl _ _ _ _ _ _ _ _ _ _ _ y0)
    (hval _ _ _ 2 2 rfl _ _ _ _ _ _ _ _ _ _ _ y0)
    (hval _ _ _ 3 3 rfl _ _ _ _ _ _ _ _ _ _ _ y0)
    (hval _ _ _ 4 4 rfl _ _ _ _ _ _ _ _ _ _ _ y0)
    (hval _ _ _ 5 5 rfl _ _ _ _ _ _ _ _ _ _ _ y0)
    (hval _ _ _ 6 6 rfl _ _ _ _ _ _ _ _ _ _ _ y0)
    (hval _ _ _ 7 7 rfl _ _ _ _ _ _ _ _ _ _ _ y0)).trans ?_
  have hy : ((View.whole main_v59).slice (win2_5.rect t)).emb (ix2 y0 y1) = (ix2 ⟨t.val * 392 + y0.val, by omega⟩ y1 : S3136x256.Idx) := by
    blk_ext [idx2 t]
  have hacc : ∀ h j, accB (iblk2 V c 0 t) (iblk2 V c 1 t) (iblk2 V c 2 t) h y0 j
      = accN (V c main_v34) (V c main_v56_0) (V c main_v56_1) h ⟨t.val * 392 + y0.val, by omega⟩ j := by
    intro h j
    unfold accB accN
    rw [blk2_1, blk2_2]
    simp only [blk2_0 V c t _ y0 _ ⟨t.val * 392 + y0.val, by omega⟩ rfl]
  simp only [hacc]
  rw [blk2_3, blk2_4]
  refine Eq.trans ?_ (congrArg (attnOut _ _ _ _ _) hy).symm
  rfl

end Cert.KernelIdeal.Val

end

end
-- ==== Proof.EntB.lean ====
/-
  The keys, the values and the attention's result that the second and third calls leave.
-/
module

public import proofs.«01_k».proof.Proof.EntA
public import proofs.«01_k».proof.Proof.HostB
public import proofs.«01_k».proof.Proof.HostC
public import proofs.«01_k».proof.Proof.RegKV
public import proofs.«01_k».proof.Proof.RegB2

@[expose] public section

set_option maxRecDepth 16384

noncomputable section

open Idealize.ShloMosaic Idealize.ShloMosaic.TcCoe Idealize.SL.Sem
open Idealize.ShloMosaic.Pipeline (Dat)

namespace Cert.KernelIdeal.Val
open Cert.KernelIdeal Cert.KernelIdeal.Gen

/-- A product over 264 rows of which the last seven are zero. -/
theorem sum264 (w e : Fin 256 → EReal) (b z : EReal) :
    (∑ k : Fin 264, (if h : k.val < 256 then w ⟨k.val, h⟩ else if k.val = 256 then b else 0)
      * (if h : k.val < 256 then e ⟨k.val, h⟩ else if k.val = 256 then z else 0)) = (∑ k : Fin 256, w k * e k) + b * z := by
  refine (Fin.sum_univ_add (a := 256) (b := 8) _).trans (congrArg₂ (· + ·) (Finset.sum_congr rfl fun k _ => ?_) ?_)
  · have hk : (Fin.castAdd 8 k).val < 256 := k.isLt
    simp only [dif_pos hk]
    rfl
  · rw [Fin.sum_univ_eight]
    simp [Fin.natAdd]

/-- A sum over 3200 columns of which those after 3136 are zero. -/
theorem sum3200 (f : Fin 3200 → EReal) (g : Fin 3136 → EReal) (h0 : ∀ m : Fin 3136, f ⟨m.val, by omega⟩ = g m)
    (h1 : ∀ m : Fin 3200, 3136 ≤ m.val → f m = 0) : (∑ m, f m) = ∑ m, g m := by
  refine (Fin.sum_univ_add (a := 3136) (b := 64) _).trans ?_
  rw [Finset.sum_eq_zero (f := fun i : Fin 64 => f (Fin.natAdd 3136 i)) fun i _ => h1 _ (Nat.le_add_right _ _), add_zero]
  exact Finset.sum_congr rfl fun m _ => h0 m

/-- An entry of the key and value product from its row and column. -/
theorem prodKV_model {n : ℕ} (w : (⟨3, ![8, n, 264]⟩ : Shape).Idx → EReal) (e : S264x3200.Idx → EReal) (h : Fin 8) (i : Fin n) (j : Fin 3200)
    (w' e' : Fin 256 → EReal) (b z : EReal)
    (hw : ∀ k : Fin 264, w (ix3 h i k) = if h : k.val < 256 then w' ⟨k.val, h⟩ else if k.val = 256 then b else 0)
    (he : ∀ k : Fin 264, e (ix2 k j) = if h : k.val < 256 then e' ⟨k.val, h⟩ else if k.val = 256 then z else 0) :
    prodKV w e (ix3 h i j) = (∑ k : Fin 256, w' k * e' k) + b * z := by
  show (∑ k : Fin 264, w (ix3 h i k) * e (ix2 k j)) = _
  rw [← sum264]
  exact Finset.sum_congr rfl fun k _ => by rw [hw, he]

/-- A head's sum over the columns from its queries, keys and one row of values. -/
theorem accN_model (q : S8x3136x32.Idx → EReal) (k : S8x32x3200.Idx → EReal) (v : S8x40x3200.Idx → EReal) (h : Fin 8) (n : Fin 3136) (i : Fin 40)
    (Q : Fin 32 → EReal) (K : Fin 32 → Fin 3136 → EReal) (g : Fin 3136 → EReal) (hq : ∀ e, q (ix3 h n e) = Q e)
    (hk : ∀ e (j : Fin 3136), k (ix3 h e ⟨j.val, by omega⟩) = K e j)
    (hv : ∀ j : Fin 3200, v (ix3 h i j) = if hj : j.val < 3136 then g ⟨j.val, hj⟩ else 0) :
    accN q k v h n i = ∑ j : Fin 3136, Ideal.exp (∑ e : Fin 32, Q e * K e j) * g j := by
  unfold accN
  refine sum3200 _ _ (fun j => ?_) (fun j hj => ?_)
  · rw [hv, dif_pos j.isLt]
    simp only [hq, hk]
  · rw [hv, dif_neg (by omega), mul_zero]

/-- The attention's result from the head's sums. -/
theorem attnOut_model (P : Params) (q : S8x3136x32.Idx → EReal) (k : S8x32x3200.Idx → EReal) (v : S8x40x3200.Idx → EReal) (w : S256x256.Idx → EReal)
    (b : S1x256.Idx → EReal) (n : Fin 3136) (o : Fin 256) (hw : ∀ k o, w (ix2 k o) = P.ow o k) (hb : ∀ o, b (ix2 0 o) = P.ob o)
    (hv : ∀ (h : Fin 8) (d : Fin 32), accN q k v h n ⟨d.val, by omega⟩ = ∑ j : Fin 3136, Ideal.exp (scoreK P n h j) * valF P h d j)
    (h1 : ∀ h : Fin 8, accN q k v h n 32 = ∑ j : Fin 3136, Ideal.exp (scoreK P n h j)) :
    attnOut q k v w b (ix2 n o) = align P (attK P) n o := by
  show (∑ h : Fin 8, ∑ d : Fin 32, Ideal.div (accN q k v h n ⟨d.val, by omega⟩) (accN q k v h n 32) * w (ix2 (hd h d) o)) + b (ix2 0 o) = _
  simp only [hw, hb, hv, h1]
  rfl

section
variable (m : (ℓ : Loc nD τ sig) → Buf (Elt Ideal) ℓ) (ρ : Dev nD → PrngReg) (c : Dev nD)

theorem v36_at (k : Fin 256) (n : Fin 3200) : (W14 m ρ c (Proc.devRef .tc main_v36) : S256x3200.Idx → EReal) (ix2 k n)
    = if h : n.val < 3136 then (par m c).enc k (rowOf ⟨n.val, h⟩) (colOf ⟨n.val, h⟩) else (0 : EReal) := by
  rw [W14_of m ρ c main_v36 (by decide), W13_of m ρ c main_v36 (by decide)]
  refine (main_v36_at (W11 m ρ c) k n (main_c_4_at (W10 m ρ c))).trans ?_
  by_cases h : n.val < 3136
  · rw [dif_pos h, dif_pos h]
    refine (main_v35_at (W10 m ρ c) k ⟨n.val, h⟩).trans ?_
    rw [W10_args m ρ c main_arg1 (by decide)]
    rfl
  · rw [dif_neg h, dif_neg h]

theorem v38_at (n : Fin 3200) : (W14 m ρ c (Proc.devRef .tc main_v38) : S1x3200.Idx → EReal) (ix2 0 n)
    = if n.val < 3136 then (1 : EReal) else 0 := by
  refine (main_v38_at (W13 m ρ c) n (main_c_6_at (W12 m ρ c))).trans ?_
  by_cases h : n.val < 3136
  · rw [dif_pos h, if_pos h]
    exact main_v37_at (W12 m ρ c) ⟨n.val, h⟩
  · rw [dif_neg h, if_neg h]

/-- The image with a row of ones below it. -/
theorem v40_at (k : Fin 264) (n : Fin 3200) : (W15 m ρ c (Proc.devRef .tc main_v40) : S264x3200.Idx → EReal) (ix2 k n)
    = if h : k.val < 256 then (fun k => if h : n.val < 3136 then (par m c).enc k (rowOf ⟨n.val, h⟩) (colOf ⟨n.val, h⟩) else (0 : EReal)) ⟨k.val, h⟩
      else if k.val = 256 then (if n.val < 3136 then (1 : EReal) else 0) else (0 : EReal) := by
  refine (main_v40_at (W14 m ρ c) k n).trans ?_
  rw [v38_at]
  by_cases h : k.val < 256
  · rw [dif_pos h, dif_pos h]
    exact v36_at m ρ c ⟨k.val, h⟩ n
  · rw [dif_neg h, dif_neg h]

theorem v45_at (h : Fin 8) (d : Fin 32) (k : Fin 264) : (W15 m ρ c (Proc.devRef .tc main_v45) : S8x32x264.Idx → EReal) (ix3 h d k)
    = if h' : k.val < 256 then (fun k => (par m c).kvw ⟨(hd h d).val, by have := (hd h d).isLt; omega⟩ k) ⟨k.val, h'⟩
      else if k.val = 256 then (par m c).kvb ⟨(hd h d).val, by have := (hd h d).isLt; omega⟩ else (0 : EReal) := by
  refine (main_v45_at (W14 m ρ c) h d k).trans ?_
  rw [W14_args m ρ c main_arg14 (by decide), W14_args m ρ c main_arg15 (by decide)]
  rfl

theorem v55_at (h : Fin 8) (d : Fin 32) (k : Fin 264) : (W15 m ρ c (Proc.devRef .tc main_v55) : S8x40x264.Idx → EReal) (ix3 h ⟨d.val, by omega⟩ k)
    = if h' : k.val < 256 then (fun k => (par m c).kvw ⟨256 + (hd h d).val, by have := (hd h d).isLt; omega⟩ k) ⟨k.val, h'⟩
      else if k.val = 256 then (par m c).kvb ⟨256 + (hd h d).val, by have := (hd h d).isLt; omega⟩ else (0 : EReal) := by
  refine (main_v55_lo (W14 m ρ c) h d k).trans ?_
  rw [W14_args m ρ c main_arg14 (by decide), W14_args m ρ c main_arg15 (by decide)]
  rfl

theorem v55_32 (h : Fin 8) (k : Fin 264) : (W15 m ρ c (Proc.devRef .tc main_v55) : S8x40x264.Idx → EReal) (ix3 h 32 k)
    = if h' : k.val < 256 then (fun _ => (0 : EReal)) (⟨k.val, h'⟩ : Fin 256) else if k.val = 256 then (1 : EReal) else 0 := by
  refine (main_v55_one (W14 m ρ c) h k).trans ?_
  by_cases h1 : k.val < 256
  · rw [dif_pos h1, if_neg (by omega)]
  · rw [dif_neg h1]

/-- The keys. -/
theorem key_at (h : Fin 8) (d : Fin 32) (n : Fin 3136) :
    (W17 m ρ c (Proc.devRef .tc main_v56_0) : S8x32x3200.Idx → EReal) (ix3 h d ⟨n.val, by omega⟩) = keyF (par m c) h d n := by
  rw [W17_of m ρ c main_v56_0 (by decide)]
  refine (congrFun ((W16_arr m ρ c 3).trans (reg1_k (V15 m ρ) c)) (ix3 h d ⟨n.val, by omega⟩)).trans ?_
  refine (prodKV_model _ _ h d ⟨n.val, by omega⟩ (fun k => (par m c).kvw ⟨(hd h d).val, by omega⟩ k) (fun k => if h : (n.val : ℕ) < 3136 then (par m c).enc k (rowOf ⟨n.val, h⟩) (colOf ⟨n.val, h⟩) else (0 : EReal)) ((par m c).kvb ⟨(hd h d).val, by omega⟩) (if (n.val : ℕ) < 3136 then (1 : EReal) else 0) (v45_at m ρ c h d) (fun k => v40_at m ρ c k ⟨n.val, by omega⟩)).trans ?_
  simp only [n.isLt, dif_pos, if_pos, mul_one]
  rfl

/-- The values, zero in the columns after the image's. -/
theorem val_at (h : Fin 8) (d : Fin 32) (n : Fin 3200) :
    (W17 m ρ c (Proc.devRef .tc main_v56_1) : S8x40x3200.Idx → EReal) (ix3 h ⟨d.val, by omega⟩ n)
      = if hn : n.val < 3136 then valF (par m c) h d ⟨n.val, hn⟩ else (0 : EReal) := by
  rw [W17_of m ρ c main_v56_1 (by decide)]
  refine (congrFun ((W16_arr m ρ c 4).trans (reg1_v (V15 m ρ) c)) (ix3 h ⟨d.val, by omega⟩ n)).trans ?_
  refine (prodKV_model _ _ h ⟨d.val, by omega⟩ n (fun k => (par m c).kvw ⟨256 + (hd h d).val, by omega⟩ k) (fun k => if h : (n.val : ℕ) < 3136 then (par m c).enc k (rowOf ⟨n.val, h⟩) (colOf ⟨n.val, h⟩) else (0 : EReal)) ((par m c).kvb ⟨256 + (hd h d).val, by omega⟩) (if (n.val : ℕ) < 3136 then (1 : EReal) else 0) (v55_at m ρ c h d) (fun k => v40_at m ρ c k n)).trans ?_
  by_cases hn : n.val < 3136
  · simp only [hn, dif_pos, if_pos, mul_one]
    rfl
  · simp only [hn, ↓reduceDIte, ↓reduceIte, mul_zero, Finset.sum_const_zero, add_zero]

/-- The row of ones, zero in the columns after the image's. -/
theorem one_at (h : Fin 8) (n : Fin 3200) :
    (W17 m ρ c (Proc.devRef .tc main_v56_1) : S8x40x3200.Idx → EReal) (ix3 h 32 n)
      = if hn : n.val < 3136 then (fun _ => (1 : EReal)) (⟨n.val, hn⟩ : Fin 3136) else (0 : EReal) := by
  rw [W17_of m ρ c main_v56_1 (by decide)]
  refine (congrFun ((W16_arr m ρ c 4).trans (reg1_v (V15 m ρ) c)) (ix3 h 32 n)).trans ?_
  refine (prodKV_model _ _ h 32 n (fun _ => (0 : EReal)) (fun k => if h : (n.val : ℕ) < 3136 then (par m c).enc k (rowOf ⟨n.val, h⟩) (colOf ⟨n.val, h⟩) else (0 : EReal)) (1 : EReal) (if (n.val : ℕ) < 3136 then (1 : EReal) else 0) (v55_32 m ρ c h) (fun k => v40_at m ρ c k n)).trans ?_
  by_cases hn : n.val < 3136 <;> simp only [hn, ↓reduceDIte, ↓reduceIte, zero_mul, one_mul, Finset.sum_const_zero, zero_add]

/-- The queries by head. -/
theorem query_at (h : Fin 8) (n : Fin 3136) (e : Fin 32) :
    (W17 m ρ c (Proc.devRef .tc main_v34) : S8x3136x32.Idx → EReal) (ix3 h n e) = qK (par m c) n (hd h e) := by
  rw [W17_of m ρ c main_v34 (by decide), W16_of m ρ c main_v34 (by decide), W15_of m ρ c main_v34 (by decide), W14_of m ρ c main_v34 (by decide),
    W13_of m ρ c main_v34 (by decide), W12_of m ρ c main_v34 (by decide)]
  refine (main_v34_at (W10 m ρ c) h n e).trans ?_
  exact q_pix m ρ c (rowOf n) (colOf n) (hd h e)

theorem out_w_at (k o : Fin 256) : (W17 m ρ c (Proc.devRef .tc main_v57) : S256x256.Idx → EReal) (ix2 k o) = (par m c).ow o k := by
  refine (main_v57_at (W16 m ρ c) k o).trans ?_
  rw [W16_args m ρ c main_arg16 (by decide)]
  rfl
theorem out_b_at (o : Fin 256) : (W17 m ρ c (Proc.devRef .tc main_v58) : S1x256.Idx → EReal) (ix2 0 o) = (par m c).ob o := by
  refine (main_v58_at (W16 m ρ c) o).trans ?_
  rw [W16_args m ρ c main_arg17 (by decide)]
  rfl

/-- The attention's result. -/
theorem att_at (n : Fin 3136) (o : Fin 256) :
    (W18 m ρ c (Proc.devRef .tc main_v59) : S3136x256.Idx → EReal) (ix2 n o) = align (par m c) (attK (par m c)) n o := by
  refine (congrFun ((W18_arr m ρ c 5).trans (reg2 (V17 m ρ) c)) (ix2 n o)).trans ?_
  refine attnOut_model (par m c) _ _ _ _ _ n o (out_w_at m ρ c) (out_b_at m ρ c) (fun h d => ?_) (fun h => ?_)
  · exact accN_model _ _ _ h n ⟨d.val, by omega⟩ _ _ _ (query_at m ρ c h n) (key_at m ρ c h) (val_at m ρ c h d)
  · refine (accN_model _ _ _ h n 32 _ _ (fun _ => (1 : EReal)) (query_at m ρ c h n) (key_at m ρ c h) (one_at m ρ c h)).trans ?_
    simp only [mul_one]
    rfl

end

end Cert.KernelIdeal.Val

end

end
-- ==== Proof.EntC.lean ====
/-
  The layer's result, from the launch's arguments.
-/
module

public import proofs.«01_k».proof.Proof.EntB
public import proofs.«01_k».proof.Proof.RegC

@[expose] public section

set_option maxRecDepth 16384

noncomputable section

open Idealize.ShloMosaic Idealize.ShloMosaic.TcCoe Idealize.SL.Sem
open Idealize.ShloMosaic.Pipeline (Dat)

namespace Cert.KernelIdeal.Val
open Cert.KernelIdeal Cert.KernelIdeal.Gen

/-- The last call's array at a pixel from the rows of its two images. -/
theorem convN_model (P : Params) (F G : Fin 256 → Fin 56 → Fin 56 → EReal) (fa fh : S3584x256.Idx → EReal) (w : S9x256x256.Idx → EReal) (b : S1x256.Idx → EReal)
    (hfa : ∀ (i j : Fin 58) (k : Fin 256), fa (ix2 ⟨110 + (i.val * 58 + j.val), by omega⟩ k) = padF F k i j)
    (hfh : ∀ (i j : Fin 58) (k : Fin 256), fh (ix2 ⟨110 + (i.val * 58 + j.val), by omega⟩ k) = padF G k i j)
    (hw : ∀ t k o, w (ix3 t k o) = P.fw o k t) (hb : ∀ o, b (ix2 0 o) = P.fb o) (i j : Fin 56) (o : Fin 256) :
    convN fa fh w b (ix2 (prow i j) o) = fuse P (fun c i j => F c i j + G c i j) o i j := by
  show b (ix2 0 o) + (∑ t : Fin 9, ∑ k : Fin 256, (nb fa (prow i j) t k + nb fh (prow i j) t k) * w (ix3 t k o)) = _
  rw [nb_pix fa F hfa, nb_pix fh G hfh, hb]
  simp only [hw]
  unfold fuse
  refine congrArg (fun x : EReal => P.fb o + x) (Finset.sum_congr rfl fun t _ => Finset.sum_congr rfl fun k _ => ?_)
  refine congrArg (fun x : EReal => x * P.fw o k t) ?_
  unfold tap padF
  split
  · rfl
  · exact add_zero _

section
variable (m : (ℓ : Loc nD τ sig) → Buf (Elt Ideal) ℓ) (ρ : Dev nD → PrngReg) (c : Dev nD)

/-- The attention's result on the padded image. -/
theorem fa_row (a b : Fin 58) (o : Fin 256) :
    (W23 m ρ c (Proc.devRef .tc main_v63) : S3584x256.Idx → EReal) (ix2 ⟨110 + (a.val * 58 + b.val), by omega⟩ o)
      = padF (fun c' i j => align (par m c) (attK (par m c)) (pix i j) c') o a b := by
  rw [W23_of m ρ c main_v63 (by decide)]
  refine (main_v63_at (W21 m ρ c) ⟨a.val * 58 + b.val, by omega⟩ o).trans ?_
  refine (main_v62_at (W20 m ρ c) a b o).trans ?_
  refine (main_v61_at (W19 m ρ c) a b o (main_c_14_at (W18 m ρ c))).trans ?_
  unfold padF
  split
  · refine (main_v60_at (W18 m ρ c) _ _ o).trans ?_
    exact att_at m ρ c _ o
  · rfl

/-- The high pass part on the padded image, as the last call finds it. -/
theorem fh_row3 (a b : Fin 58) (o : Fin 256) :
    (W23 m ρ c (Proc.devRef .tc main_v28_1) : S3584x256.Idx → EReal) (ix2 ⟨110 + (a.val * 58 + b.val), by omega⟩ o)
      = padF (highK (par m c)) o a b := by
  rw [W23_of m ρ c main_v28_1 (by decide), W22_of m ρ c main_v28_1 (by decide), W21_of m ρ c main_v28_1 (by decide), W20_of m ρ c main_v28_1 (by decide),
    W19_of m ρ c main_v28_1 (by decide), W18_of m ρ c main_v28_1 (by decide), W17_of m ρ c main_v28_1 (by decide), W16_of m ρ c main_v28_1 (by decide),
    W15_of m ρ c main_v28_1 (by decide), W14_of m ρ c main_v28_1 (by decide), W13_of m ρ c main_v28_1 (by decide), W12_of m ρ c main_v28_1 (by decide),
    W11_of m ρ c main_v28_1 (by decide)]
  exact fh_row m ρ c a b o

/-- The layer's result at a pixel. -/
theorem out_at (o : Fin 256) (a b : Fin 56) :
    (W25 m ρ c (Proc.devRef .tc main_v74) : S1x256x56x56.Idx → EReal) (ix4 0 o a b) = outK (par m c) o a b := by
  refine (main_v74_at (W24 m ρ c) o a b).trans ?_
  refine (congrFun ((W24_arr m ρ c 4).trans (reg3 (V23 m ρ) c)) (ix2 (prow a b) o)).trans ?_
  refine convN_model (par m c) _ _ _ _ _ _ (fa_row m ρ c) (fh_row3 m ρ c) (fun t k o => (main_v65_at (W22 m ρ c) t k o).trans ?_)
    (fun o => (main_v66_at (W22 m ρ c) o).trans ?_) a b o
  · rw [W22_args m ρ c main_arg18 (by decide)]; rfl
  · rw [W22_args m ρ c main_arg19 (by decide)]; rfl

end

end Cert.KernelIdeal.Val

end

end
-- ==== Proof.Fin.lean ====
/-
  The reference's frame, and the equality of the two results.
-/
module

public import proofs.«01_k».proof.Defs
public import proofs.«01_k».proof.Proof.Gen.ReferenceIdeal.Run
public import proofs.«01_k».proof.Proof.Gen.ReferenceIdeal.Read
public import proofs.«01_k».proof.Proof.Alg2
public import proofs.«01_k».proof.Proof.Pre
public import proofs.«01_k».proof.Proof.RefD
public import proofs.«01_k».proof.Proof.KRun
public import proofs.«01_k».proof.Proof.EntC

@[expose] public section

set_option maxRecDepth 16384

noncomputable section

namespace Cert.Fin

open Idealize.ShloMosaic Idealize.ShloMosaic.TcCoe Idealize.SL.Sem
open Cert.KernelIdeal.Val (parOf par out_at out_eq outK outR IsR Params.Real)

/-- Arguments that are real make real weights and images. -/
theorem real_parOf (x0 : Cert.KernelIdeal.S1x256x56x56.Idx → EReal) (x1 : Cert.KernelIdeal.S1x256x56x56.Idx → EReal) (x2 : Cert.KernelIdeal.S256x1x3x3.Idx → EReal) (x3 : Cert.KernelIdeal.S256.Idx → EReal) (x4 : Cert.KernelIdeal.S128x256.Idx → EReal) (x5 : Cert.KernelIdeal.S128.Idx → EReal) (x6 : Cert.KernelIdeal.S9x128.Idx → EReal) (x7 : Cert.KernelIdeal.S9.Idx → EReal) (x8 : Cert.KernelIdeal.S128x256x3x3.Idx → EReal) (x9 : Cert.KernelIdeal.S128.Idx → EReal) (x10 : Cert.KernelIdeal.S9x128.Idx → EReal) (x11 : Cert.KernelIdeal.S9.Idx → EReal) (x12 : Cert.KernelIdeal.S256x256.Idx → EReal) (x13 : Cert.KernelIdeal.S256.Idx → EReal) (x14 : Cert.KernelIdeal.S512x256.Idx → EReal) (x15 : Cert.KernelIdeal.S512.Idx → EReal) (x16 : Cert.KernelIdeal.S256x256.Idx → EReal) (x17 : Cert.KernelIdeal.S256.Idx → EReal) (x18 : Cert.KernelIdeal.S256x256x3x3.Idx → EReal) (x19 : Cert.KernelIdeal.S256.Idx → EReal)
    (h : (∀ i, IsR (x0 i)) ∧ (∀ i, IsR (x1 i)) ∧ (∀ i, IsR (x2 i)) ∧ (∀ i, IsR (x3 i)) ∧ (∀ i, IsR (x4 i)) ∧ (∀ i, IsR (x5 i)) ∧ (∀ i, IsR (x6 i)) ∧ (∀ i, IsR (x7 i)) ∧ (∀ i, IsR (x8 i)) ∧ (∀ i, IsR (x9 i)) ∧ (∀ i, IsR (x10 i)) ∧ (∀ i, IsR (x11 i)) ∧ (∀ i, IsR (x12 i)) ∧ (∀ i, IsR (x13 i)) ∧ (∀ i, IsR (x14 i)) ∧ (∀ i, IsR (x15 i))) : Params.Real (parOf x0 x1 x2 x3 x4 x5 x6 x7 x8 x9 x10 x11 x12 x13 x14 x15 x16 x17 x18 x19) := by
  obtain ⟨h0, h1, h2, h3, h4, h5, h6, h7, h8, h9, h10, h11, h12, h13, h14, h15⟩ := h
  exact ⟨fun _ _ _ => h0 _, fun _ _ _ => h1 _, fun _ _ => h2 _, fun _ => h3 _, fun _ _ => h4 _, fun _ => h5 _, fun _ _ => h6 _, fun _ => h7 _,
    fun _ _ _ => h8 _, fun _ => h9 _, fun _ _ => h10 _, fun _ => h11 _, fun _ _ => h12 _, fun _ => h13 _, fun _ _ => h14 _, fun _ => h15 _⟩

/-- The kernel's buffer at the end is the reference's function of the kernel's arguments, once these are real. -/
theorem result (m : (ℓ : Loc Cert.KernelIdeal.nD Cert.KernelIdeal.τ Cert.KernelIdeal.sig) → Buf (Elt Ideal) ℓ) (g : Dev Cert.KernelIdeal.nD → PrngReg) (c : Dev Cert.KernelIdeal.nD)
    (h : Params.Real (par m c)) (i : Cert.KernelIdeal.S1x256x56x56.Idx) :
    (Cert.ReferenceIdeal.Read.val_main_v322 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17)) (m ((c : Thread Cert.KernelIdeal.nD Cert.KernelIdeal.τ).loc Cert.KernelIdeal.main_arg18)) (m ((c : Thread Cert.KernelIdeal.nD Cert.KernelIdeal.τ).loc Cert.KernelIdeal.main_arg19)) : Cert.KernelIdeal.S1x256x56x56.Idx → EReal) i
      = (Cert.KernelIdeal.Gen.W25 m g c (Proc.devRef .tc Cert.KernelIdeal.main_v74) : Cert.KernelIdeal.S1x256x56x56.Idx → EReal) i := by
  have e : i = ix4 0 (i 1) (i 2) (i 3) := (eq_ix4 i).trans (congrArg (fun k => ix4 k (i 1) (i 2) (i 3)) (Subsingleton.elim (α := Fin 1) _ _))
  rw [e]
  exact (Cert.ReferenceIdeal.Val.r_v322 _ _ _ _ _ _ _ _ _ _ _ _ _ _ _ _ _ _ _ _ (i 1) (i 2) (i 3)).trans ((out_eq h (i 1) (i 2) (i 3)).symm.trans (out_at m g c (i 1) (i 2) (i 3)).symm)

/-- The reference leaves its arguments as they were. -/
theorem refFrame : Cert.quiescent_ReferenceIdeal (hReferenceIdeal := Cert.ReferenceIdeal.Gen.facts) :=
  fun m g _ => θ_run_mono (Cert.ReferenceIdeal.Value.run m g) fun r h => ⟨fun c => (h c).2, sem_eq_zero_of_no_sems (by decide) r.2⟩

/-- The same of arguments that satisfy the precondition. -/
theorem refFramePre : Cert.quiescent_ReferenceIdeal_pre_finite (hReferenceIdeal := Cert.ReferenceIdeal.Gen.facts) (hPre_finite := Cert.Pre_finite.facts) :=
  fun m g _ => θ_run_mono (Cert.ReferenceIdeal.Value.run m g) fun r h => ⟨fun c => (h c).2, sem_eq_zero_of_no_sems (by decide) r.2⟩

/-- Both programs end with the same result. -/
theorem algebraic : Cert.algebraic_KernelIdeal_ReferenceIdeal_pre_finite (hKernelIdeal := Cert.KernelIdeal.Gen.facts) (hReferenceIdeal := Cert.ReferenceIdeal.Gen.facts)
    (hPre_finite := Cert.Pre_finite.facts) := by
  intro m g m' g' hpre hag
  refine ⟨fun c => Cert.KernelIdeal.Gen.W25 m g c (Proc.devRef .tc Cert.KernelIdeal.main_v74), ?_, ?_⟩
  · exact θ_run_mono (Cert.KernelIdeal.Val.run_all m g) fun r h c => ⟨h c _ (Cert.KernelIdeal.Gen.mem_uc Cert.KernelIdeal.main_v74 (by decide)),
      (h c _ (Cert.KernelIdeal.Gen.mem_uc Cert.KernelIdeal.main_arg0 (by decide))).trans (Cert.KernelIdeal.Gen.W25_main_arg0 m g c),
      (h c _ (Cert.KernelIdeal.Gen.mem_uc Cert.KernelIdeal.main_arg1 (by decide))).trans (Cert.KernelIdeal.Gen.W25_main_arg1 m g c),
      (h c _ (Cert.KernelIdeal.Gen.mem_uc Cert.KernelIdeal.main_arg2 (by decide))).trans (Cert.KernelIdeal.Gen.W25_main_arg2 m g c),
      (h c _ (Cert.KernelIdeal.Gen.mem_uc Cert.KernelIdeal.main_arg3 (by decide))).trans (Cert.KernelIdeal.Gen.W25_main_arg3 m g c),
      (h c _ (Cert.KernelIdeal.Gen.mem_uc Cert.KernelIdeal.main_arg4 (by decide))).trans (Cert.KernelIdeal.Gen.W25_main_arg4 m g c),
      (h c _ (Cert.KernelIdeal.Gen.mem_uc Cert.KernelIdeal.main_arg5 (by decide))).trans (Cert.KernelIdeal.Gen.W25_main_arg5 m g c),
      (h c _ (Cert.KernelIdeal.Gen.mem_uc Cert.KernelIdeal.main_arg6 (by decide))).trans (Cert.KernelIdeal.Gen.W25_main_arg6 m g c),
      (h c _ (Cert.KernelIdeal.Gen.mem_uc Cert.KernelIdeal.main_arg7 (by decide))).trans (Cert.KernelIdeal.Gen.W25_main_arg7 m g c),
      (h c _ (Cert.KernelIdeal.Gen.mem_uc Cert.KernelIdeal.main_arg8 (by decide))).trans (Cert.KernelIdeal.Gen.W25_main_arg8 m g c),
      (h c _ (Cert.KernelIdeal.Gen.mem_uc Cert.KernelIdeal.main_arg9 (by decide))).trans (Cert.KernelIdeal.Gen.W25_main_arg9 m g c),
      (h c _ (Cert.KernelIdeal.Gen.mem_uc Cert.KernelIdeal.main_arg10 (by decide))).trans (Cert.KernelIdeal.Gen.W25_main_arg10 m g c),
      (h c _ (Cert.KernelIdeal.Gen.mem_uc Cert.KernelIdeal.main_arg11 (by decide))).trans (Cert.KernelIdeal.Gen.W25_main_arg11 m g c),
      (h c _ (Cert.KernelIdeal.Gen.mem_uc Cert.KernelIdeal.main_arg12 (by decide))).trans (Cert.KernelIdeal.Gen.W25_main_arg12 m g c),
      (h c _ (Cert.KernelIdeal.Gen.mem_uc Cert.KernelIdeal.main_arg13 (by decide))).trans (Cert.KernelIdeal.Gen.W25_main_arg13 m g c),
      (h c _ (Cert.KernelIdeal.Gen.mem_uc Cert.KernelIdeal.main_arg14 (by decide))).trans (Cert.KernelIdeal.Gen.W25_main_arg14 m g c),
      (h c _ (Cert.KernelIdeal.Gen.mem_uc Cert.KernelIdeal.main_arg15 (by decide))).trans (Cert.KernelIdeal.Gen.W25_main_arg15 m g c),
      (h c _ (Cert.KernelIdeal.Gen.mem_uc Cert.KernelIdeal.main_arg16 (by decide))).trans (Cert.KernelIdeal.Gen.W25_main_arg16 m g c),
      (h c _ (Cert.KernelIdeal.Gen.mem_uc Cert.KernelIdeal.main_arg17 (by decide))).trans (Cert.KernelIdeal.Gen.W25_main_arg17 m g c),
      (h c _ (Cert.KernelIdeal.Gen.mem_uc Cert.KernelIdeal.main_arg18 (by decide))).trans (Cert.KernelIdeal.Gen.W25_main_arg18 m g c),
      (h c _ (Cert.KernelIdeal.Gen.mem_uc Cert.KernelIdeal.main_arg19 (by decide))).trans (Cert.KernelIdeal.Gen.W25_main_arg19 m g c)⟩
  · refine θ_run_mono (Cert.ReferenceIdeal.Value.run m' g') fun r h c => ⟨(h c).1.trans ?_, (h c).2⟩
    have hr : Params.Real (par m c) := real_parOf _ _ _ _ _ _ _ _ _ _ _ _ _ _ _ _ _ _ _ _ (Cert.Pre_finite.real_args _ _ _ _ _ _ _ _ _ _ _ _ _ _ _ _ _ _ _ _ (hpre c))
    refine (Cert.ReferenceIdeal.Read.val_main_v322_eq (StableHlo.launchContents m' c)).trans ?_
    obtain ⟨a0, a1, a2, a3, a4, a5, a6, a7, a8, a9, a10, a11, a12, a13, a14, a15, a16, a17, a18, a19⟩ := hag c
    rw [StableHlo.launchContents_devRef m' c Cert.ReferenceIdeal.main_arg0, StableHlo.launchContents_devRef m' c Cert.ReferenceIdeal.main_arg1, StableHlo.launchContents_devRef m' c Cert.ReferenceIdeal.main_arg2, StableHlo.launchContents_devRef m' c Cert.ReferenceIdeal.main_arg3, StableHlo.launchContents_devRef m' c Cert.ReferenceIdeal.main_arg4, StableHlo.launchContents_devRef m' c Cert.ReferenceIdeal.main_arg5, StableHlo.launchContents_devRef m' c Cert.ReferenceIdeal.main_arg6, StableHlo.launchContents_devRef m' c Cert.ReferenceIdeal.main_arg7, StableHlo.launchContents_devRef m' c Cert.ReferenceIdeal.main_arg8, StableHlo.launchContents_devRef m' c Cert.ReferenceIdeal.main_arg9, StableHlo.launchContents_devRef m' c Cert.ReferenceIdeal.main_arg10, StableHlo.launchContents_devRef m' c Cert.ReferenceIdeal.main_arg11, StableHlo.launchContents_devRef m' c Cert.ReferenceIdeal.main_arg12, StableHlo.launchContents_devRef m' c Cert.ReferenceIdeal.main_arg13, StableHlo.launchContents_devRef m' c Cert.ReferenceIdeal.main_arg14, StableHlo.launchContents_devRef m' c Cert.ReferenceIdeal.main_arg15, StableHlo.launchContents_devRef m' c Cert.ReferenceIdeal.main_arg16, StableHlo.launchContents_devRef m' c Cert.ReferenceIdeal.main_arg17, StableHlo.launchContents_devRef m' c Cert.ReferenceIdeal.main_arg18, StableHlo.launchContents_devRef m' c Cert.ReferenceIdeal.main_arg19]
    rw [a0, a1, a2, a3, a4, a5, a6, a7, a8, a9, a10, a11, a12, a13, a14, a15, a16, a17, a18, a19]
    exact funext fun i => result m g c hr i

end Cert.Fin

end

end
-- ==== Proof.lean ====
/-
  The proof of `Cert.Claim`: the frames of the kernel, of its ideal reading and of the reference, the kernel's kinship
  with its ideal reading, and the equality of the kernel's result with the reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Pre
public import proofs.«01_k».proof.Proof.Fin
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.facts,
  fun m ρ _ => Cert.Kernel.Gen.frame m ρ, fun m ρ _ => Cert.KernelIdeal.Gen.frame m ρ, fun m ρ _ => Cert.KernelIdeal.Gen.frame m ρ,
  Cert.Fin.refFrame, Cert.Fin.refFramePre, trivial, Cert.Fin.algebraic⟩

end Cert.Proof

end
